-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_weights_finite [hPre_weights_finite : Cert.Pre_weights_finite.Facts] (m : (ℓ : Loc Cert.QuantIdeal.nD Cert.QuantIdeal.τ Cert.QuantIdeal.sig) → Buf (Elt Ideal) ℓ) : Prop :=
  ∀ c : Dev Cert.QuantIdeal.nD,
    (Cert.Pre_weights_finite.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1))) = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_weights_finite [hPre_weights_finite : Cert.Pre_weights_finite.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_weights_finite.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1))) = (fun _ => 1#1)

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryIdeal_entry_weights_finite [hPre_entry_weights_finite : Cert.Pre_entry_weights_finite.Facts] (m : (ℓ : Loc Cert.EntryIdeal.nD Cert.EntryIdeal.τ Cert.EntryIdeal.sig) → Buf (Elt Ideal) ℓ) : Prop :=
  ∀ c : Dev Cert.EntryIdeal.nD,
    (Cert.Pre_entry_weights_finite.fn (F := Ideal) (m ((c.tc : Thread Cert.EntryIdeal.nD Cert.EntryIdeal.τ).loc Cert.EntryIdeal.main_arg0)) (m ((c.tc : Thread Cert.EntryIdeal.nD Cert.EntryIdeal.τ).loc Cert.EntryIdeal.main_arg1)) (m ((c.tc : Thread Cert.EntryIdeal.nD Cert.EntryIdeal.τ).loc Cert.EntryIdeal.main_arg2)) (m ((c.tc : Thread Cert.EntryIdeal.nD Cert.EntryIdeal.τ).loc Cert.EntryIdeal.main_arg3)) (m ((c.tc : Thread Cert.EntryIdeal.nD Cert.EntryIdeal.τ).loc Cert.EntryIdeal.main_arg4)) (m ((c.tc : Thread Cert.EntryIdeal.nD Cert.EntryIdeal.τ).loc Cert.EntryIdeal.main_arg5))) = (fun _ => 1#1)

def Pre_EntryReferenceIdeal (m : (ℓ : Loc Cert.EntryReferenceIdeal.nD Cert.EntryReferenceIdeal.τ Cert.EntryReferenceIdeal.sig) → Buf (Elt Ideal) ℓ) : Prop :=
  True

def Pre_EntryReferenceIdeal_entry_weights_finite [hPre_entry_weights_finite : Cert.Pre_entry_weights_finite.Facts] (m : (ℓ : Loc Cert.EntryReferenceIdeal.nD Cert.EntryReferenceIdeal.τ Cert.EntryReferenceIdeal.sig) → Buf (Elt Ideal) ℓ) : Prop :=
  ∀ c : Dev Cert.EntryReferenceIdeal.nD,
    (Cert.Pre_entry_weights_finite.fn (F := Ideal) (m ((c.tc : Thread Cert.EntryReferenceIdeal.nD Cert.EntryReferenceIdeal.τ).loc Cert.EntryReferenceIdeal.main_arg0)) (m ((c.tc : Thread Cert.EntryReferenceIdeal.nD Cert.EntryReferenceIdeal.τ).loc Cert.EntryReferenceIdeal.main_arg1)) (m ((c.tc : Thread Cert.EntryReferenceIdeal.nD Cert.EntryReferenceIdeal.τ).loc Cert.EntryReferenceIdeal.main_arg2)) (m ((c.tc : Thread Cert.EntryReferenceIdeal.nD Cert.EntryReferenceIdeal.τ).loc Cert.EntryReferenceIdeal.main_arg3)) (m ((c.tc : Thread Cert.EntryReferenceIdeal.nD Cert.EntryReferenceIdeal.τ).loc Cert.EntryReferenceIdeal.main_arg4)) (m ((c.tc : Thread Cert.EntryReferenceIdeal.nD Cert.EntryReferenceIdeal.τ).loc Cert.EntryReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantIdeal_pre_weights_finite [hQuantIdeal : Cert.QuantIdeal.Facts] [hPre_weights_finite : Cert.Pre_weights_finite.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_weights_finite m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def quiescent_QuantReferenceIdeal_pre_weights_finite [hQuantReferenceIdeal : Cert.QuantReferenceIdeal.Facts] [hPre_weights_finite : Cert.Pre_weights_finite.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_weights_finite m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3)
      ∧ r.2.mem ((c.tc : Thread Cert.Entry.nD Cert.Entry.τ).loc Cert.Entry.main_arg4) = m ((c.tc : Thread Cert.Entry.nD Cert.Entry.τ).loc Cert.Entry.main_arg4)
      ∧ r.2.mem ((c.tc : Thread Cert.Entry.nD Cert.Entry.τ).loc Cert.Entry.main_arg5) = m ((c.tc : Thread Cert.Entry.nD Cert.Entry.τ).loc Cert.Entry.main_arg5))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
      ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
      ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5))
      ∧ r.2.sem = fun _ => 0)

def quiescent_EntryIdeal_pre_entry_weights_finite [hEntryIdeal : Cert.EntryIdeal.Facts] [hPre_entry_weights_finite : Cert.Pre_entry_weights_finite.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal_entry_weights_finite m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
      ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
      ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5))
      ∧ r.2.sem = fun _ => 0)

def quiescent_EntryReferenceIdeal [hEntryReferenceIdeal : Cert.EntryReferenceIdeal.Facts] : Prop :=
  ∀ (m : (ℓ : Loc Cert.EntryReferenceIdeal.nD Cert.EntryReferenceIdeal.τ Cert.EntryReferenceIdeal.sig) → Buf (Elt Ideal) ℓ) (g : Dev Cert.EntryReferenceIdeal.nD → PrngReg), Pre_EntryReferenceIdeal m →
    θ_run (Cert.EntryReferenceIdeal.defs (F := Ideal)) (onTc (τ := Cert.EntryReferenceIdeal.τ) (Cert.EntryReferenceIdeal.main (F := Ideal))) ⟨m, fun _ => 0, g⟩ (fun r => (∀ c : Dev Cert.EntryReferenceIdeal.nD,
      r.2.mem ((c.tc : Thread Cert.EntryReferenceIdeal.nD Cert.EntryReferenceIdeal.τ).loc Cert.EntryReferenceIdeal.main_arg0) = m ((c.tc : Thread Cert.EntryReferenceIdeal.nD Cert.EntryReferenceIdeal.τ).loc Cert.EntryReferenceIdeal.main_arg0)
      ∧ r.2.mem ((c.tc : Thread Cert.EntryReferenceIdeal.nD Cert.EntryReferenceIdeal.τ).loc Cert.EntryReferenceIdeal.main_arg1) = m ((c.tc : Thread Cert.EntryReferenceIdeal.nD Cert.EntryReferenceIdeal.τ).loc Cert.EntryReferenceIdeal.main_arg1)
      ∧ r.2.mem ((c.tc : Thread Cert.EntryReferenceIdeal.nD Cert.EntryReferenceIdeal.τ).loc Cert.EntryReferenceIdeal.main_arg2) = m ((c.tc : Thread Cert.EntryReferenceIdeal.nD Cert.EntryReferenceIdeal.τ).loc Cert.EntryReferenceIdeal.main_arg2)
      ∧ r.2.mem ((c.tc : Thread Cert.EntryReferenceIdeal.nD Cert.EntryReferenceIdeal.τ).loc Cert.EntryReferenceIdeal.main_arg3) = m ((c.tc : Thread Cert.EntryReferenceIdeal.nD Cert.EntryReferenceIdeal.τ).loc Cert.EntryReferenceIdeal.main_arg3)
      ∧ r.2.mem ((c.tc : Thread Cert.EntryReferenceIdeal.nD Cert.EntryReferenceIdeal.τ).loc Cert.EntryReferenceIdeal.main_arg4) = m ((c.tc : Thread Cert.EntryReferenceIdeal.nD Cert.EntryReferenceIdeal.τ).loc Cert.EntryReferenceIdeal.main_arg4)
      ∧ r.2.mem ((c.tc : Thread Cert.EntryReferenceIdeal.nD Cert.EntryReferenceIdeal.τ).loc Cert.EntryReferenceIdeal.main_arg5) = m ((c.tc : Thread Cert.EntryReferenceIdeal.nD Cert.EntryReferenceIdeal.τ).loc Cert.EntryReferenceIdeal.main_arg5))
      ∧ r.2.sem = fun _ => 0)

def quiescent_EntryReferenceIdeal_pre_entry_weights_finite [hEntryReferenceIdeal : Cert.EntryReferenceIdeal.Facts] [hPre_entry_weights_finite : Cert.Pre_entry_weights_finite.Facts] : Prop :=
  ∀ (m : (ℓ : Loc Cert.EntryReferenceIdeal.nD Cert.EntryReferenceIdeal.τ Cert.EntryReferenceIdeal.sig) → Buf (Elt Ideal) ℓ) (g : Dev Cert.EntryReferenceIdeal.nD → PrngReg), Pre_EntryReferenceIdeal_entry_weights_finite m →
    θ_run (Cert.EntryReferenceIdeal.defs (F := Ideal)) (onTc (τ := Cert.EntryReferenceIdeal.τ) (Cert.EntryReferenceIdeal.main (F := Ideal))) ⟨m, fun _ => 0, g⟩ (fun r => (∀ c : Dev Cert.EntryReferenceIdeal.nD,
      r.2.mem ((c.tc : Thread Cert.EntryReferenceIdeal.nD Cert.EntryReferenceIdeal.τ).loc Cert.EntryReferenceIdeal.main_arg0) = m ((c.tc : Thread Cert.EntryReferenceIdeal.nD Cert.EntryReferenceIdeal.τ).loc Cert.EntryReferenceIdeal.main_arg0)
      ∧ r.2.mem ((c.tc : Thread Cert.EntryReferenceIdeal.nD Cert.EntryReferenceIdeal.τ).loc Cert.EntryReferenceIdeal.main_arg1) = m ((c.tc : Thread Cert.EntryReferenceIdeal.nD Cert.EntryReferenceIdeal.τ).loc Cert.EntryReferenceIdeal.main_arg1)
      ∧ r.2.mem ((c.tc : Thread Cert.EntryReferenceIdeal.nD Cert.EntryReferenceIdeal.τ).loc Cert.EntryReferenceIdeal.main_arg2) = m ((c.tc : Thread Cert.EntryReferenceIdeal.nD Cert.EntryReferenceIdeal.τ).loc Cert.EntryReferenceIdeal.main_arg2)
      ∧ r.2.mem ((c.tc : Thread Cert.EntryReferenceIdeal.nD Cert.EntryReferenceIdeal.τ).loc Cert.EntryReferenceIdeal.main_arg3) = m ((c.tc : Thread Cert.EntryReferenceIdeal.nD Cert.EntryReferenceIdeal.τ).loc Cert.EntryReferenceIdeal.main_arg3)
      ∧ r.2.mem ((c.tc : Thread Cert.EntryReferenceIdeal.nD Cert.EntryReferenceIdeal.τ).loc Cert.EntryReferenceIdeal.main_arg4) = m ((c.tc : Thread Cert.EntryReferenceIdeal.nD Cert.EntryReferenceIdeal.τ).loc Cert.EntryReferenceIdeal.main_arg4)
      ∧ r.2.mem ((c.tc : Thread Cert.EntryReferenceIdeal.nD Cert.EntryReferenceIdeal.τ).loc Cert.EntryReferenceIdeal.main_arg5) = m ((c.tc : Thread Cert.EntryReferenceIdeal.nD Cert.EntryReferenceIdeal.τ).loc Cert.EntryReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Quant_QuantIdeal : Prop :=
  True

def algebraic_QuantIdeal_QuantReferenceIdeal_pre_weights_finite [hQuantIdeal : Cert.QuantIdeal.Facts] [hQuantReferenceIdeal : Cert.QuantReferenceIdeal.Facts] [hPre_weights_finite : Cert.Pre_weights_finite.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal_weights_finite m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def preserves_Entry_EntryIdeal : Prop :=
  True

def algebraic_EntryIdeal_EntryReferenceIdeal_pre_entry_weights_finite [hEntryIdeal : Cert.EntryIdeal.Facts] [hEntryReferenceIdeal : Cert.EntryReferenceIdeal.Facts] [hPre_entry_weights_finite : Cert.Pre_entry_weights_finite.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryReferenceIdeal.nD Cert.EntryReferenceIdeal.τ Cert.EntryReferenceIdeal.sig) → Buf (Elt Ideal) ℓ) (g' : Dev Cert.EntryReferenceIdeal.nD → PrngReg), Pre_EntryIdeal_entry_weights_finite m →
    (∀ c : Dev Cert.EntryIdeal.nD,
      m' ((c.tc : Thread Cert.EntryReferenceIdeal.nD Cert.EntryReferenceIdeal.τ).loc Cert.EntryReferenceIdeal.main_arg0) = m ((c.tc : Thread Cert.EntryIdeal.nD Cert.EntryIdeal.τ).loc Cert.EntryIdeal.main_arg0)
      ∧ m' ((c.tc : Thread Cert.EntryReferenceIdeal.nD Cert.EntryReferenceIdeal.τ).loc Cert.EntryReferenceIdeal.main_arg1) = m ((c.tc : Thread Cert.EntryIdeal.nD Cert.EntryIdeal.τ).loc Cert.EntryIdeal.main_arg1)
      ∧ m' ((c.tc : Thread Cert.EntryReferenceIdeal.nD Cert.EntryReferenceIdeal.τ).loc Cert.EntryReferenceIdeal.main_arg2) = m ((c.tc : Thread Cert.EntryIdeal.nD Cert.EntryIdeal.τ).loc Cert.EntryIdeal.main_arg2)
      ∧ m' ((c.tc : Thread Cert.EntryReferenceIdeal.nD Cert.EntryReferenceIdeal.τ).loc Cert.EntryReferenceIdeal.main_arg3) = m ((c.tc : Thread Cert.EntryIdeal.nD Cert.EntryIdeal.τ).loc Cert.EntryIdeal.main_arg3)
      ∧ m' ((c.tc : Thread Cert.EntryReferenceIdeal.nD Cert.EntryReferenceIdeal.τ).loc Cert.EntryReferenceIdeal.main_arg4) = m ((c.tc : Thread Cert.EntryIdeal.nD Cert.EntryIdeal.τ).loc Cert.EntryIdeal.main_arg4)
      ∧ m' ((c.tc : Thread Cert.EntryReferenceIdeal.nD Cert.EntryReferenceIdeal.τ).loc Cert.EntryReferenceIdeal.main_arg5) = m ((c.tc : Thread Cert.EntryIdeal.nD Cert.EntryIdeal.τ).loc Cert.EntryIdeal.main_arg5)) →
    ∃ (v0 : (c : Dev Cert.EntryIdeal.nD) → Buf (Elt Ideal) ((c.tc : Thread Cert.EntryIdeal.nD Cert.EntryIdeal.τ).loc Cert.EntryIdeal.main_v4_0)) (v1 : (c : Dev Cert.EntryIdeal.nD) → Buf (Elt Ideal) ((c.tc : Thread Cert.EntryIdeal.nD Cert.EntryIdeal.τ).loc Cert.EntryIdeal.main_v4_1)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v4_0) = v0 c
          ∧ r.2.mem ((c.tc : Thread Cert.EntryIdeal.nD Cert.EntryIdeal.τ).loc Cert.EntryIdeal.main_v4_1) = v1 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
          ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
          ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5))
      ∧ θ_run (Cert.EntryReferenceIdeal.defs (F := Ideal)) (onTc (τ := Cert.EntryReferenceIdeal.τ) (Cert.EntryReferenceIdeal.main (F := Ideal))) ⟨m', fun _ => 0, g'⟩ (fun r => ∀ c : Dev Cert.EntryReferenceIdeal.nD,
          r.2.mem ((c.tc : Thread Cert.EntryReferenceIdeal.nD Cert.EntryReferenceIdeal.τ).loc Cert.EntryReferenceIdeal.main_v0_0) = v0 c
          ∧ r.2.mem ((c.tc : Thread Cert.EntryReferenceIdeal.nD Cert.EntryReferenceIdeal.τ).loc Cert.EntryReferenceIdeal.main_v0_1) = v1 c
          ∧ r.2.mem ((c.tc : Thread Cert.EntryReferenceIdeal.nD Cert.EntryReferenceIdeal.τ).loc Cert.EntryReferenceIdeal.main_arg0) = m' ((c.tc : Thread Cert.EntryReferenceIdeal.nD Cert.EntryReferenceIdeal.τ).loc Cert.EntryReferenceIdeal.main_arg0)
          ∧ r.2.mem ((c.tc : Thread Cert.EntryReferenceIdeal.nD Cert.EntryReferenceIdeal.τ).loc Cert.EntryReferenceIdeal.main_arg1) = m' ((c.tc : Thread Cert.EntryReferenceIdeal.nD Cert.EntryReferenceIdeal.τ).loc Cert.EntryReferenceIdeal.main_arg1)
          ∧ r.2.mem ((c.tc : Thread Cert.EntryReferenceIdeal.nD Cert.EntryReferenceIdeal.τ).loc Cert.EntryReferenceIdeal.main_arg2) = m' ((c.tc : Thread Cert.EntryReferenceIdeal.nD Cert.EntryReferenceIdeal.τ).loc Cert.EntryReferenceIdeal.main_arg2)
          ∧ r.2.mem ((c.tc : Thread Cert.EntryReferenceIdeal.nD Cert.EntryReferenceIdeal.τ).loc Cert.EntryReferenceIdeal.main_arg3) = m' ((c.tc : Thread Cert.EntryReferenceIdeal.nD Cert.EntryReferenceIdeal.τ).loc Cert.EntryReferenceIdeal.main_arg3)
          ∧ r.2.mem ((c.tc : Thread Cert.EntryReferenceIdeal.nD Cert.EntryReferenceIdeal.τ).loc Cert.EntryReferenceIdeal.main_arg4) = m' ((c.tc : Thread Cert.EntryReferenceIdeal.nD Cert.EntryReferenceIdeal.τ).loc Cert.EntryReferenceIdeal.main_arg4)
          ∧ r.2.mem ((c.tc : Thread Cert.EntryReferenceIdeal.nD Cert.EntryReferenceIdeal.τ).loc Cert.EntryReferenceIdeal.main_arg5) = m' ((c.tc : Thread Cert.EntryReferenceIdeal.nD Cert.EntryReferenceIdeal.τ).loc Cert.EntryReferenceIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hQuant : Cert.Quant.Facts) (hQuantIdeal : Cert.QuantIdeal.Facts) (hQuantReferenceIdeal : Cert.QuantReferenceIdeal.Facts) (hEntry : Cert.Entry.Facts) (hEntryIdeal : Cert.EntryIdeal.Facts) (hEntryReferenceIdeal : Cert.EntryReferenceIdeal.Facts) (hPre_weights_finite : Cert.Pre_weights_finite.Facts) (hPre_entry_weights_finite : Cert.Pre_entry_weights_finite.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Quant (hQuant := hQuant)
    ∧ quiescent_QuantIdeal (hQuantIdeal := hQuantIdeal)
    ∧ quiescent_QuantIdeal_pre_weights_finite (hQuantIdeal := hQuantIdeal) (hPre_weights_finite := hPre_weights_finite)
    ∧ quiescent_QuantReferenceIdeal (hQuantReferenceIdeal := hQuantReferenceIdeal)
    ∧ quiescent_QuantReferenceIdeal_pre_weights_finite (hQuantReferenceIdeal := hQuantReferenceIdeal) (hPre_weights_finite := hPre_weights_finite)
    ∧ quiescent_Entry (hEntry := hEntry)
    ∧ quiescent_EntryIdeal (hEntryIdeal := hEntryIdeal)
    ∧ quiescent_EntryIdeal_pre_entry_weights_finite (hEntryIdeal := hEntryIdeal) (hPre_entry_weights_finite := hPre_entry_weights_finite)
    ∧ quiescent_EntryReferenceIdeal (hEntryReferenceIdeal := hEntryReferenceIdeal)
    ∧ quiescent_EntryReferenceIdeal_pre_entry_weights_finite (hEntryReferenceIdeal := hEntryReferenceIdeal) (hPre_entry_weights_finite := hPre_entry_weights_finite)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
    ∧ preserves_Quant_QuantIdeal
    ∧ algebraic_QuantIdeal_QuantReferenceIdeal_pre_weights_finite (hQuantIdeal := hQuantIdeal) (hQuantReferenceIdeal := hQuantReferenceIdeal) (hPre_weights_finite := hPre_weights_finite)
    ∧ preserves_Entry_EntryIdeal
    ∧ algebraic_EntryIdeal_EntryReferenceIdeal_pre_entry_weights_finite (hEntryIdeal := hEntryIdeal) (hEntryReferenceIdeal := hEntryReferenceIdeal) (hPre_entry_weights_finite := hPre_entry_weights_finite)
-- ==== Pre_entry_weights_finite.lean ====
abbrev S1x128x2048 : Shape := ⟨3, ![1, 128, 2048]⟩
abbrev S1x128x16 : Shape := ⟨3, ![1, 128, 16]⟩
abbrev S128x2048 : Shape := ⟨2, ![128, 2048]⟩
abbrev S128x16 : Shape := ⟨2, ![128, 16]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S1x128x2048 .fp8e4m3) (main_arg1 : FVec F S1x128x16 .f32) (main_arg2 : FVec F S128x2048 .f32) (main_arg3 : FVec F S128x16 .f32) (main_arg4 : FVec F S2048 .f32) (main_arg5 : FVec F S2048 .f32) : IVec S_ 1 :=
  let main_v0 : FVec F S2048 .f32 := Host.absf main_arg4
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_c : IVec S_ 1 := constantI S_ 1 1#1
  let main_v3 : IVec S_ 1 := (fun x v => Host.reduce IntOp.andi x v reducesTo_S2048_S_d0 h_S_) main_v2 main_c
  let main_v4 : FVec F S2048 .f32 := Host.absf main_arg5
  let main_cst_0 : FVec F S_ .f32 := constant S_ .f32 0x7F7FFFFF#32
  let main_v5 : FVec F S2048 .f32 := broadcastInDim S2048 ![] bcast_S_S2048 main_cst_0
  let main_v6 : IVec S2048 1 := cmpf .ole main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Pre_weights_finite.lean ====
abbrev S128x2048 : Shape := ⟨2, ![128, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S128x2048 .f32) (main_arg1 : FVec F S2048 .f32) : IVec S_ 1 :=
  let main_v0 : FVec F S2048 .f32 := Host.absf main_arg1
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_c : IVec S_ 1 := constantI S_ 1 1#1
  let main_v3 : IVec S_ 1 := (fun x v => Host.reduce IntOp.andi x v reducesTo_S2048_S_d0 h_S_) main_v2 main_c
  main_v3
-- ==== Kernel.lean ====
abbrev S1x129 : Shape := ⟨2, ![1, 129]⟩
abbrev S1x128x2048 : Shape := ⟨3, ![1, 128, 2048]⟩
abbrev S1x128x16 : Shape := ⟨3, ![1, 128, 16]⟩
abbrev S2048x129280 : Shape := ⟨2, ![2048, 129280]⟩
abbrev S16x1010 : Shape := ⟨2, ![16, 1010]⟩
abbrev S128x2048 : Shape := ⟨2, ![128, 2048]⟩
abbrev S128x16 : Shape := ⟨2, ![128, 16]⟩
abbrev S1x128 : Shape := ⟨2, ![1, 128]⟩
abbrev S128x128 : Shape := ⟨2, ![128, 128]⟩
abbrev S8x2048x1280 : Shape := ⟨3, ![8, 2048, 1280]⟩
abbrev S8 : Shape := ⟨1, ![8]⟩
abbrev S1x1 : Shape := ⟨2, ![1, 1]⟩
abbrev S1 : Shape := ⟨1, ![1]⟩
abbrev S_ : Shape := ⟨0, ![]⟩
abbrev S1x2048x1280 : Shape := ⟨3, ![1, 2048, 1280]⟩
abbrev S2048x1280 : Shape := ⟨2, ![2048, 1280]⟩
abbrev S128x1 : Shape := ⟨2, ![128, 1]⟩
abbrev S128x256 : Shape := ⟨2, ![128, 256]⟩
abbrev S1x256x256 : Shape := ⟨3, ![1, 256, 256]⟩
abbrev S256x256 : Shape := ⟨2, ![256, 256]⟩
abbrev S128 : Shape := ⟨1, ![128]⟩

abbrev nBuf : Space → Nat
  | .hbm => 8
  | .vmem => 6
  | .smem => 2
  | _ => 0

abbrev bufTy : (tb : Table) → Fin (tcTables nBuf tb) → BufTy
  | .hbm, ⟨0, _⟩ => ⟨S1x129, .i32⟩
  | .hbm, ⟨1, _⟩ => ⟨S1x128x2048, .fp8e4m3⟩
  | .hbm, ⟨2, _⟩ => ⟨S1x128x16, .f32⟩
  | .hbm, ⟨3, _⟩ => ⟨S2048x129280, .fp8e4m3⟩
  | .hbm, ⟨4, _⟩ => ⟨S16x1010, .f32⟩
  | .hbm, ⟨5, _⟩ => ⟨S128x2048, .fp8e4m3⟩
  | .hbm, ⟨6, _⟩ => ⟨S128x16, .f32⟩
  | .hbm, ⟨7, _⟩ => ⟨S1x128, .f32⟩
  | .local _ .vmem, ⟨0, _⟩ => ⟨S128x2048, .fp8e4m3⟩
  | .local _ .vmem, ⟨1, _⟩ => ⟨S128x16, .f32⟩
  | .local _ .vmem, ⟨2, _⟩ => ⟨S1x128, .f32⟩
  | .local _ .vmem, ⟨3, _⟩ => ⟨S128x2048, .bf16⟩
  | .local _ .vmem, ⟨4, _⟩ => ⟨S128x128, .i32⟩
  | .local _ .vmem, ⟨5, _⟩ => ⟨S8x2048x1280, .fp8e4m3⟩
  | .local _ .smem, ⟨0, _⟩ => ⟨S1x129, .i32⟩
  | .local _ .smem, ⟨1, _⟩ => ⟨S16x1010, .f32⟩
  | _, _ => ⟨S1x129, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 2 → Nat :=
  let c0_113 : Index := 0#32
  let c0_i32 : BitVec 32 := 0#32
  let c1_i32 : BitVec 32 := 1#32
  let arg10 : BitVec 32 := Scf.iv c0_i32 c1_i32 k0_t1
  let c1_i32_112 : BitVec 32 := 1#32
  let v243 : BitVec 32 := Scalar.addi arg10 c1_i32_112
  let v244 : Index := Scalar.indexCast v243
  ![0, v244.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let v247 : Index := Scalar.indexCast arg10
  let c0_114 : Index := 0#32
  ![v247.toNat, 0]
@[reducible] def k0_t2_loop : Scf.Loop 32 :=
  let c0_i32_103 : BitVec 32 := 0#32
  let c101_i32 : BitVec 32 := 101#32
  let v221 : BitVec 32 := Scalar.addi c0_i32_103 c101_i32
  let c1_i32_104 : BitVec 32 := 1#32
  ⟨c0_i32_103, v221, c1_i32_104⟩
def k0_off3 (k0_t2 : Fin k0_t2_loop.trips) : Fin 1 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  ![v243.toNat]
def k0_off4 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let c0_i32_113 : BitVec 32 := 0#32
  let c0_i32_114 : BitVec 32 := 0#32
  ![v243.toNat, 0, 0]
def k0_off5 (k0_t2 : Fin k0_t2_loop.trips) : Fin 2 → Nat :=
  let c0_i32_115 : BitVec 32 := 0#32
  let c0_i32_103 : BitVec 32 := 0#32
  let c1_i32_104 : BitVec 32 := 1#32
  let arg10 : BitVec 32 := Scf.iv c0_i32_103 c1_i32_104 k0_t2
  let c1280_i32_112 : BitVec 32 := 1280#32
  let v244 : BitVec 32 := Scalar.muli arg10 c1280_i32_112
  ![0, v244.toNat]
def k0_off6 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v251 : Index := Scalar.indexCast v243
  let c0_117 : Index := 0#32
  let c0_118 : Index := 0#32
  ![v251.toNat, 0, 0]
def k0_off7 (k0_t2 : Fin k0_t2_loop.trips) (c0_i32_119 : BitVec 32) (c0_i32_120 : BitVec 32) : Fin 2 → Nat :=
  let c0_121 : Index := 0#32
  let c0_i32_103 : BitVec 32 := 0#32
  let c1_i32_104 : BitVec 32 := 1#32
  let arg10 : BitVec 32 := Scf.iv c0_i32_103 c1_i32_104 k0_t2
  let c10_i32 : BitVec 32 := 10#32
  let v254 : BitVec 32 := Scalar.muli arg10 c10_i32
  let v255 : BitVec 32 := Scalar.addi v254 c0_i32_119
  let v257 : BitVec 32 := Scalar.addi v255 c0_i32_120
  let v258 : Index := Scalar.indexCast v257
  ![0, v258.toNat]
def k0_off8 (k0_t2 : Fin k0_t2_loop.trips) (c0_i32_119 : BitVec 32) (c0_i32_124 : BitVec 32) : Fin 2 → Nat :=
  let c1_125 : Index := 1#32
  let c0_i32_103 : BitVec 32 := 0#32
  let c1_i32_104 : BitVec 32 := 1#32
  let arg10 : BitVec 32 := Scf.iv c0_i32_103 c1_i32_104 k0_t2
  let c10_i32 : BitVec 32 := 10#32
  let v254 : BitVec 32 := Scalar.muli arg10 c10_i32
  let v255 : BitVec 32 := Scalar.addi v254 c0_i32_119
  let v272 : BitVec 32 := Scalar.addi v255 c0_i32_124
  let v273 : Index := Scalar.indexCast v272
  ![1, v273.toNat]
def k0_off9 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v291 : Index := Scalar.indexCast v243
  let c256_131 : Index := 256#32
  let c0_132 : Index := 0#32
  ![v291.toNat, 256, 0]
def k0_off10 (k0_t2 : Fin k0_t2_loop.trips) (c0_i32_134 : BitVec 32) (c0_i32_135 : BitVec 32) : Fin 2 → Nat :=
  let c2_136 : Index := 2#32
  let c0_i32_103 : BitVec 32 := 0#32
  let c1_i32_104 : BitVec 32 := 1#32
  let arg10 : BitVec 32 := Scf.iv c0_i32_103 c1_i32_104 k0_t2
  let c10_i32_133 : BitVec 32 := 10#32
  let v294 : BitVec 32 := Scalar.muli arg10 c10_i32_133
  let v295 : BitVec 32 := Scalar.addi v294 c0_i32_134
  let v297 : BitVec 32 := Scalar.addi v295 c0_i32_135
  let v298 : Index := Scalar.indexCast v297
  ![2, v298.toNat]
def k0_off11 (k0_t2 : Fin k0_t2_loop.trips) (c0_i32_134 : BitVec 32) (c0_i32_139 : BitVec 32) : Fin 2 → Nat :=
  let c3_140 : Index := 3#32
  let c0_i32_103 : BitVec 32 := 0#32
  let c1_i32_104 : BitVec 32 := 1#32
  let arg10 : BitVec 32 := Scf.iv c0_i32_103 c1_i32_104 k0_t2
  let c10_i32_133 : BitVec 32 := 10#32
  let v294 : BitVec 32 := Scalar.muli arg10 c10_i32_133
  let v295 : BitVec 32 := Scalar.addi v294 c0_i32_134
  let v312 : BitVec 32 := Scalar.addi v295 c0_i32_139
  let v313 : Index := Scalar.indexCast v312
  ![3, v313.toNat]
def k0_off12 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v331 : Index := Scalar.indexCast v243
  let c512_146 : Index := 512#32
  let c0_147 : Index := 0#32
  ![v331.toNat, 512, 0]
def k0_off13 (k0_t2 : Fin k0_t2_loop.trips) (c0_i32_149 : BitVec 32) (c0_i32_150 : BitVec 32) : Fin 2 → Nat :=
  let c4_151 : Index := 4#32
  let c0_i32_103 : BitVec 32 := 0#32
  let c1_i32_104 : BitVec 32 := 1#32
  let arg10 : BitVec 32 := Scf.iv c0_i32_103 c1_i32_104 k0_t2
  let c10_i32_148 : BitVec 32 := 10#32
  let v334 : BitVec 32 := Scalar.muli arg10 c10_i32_148
  let v335 : BitVec 32 := Scalar.addi v334 c0_i32_149
  let v337 : BitVec 32 := Scalar.addi v335 c0_i32_150
  let v338 : Index := Scalar.indexCast v337
  ![4, v338.toNat]
def k0_off14 (k0_t2 : Fin k0_t2_loop.trips) (c0_i32_149 : BitVec 32) (c0_i32_154 : BitVec 32) : Fin 2 → Nat :=
  let c5_155 : Index := 5#32
  let c0_i32_103 : BitVec 32 := 0#32
  let c1_i32_104 : BitVec 32 := 1#32
  let arg10 : BitVec 32 := Scf.iv c0_i32_103 c1_i32_104 k0_t2
  let c10_i32_148 : BitVec 32 := 10#32
  let v334 : BitVec 32 := Scalar.muli arg10 c10_i32_148
  let v335 : BitVec 32 := Scalar.addi v334 c0_i32_149
  let v352 : BitVec 32 := Scalar.addi v335 c0_i32_154
  let v353 : Index := Scalar.indexCast v352
  ![5, v353.toNat]
def k0_off15 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v371 : Index := Scalar.indexCast v243
  let c768_161 : Index := 768#32
  let c0_162 : Index := 0#32
  ![v371.toNat, 768, 0]
def k0_off16 (k0_t2 : Fin k0_t2_loop.trips) (c0_i32_164 : BitVec 32) (c0_i32_165 : BitVec 32) : Fin 2 → Nat :=
  let c6_166 : Index := 6#32
  let c0_i32_103 : BitVec 32 := 0#32
  let c1_i32_104 : BitVec 32 := 1#32
  let arg10 : BitVec 32 := Scf.iv c0_i32_103 c1_i32_104 k0_t2
  let c10_i32_163 : BitVec 32 := 10#32
  let v374 : BitVec 32 := Scalar.muli arg10 c10_i32_163
  let v375 : BitVec 32 := Scalar.addi v374 c0_i32_164
  let v377 : BitVec 32 := Scalar.addi v375 c0_i32_165
  let v378 : Index := Scalar.indexCast v377
  ![6, v378.toNat]
def k0_off17 (k0_t2 : Fin k0_t2_loop.trips) (c0_i32_164 : BitVec 32) (c0_i32_169 : BitVec 32) : Fin 2 → Nat :=
  let c7_170 : Index := 7#32
  let c0_i32_103 : BitVec 32 := 0#32
  let c1_i32_104 : BitVec 32 := 1#32
  let arg10 : BitVec 32 := Scf.iv c0_i32_103 c1_i32_104 k0_t2
  let c10_i32_163 : BitVec 32 := 10#32
  let v374 : BitVec 32 := Scalar.muli arg10 c10_i32_163
  let v375 : BitVec 32 := Scalar.addi v374 c0_i32_164
  let v392 : BitVec 32 := Scalar.addi v375 c0_i32_169
  let v393 : Index := Scalar.indexCast v392
  ![7, v393.toNat]
def k0_off18 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v411 : Index := Scalar.indexCast v243
  let c1024_176 : Index := 1024#32
  let c0_177 : Index := 0#32
  ![v411.toNat, 1024, 0]
def k0_off19 (k0_t2 : Fin k0_t2_loop.trips) (c0_i32_179 : BitVec 32) (c0_i32_180 : BitVec 32) : Fin 2 → Nat :=
  let c8_181 : Index := 8#32
  let c0_i32_103 : BitVec 32 := 0#32
  let c1_i32_104 : BitVec 32 := 1#32
  let arg10 : BitVec 32 := Scf.iv c0_i32_103 c1_i32_104 k0_t2
  let c10_i32_178 : BitVec 32 := 10#32
  let v414 : BitVec 32 := Scalar.muli arg10 c10_i32_178
  let v415 : BitVec 32 := Scalar.addi v414 c0_i32_179
  let v417 : BitVec 32 := Scalar.addi v415 c0_i32_180
  let v418 : Index := Scalar.indexCast v417
  ![8, v418.toNat]
def k0_off20 (k0_t2 : Fin k0_t2_loop.trips) (c0_i32_179 : BitVec 32) (c0_i32_184 : BitVec 32) : Fin 2 → Nat :=
  let c9_185 : Index := 9#32
  let c0_i32_103 : BitVec 32 := 0#32
  let c1_i32_104 : BitVec 32 := 1#32
  let arg10 : BitVec 32 := Scf.iv c0_i32_103 c1_i32_104 k0_t2
  let c10_i32_178 : BitVec 32 := 10#32
  let v414 : BitVec 32 := Scalar.muli arg10 c10_i32_178
  let v415 : BitVec 32 := Scalar.addi v414 c0_i32_179
  let v432 : BitVec 32 := Scalar.addi v415 c0_i32_184
  let v433 : Index := Scalar.indexCast v432
  ![9, v433.toNat]
def k0_off21 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v451 : Index := Scalar.indexCast v243
  let c1280_191 : Index := 1280#32
  let c0_192 : Index := 0#32
  ![v451.toNat, 1280, 0]
def k0_off22 (k0_t2 : Fin k0_t2_loop.trips) (c0_i32_194 : BitVec 32) (c0_i32_195 : BitVec 32) : Fin 2 → Nat :=
  let c10_196 : Index := 10#32
  let c0_i32_103 : BitVec 32 := 0#32
  let c1_i32_104 : BitVec 32 := 1#32
  let arg10 : BitVec 32 := Scf.iv c0_i32_103 c1_i32_104 k0_t2
  let c10_i32_193 : BitVec 32 := 10#32
  let v454 : BitVec 32 := Scalar.muli arg10 c10_i32_193
  let v455 : BitVec 32 := Scalar.addi v454 c0_i32_194
  let v457 : BitVec 32 := Scalar.addi v455 c0_i32_195
  let v458 : Index := Scalar.indexCast v457
  ![10, v458.toNat]
def k0_off23 (k0_t2 : Fin k0_t2_loop.trips) (c0_i32_194 : BitVec 32) (c0_i32_199 : BitVec 32) : Fin 2 → Nat :=
  let c11_200 : Index := 11#32
  let c0_i32_103 : BitVec 32 := 0#32
  let c1_i32_104 : BitVec 32 := 1#32
  let arg10 : BitVec 32 := Scf.iv c0_i32_103 c1_i32_104 k0_t2
  let c10_i32_193 : BitVec 32 := 10#32
  let v454 : BitVec 32 := Scalar.muli arg10 c10_i32_193
  let v455 : BitVec 32 := Scalar.addi v454 c0_i32_194
  let v472 : BitVec 32 := Scalar.addi v455 c0_i32_199
  let v473 : Index := Scalar.indexCast v472
  ![11, v473.toNat]
def k0_off24 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v491 : Index := Scalar.indexCast v243
  let c1536_206 : Index := 1536#32
  let c0_207 : Index := 0#32
  ![v491.toNat, 1536, 0]
def k0_off25 (k0_t2 : Fin k0_t2_loop.trips) (c0_i32_209 : BitVec 32) (c0_i32_210 : BitVec 32) : Fin 2 → Nat :=
  let c12_211 : Index := 12#32
  let c0_i32_103 : BitVec 32 := 0#32
  let c1_i32_104 : BitVec 32 := 1#32
  let arg10 : BitVec 32 := Scf.iv c0_i32_103 c1_i32_104 k0_t2
  let c10_i32_208 : BitVec 32 := 10#32
  let v494 : BitVec 32 := Scalar.muli arg10 c10_i32_208
  let v495 : BitVec 32 := Scalar.addi v494 c0_i32_209
  let v497 : BitVec 32 := Scalar.addi v495 c0_i32_210
  let v498 : Index := Scalar.indexCast v497
  ![12, v498.toNat]
def k0_off26 (k0_t2 : Fin k0_t2_loop.trips) (c0_i32_209 : BitVec 32) (c0_i32_214 : BitVec 32) : Fin 2 → Nat :=
  let c13_215 : Index := 13#32
  let c0_i32_103 : BitVec 32 := 0#32
  let c1_i32_104 : BitVec 32 := 1#32
  let arg10 : BitVec 32 := Scf.iv c0_i32_103 c1_i32_104 k0_t2
  let c10_i32_208 : BitVec 32 := 10#32
  let v494 : BitVec 32 := Scalar.muli arg10 c10_i32_208
  let v495 : BitVec 32 := Scalar.addi v494 c0_i32_209
  let v512 : BitVec 32 := Scalar.addi v495 c0_i32_214
  let v513 : Index := Scalar.indexCast v512
  ![13, v513.toNat]
def k0_off27 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v531 : Index := Scalar.indexCast v243
  let c1792_221 : Index := 1792#32
  let c0_222 : Index := 0#32
  ![v531.toNat, 1792, 0]
def k0_off28 (k0_t2 : Fin k0_t2_loop.trips) (c0_i32_224 : BitVec 32) (c0_i32_225 : BitVec 32) : Fin 2 → Nat :=
  let c14_226 : Index := 14#32
  let c0_i32_103 : BitVec 32 := 0#32
  let c1_i32_104 : BitVec 32 := 1#32
  let arg10 : BitVec 32 := Scf.iv c0_i32_103 c1_i32_104 k0_t2
  let c10_i32_223 : BitVec 32 := 10#32
  let v534 : BitVec 32 := Scalar.muli arg10 c10_i32_223
  let v535 : BitVec 32 := Scalar.addi v534 c0_i32_224
  let v537 : BitVec 32 := Scalar.addi v535 c0_i32_225
  let v538 : Index := Scalar.indexCast v537
  ![14, v538.toNat]
def k0_off29 (k0_t2 : Fin k0_t2_loop.trips) (c0_i32_224 : BitVec 32) (c0_i32_229 : BitVec 32) : Fin 2 → Nat :=
  let c15_230 : Index := 15#32
  let c0_i32_103 : BitVec 32 := 0#32
  let c1_i32_104 : BitVec 32 := 1#32
  let arg10 : BitVec 32 := Scf.iv c0_i32_103 c1_i32_104 k0_t2
  let c10_i32_223 : BitVec 32 := 10#32
  let v534 : BitVec 32 := Scalar.muli arg10 c10_i32_223
  let v535 : BitVec 32 := Scalar.addi v534 c0_i32_224
  let v552 : BitVec 32 := Scalar.addi v535 c0_i32_229
  let v553 : Index := Scalar.indexCast v552
  ![15, v553.toNat]
def k0_off30 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v597 : Index := Scalar.indexCast v243
  let c0_243 : Index := 0#32
  let c256_244 : Index := 256#32
  ![v597.toNat, 0, 256]
def k0_off31 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v637 : Index := Scalar.indexCast v243
  let c256_258 : Index := 256#32
  let c256_259 : Index := 256#32
  ![v637.toNat, 256, 256]
def k0_off32 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v677 : Index := Scalar.indexCast v243
  let c512_273 : Index := 512#32
  let c256_274 : Index := 256#32
  ![v677.toNat, 512, 256]
def k0_off33 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v717 : Index := Scalar.indexCast v243
  let c768_288 : Index := 768#32
  let c256_289 : Index := 256#32
  ![v717.toNat, 768, 256]
def k0_off34 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v757 : Index := Scalar.indexCast v243
  let c1024_303 : Index := 1024#32
  let c256_304 : Index := 256#32
  ![v757.toNat, 1024, 256]
def k0_off35 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v797 : Index := Scalar.indexCast v243
  let c1280_318 : Index := 1280#32
  let c256_319 : Index := 256#32
  ![v797.toNat, 1280, 256]
def k0_off36 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v837 : Index := Scalar.indexCast v243
  let c1536_333 : Index := 1536#32
  let c256_334 : Index := 256#32
  ![v837.toNat, 1536, 256]
def k0_off37 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v877 : Index := Scalar.indexCast v243
  let c1792_348 : Index := 1792#32
  let c256_349 : Index := 256#32
  ![v877.toNat, 1792, 256]
def k0_off38 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v943 : Index := Scalar.indexCast v243
  let c0_369 : Index := 0#32
  let c512_370 : Index := 512#32
  ![v943.toNat, 0, 512]
def k0_off39 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v983 : Index := Scalar.indexCast v243
  let c256_384 : Index := 256#32
  let c512_385 : Index := 512#32
  ![v983.toNat, 256, 512]
def k0_off40 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1023 : Index := Scalar.indexCast v243
  let c512_399 : Index := 512#32
  let c512_400 : Index := 512#32
  ![v1023.toNat, 512, 512]
def k0_off41 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1063 : Index := Scalar.indexCast v243
  let c768_414 : Index := 768#32
  let c512_415 : Index := 512#32
  ![v1063.toNat, 768, 512]
def k0_off42 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1103 : Index := Scalar.indexCast v243
  let c1024_429 : Index := 1024#32
  let c512_430 : Index := 512#32
  ![v1103.toNat, 1024, 512]
def k0_off43 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1143 : Index := Scalar.indexCast v243
  let c1280_444 : Index := 1280#32
  let c512_445 : Index := 512#32
  ![v1143.toNat, 1280, 512]
def k0_off44 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1183 : Index := Scalar.indexCast v243
  let c1536_459 : Index := 1536#32
  let c512_460 : Index := 512#32
  ![v1183.toNat, 1536, 512]
def k0_off45 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1223 : Index := Scalar.indexCast v243
  let c1792_474 : Index := 1792#32
  let c512_475 : Index := 512#32
  ![v1223.toNat, 1792, 512]
def k0_off46 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1289 : Index := Scalar.indexCast v243
  let c0_495 : Index := 0#32
  let c768_496 : Index := 768#32
  ![v1289.toNat, 0, 768]
def k0_off47 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1329 : Index := Scalar.indexCast v243
  let c256_510 : Index := 256#32
  let c768_511 : Index := 768#32
  ![v1329.toNat, 256, 768]
def k0_off48 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1369 : Index := Scalar.indexCast v243
  let c512_525 : Index := 512#32
  let c768_526 : Index := 768#32
  ![v1369.toNat, 512, 768]
def k0_off49 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1409 : Index := Scalar.indexCast v243
  let c768_540 : Index := 768#32
  let c768_541 : Index := 768#32
  ![v1409.toNat, 768, 768]
def k0_off50 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1449 : Index := Scalar.indexCast v243
  let c1024_555 : Index := 1024#32
  let c768_556 : Index := 768#32
  ![v1449.toNat, 1024, 768]
def k0_off51 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1489 : Index := Scalar.indexCast v243
  let c1280_570 : Index := 1280#32
  let c768_571 : Index := 768#32
  ![v1489.toNat, 1280, 768]
def k0_off52 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1529 : Index := Scalar.indexCast v243
  let c1536_585 : Index := 1536#32
  let c768_586 : Index := 768#32
  ![v1529.toNat, 1536, 768]
def k0_off53 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1569 : Index := Scalar.indexCast v243
  let c1792_600 : Index := 1792#32
  let c768_601 : Index := 768#32
  ![v1569.toNat, 1792, 768]
def k0_off54 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1635 : Index := Scalar.indexCast v243
  let c0_621 : Index := 0#32
  let c1024_622 : Index := 1024#32
  ![v1635.toNat, 0, 1024]
def k0_off55 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1675 : Index := Scalar.indexCast v243
  let c256_636 : Index := 256#32
  let c1024_637 : Index := 1024#32
  ![v1675.toNat, 256, 1024]
def k0_off56 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1715 : Index := Scalar.indexCast v243
  let c512_651 : Index := 512#32
  let c1024_652 : Index := 1024#32
  ![v1715.toNat, 512, 1024]
def k0_off57 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1755 : Index := Scalar.indexCast v243
  let c768_666 : Index := 768#32
  let c1024_667 : Index := 1024#32
  ![v1755.toNat, 768, 1024]
def k0_off58 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1795 : Index := Scalar.indexCast v243
  let c1024_681 : Index := 1024#32
  let c1024_682 : Index := 1024#32
  ![v1795.toNat, 1024, 1024]
def k0_off59 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1835 : Index := Scalar.indexCast v243
  let c1280_696 : Index := 1280#32
  let c1024_697 : Index := 1024#32
  ![v1835.toNat, 1280, 1024]
def k0_off60 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1875 : Index := Scalar.indexCast v243
  let c1536_711 : Index := 1536#32
  let c1024_712 : Index := 1024#32
  ![v1875.toNat, 1536, 1024]
def k0_off61 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let v1915 : Index := Scalar.indexCast v243
  let c1792_726 : Index := 1792#32
  let c1024_727 : Index := 1024#32
  ![v1915.toNat, 1792, 1024]
def k0_cond1 (k0_t2 : Fin k0_t2_loop.trips) : BitVec 1 :=
  let c0_i32_103 : BitVec 32 := 0#32
  let c1_i32_104 : BitVec 32 := 1#32
  let arg10 : BitVec 32 := Scf.iv c0_i32_103 c1_i32_104 k0_t2
  let c8_i32_746 : BitVec 32 := 8#32
  let v1980 : BitVec 32 := Scalar.addi arg10 c8_i32_746
  let c101_i32_747 : BitVec 32 := 101#32
  let v1981 : BitVec 1 := Scalar.cmpi .slt v1980 c101_i32_747
  let v1982 : BitVec 32 := Scalar.extui v1981
  let c0_i32_748 : BitVec 32 := 0#32
  let v1983 : BitVec 1 := Scalar.cmpi .ne v1982 c0_i32_748
  v1983

def k0_off62 (k0_t2 : Fin k0_t2_loop.trips) : Fin 1 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  ![v243.toNat]
def k0_off63 (k0_t2 : Fin k0_t2_loop.trips) : Fin 3 → Nat :=
  let c0_i32_103 : BitVec 32 := 0#32
  let c1_i32_104 : BitVec 32 := 1#32
  let arg10 : BitVec 32 := Scf.iv c0_i32_103 c1_i32_104 k0_t2
  let c8_i32 : BitVec 32 := 8#32
  let v243 : BitVec 32 := Scalar.remsi arg10 c8_i32
  let c0_i32_751 : BitVec 32 := 0#32
  let c0_i32_752 : BitVec 32 := 0#32
  ![v243.toNat, 0, 0]
def k0_off64 (k0_t2 : Fin k0_t2_loop.trips) : Fin 2 → Nat :=
  let c0_i32_753 : BitVec 32 := 0#32
  let c0_i32_103 : BitVec 32 := 0#32
  let c1_i32_104 : BitVec 32 := 1#32
  let arg10 : BitVec 32 := Scf.iv c0_i32_103 c1_i32_104 k0_t2
  let c8_i32_749 : BitVec 32 := 8#32
  let v1984 : BitVec 32 := Scalar.addi arg10 c8_i32_749
  let c1280_i32_750 : BitVec 32 := 1280#32
  let v1985 : BitVec 32 := Scalar.muli v1984 c1280_i32_750
  ![0, v1985.toNat]
abbrev stage0_0 : Fin 1 → Memref sig .tc .smem S1x129 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S16x1010 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x129 : Shape := ⟨2, ![1, 129]⟩
abbrev S1x128x2048 : Shape := ⟨3, ![1, 128, 2048]⟩
abbrev S1x128x16 : Shape := ⟨3, ![1, 128, 16]⟩
abbrev S2048x129280 : Shape := ⟨2, ![2048, 129280]⟩
abbrev S16x1010 : Shape := ⟨2, ![16, 1010]⟩
abbrev S1x128 : Shape := ⟨2, ![1, 128]⟩
abbrev S128x16x128 : Shape := ⟨3, ![128, 16, 128]⟩
abbrev S128x16 : Shape := ⟨2, ![128, 16]⟩
abbrev S128x16x1 : Shape := ⟨3, ![128, 16, 1]⟩
abbrev S128x2048 : Shape := ⟨2, ![128, 2048]⟩
abbrev S16x128x1010x128 : Shape := ⟨4, ![16, 128, 1010, 128]⟩
abbrev S16x1x1010x1 : Shape := ⟨4, ![16, 1, 1010, 1]⟩
abbrev S128x129280 : Shape := ⟨2, ![128, 129280]⟩
abbrev S128 : Shape := ⟨1, ![128]⟩
abbrev S128x1 : Shape := ⟨2, ![128, 1]⟩

abbrev nBuf : Space → Nat
  | .hbm => 6
  | .vmem => 6
  | .smem => 0
  | _ => 0

abbrev bufTy : (tb : Table) → Fin (tcTables nBuf tb) → BufTy
  | .hbm, ⟨0, _⟩ => ⟨S1x129, .i32⟩
  | .hbm, ⟨1, _⟩ => ⟨S1x128x2048, .fp8e4m3⟩
  | .hbm, ⟨2, _⟩ => ⟨S1x128x16, .f32⟩
  | .hbm, ⟨3, _⟩ => ⟨S2048x129280, .fp8e4m3⟩
  | .hbm, ⟨4, _⟩ => ⟨S16x1010, .f32⟩
  | .hbm, ⟨5, _⟩ => ⟨S1x128, .f32⟩
  | .local _ .vmem, ⟨0, _⟩ => ⟨S1x129, .i32⟩
  | .local _ .vmem, ⟨1, _⟩ => ⟨S1x128x2048, .fp8e4m3⟩
  | .local _ .vmem, ⟨2, _⟩ => ⟨S1x128x16, .f32⟩
  | .local _ .vmem, ⟨3, _⟩ => ⟨S2048x129280, .fp8e4m3⟩
  | .local _ .vmem, ⟨4, _⟩ => ⟨S16x1010, .f32⟩
  | .local _ .vmem, ⟨5, _⟩ => ⟨S1x128, .f32⟩
  | _, _ => ⟨S1x129, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x129 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x129280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1010 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proj.lean ====
abbrev S1x128x4096 : Shape := ⟨3, ![1, 128, 4096]⟩
abbrev S1x128x32 : Shape := ⟨3, ![1, 128, 32]⟩
abbrev S4096x2048 : Shape := ⟨2, ![4096, 2048]⟩
abbrev S32x16 : Shape := ⟨2, ![32, 16]⟩
abbrev S128x4096 : Shape := ⟨2, ![128, 4096]⟩
abbrev S128x32 : Shape := ⟨2, ![128, 32]⟩
abbrev S128x2048 : Shape := ⟨2, ![128, 2048]⟩
abbrev S_ : Shape := ⟨0, ![]⟩
abbrev S128x128 : Shape := ⟨2, ![128, 128]⟩
abbrev S128x1 : Shape := ⟨2, ![128, 1]⟩
abbrev S128x256 : Shape := ⟨2, ![128, 256]⟩
abbrev S256x256 : Shape := ⟨2, ![256, 256]⟩
abbrev S1x1 : Shape := ⟨2, ![1, 1]⟩

abbrev nBuf : Space → Nat
  | .hbm => 7
  | .vmem => 6
  | .smem => 1
  | _ => 0

abbrev bufTy : (tb : Table) → Fin (tcTables nBuf tb) → BufTy
  | .hbm, ⟨0, _⟩ => ⟨S1x128x4096, .fp8e4m3⟩
  | .hbm, ⟨1, _⟩ => ⟨S1x128x32, .f32⟩
  | .hbm, ⟨2, _⟩ => ⟨S4096x2048, .fp8e4m3⟩
  | .hbm, ⟨3, _⟩ => ⟨S32x16, .f32⟩
  | .hbm, ⟨4, _⟩ => ⟨S128x4096, .fp8e4m3⟩
  | .hbm, ⟨5, _⟩ => ⟨S128x32, .f32⟩
  | .hbm, ⟨6, _⟩ => ⟨S128x2048, .bf16⟩
  | .local _ .vmem, ⟨0, _⟩ => ⟨S128x4096, .fp8e4m3⟩
  | .local _ .vmem, ⟨1, _⟩ => ⟨S128x32, .f32⟩
  | .local _ .vmem, ⟨2, _⟩ => ⟨S128x2048, .bf16⟩
  | .local _ .vmem, ⟨3, _⟩ => ⟨S128x4096, .bf16⟩
  | .local _ .vmem, ⟨4, _⟩ => ⟨S128x2048, .f32⟩
  | .local _ .vmem, ⟨5, _⟩ => ⟨S4096x2048, .fp8e4m3⟩
  | .local _ .smem, ⟨0, _⟩ => ⟨S32x16, .f32⟩
  | _, _ => ⟨S1x128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v352 : BitVec 32 := Scalar.addi c0_i32 c8_i32
  let c1_i32 : BitVec 32 := 1#32
  ⟨c0_i32, v352, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  v354
def k0_off1 (k0_t1 : Fin k0_t1_loop.trips) : Fin 2 → Nat :=
  let c0_130 : Index := 0#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v356 : Index := Scalar.indexCast v355
  ![0, v356.toNat]
def k0_off2 (k0_t1 : Fin k0_t1_loop.trips) (c0_i32_131 : BitVec 32) : Fin 2 → Nat :=
  let c0_132 : Index := 0#32
  let c0_i32 : BitVec 32 := 0#32
  let c1_i32 : BitVec 32 := 1#32
  let arg9 : BitVec 32 := Scf.iv c0_i32 c1_i32 k0_t1
  let c2_i32 : BitVec 32 := 2#32
  let v358 : BitVec 32 := Scalar.muli arg9 c2_i32
  let v360 : BitVec 32 := Scalar.addi v358 c0_i32_131
  let v361 : Index := Scalar.indexCast v360
  ![0, v361.toNat]
def k0_off3 (k0_t1 : Fin k0_t1_loop.trips) (c0_i32_135 : BitVec 32) : Fin 2 → Nat :=
  let c1_136 : Index := 1#32
  let c0_i32 : BitVec 32 := 0#32
  let c1_i32 : BitVec 32 := 1#32
  let arg9 : BitVec 32 := Scf.iv c0_i32 c1_i32 k0_t1
  let c2_i32 : BitVec 32 := 2#32
  let v358 : BitVec 32 := Scalar.muli arg9 c2_i32
  let v375 : BitVec 32 := Scalar.addi v358 c0_i32_135
  let v376 : Index := Scalar.indexCast v375
  ![1, v376.toNat]
def k0_off4 (k0_t1 : Fin k0_t1_loop.trips) : Fin 2 → Nat :=
  let c256_142 : Index := 256#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v394 : Index := Scalar.indexCast v355
  ![256, v394.toNat]
def k0_off5 (k0_t1 : Fin k0_t1_loop.trips) (c0_i32_144 : BitVec 32) : Fin 2 → Nat :=
  let c2_145 : Index := 2#32
  let c0_i32 : BitVec 32 := 0#32
  let c1_i32 : BitVec 32 := 1#32
  let arg9 : BitVec 32 := Scf.iv c0_i32 c1_i32 k0_t1
  let c2_i32_143 : BitVec 32 := 2#32
  let v396 : BitVec 32 := Scalar.muli arg9 c2_i32_143
  let v398 : BitVec 32 := Scalar.addi v396 c0_i32_144
  let v399 : Index := Scalar.indexCast v398
  ![2, v399.toNat]
def k0_off6 (k0_t1 : Fin k0_t1_loop.trips) (c0_i32_148 : BitVec 32) : Fin 2 → Nat :=
  let c3_149 : Index := 3#32
  let c0_i32 : BitVec 32 := 0#32
  let c1_i32 : BitVec 32 := 1#32
  let arg9 : BitVec 32 := Scf.iv c0_i32 c1_i32 k0_t1
  let c2_i32_143 : BitVec 32 := 2#32
  let v396 : BitVec 32 := Scalar.muli arg9 c2_i32_143
  let v413 : BitVec 32 := Scalar.addi v396 c0_i32_148
  let v414 : Index := Scalar.indexCast v413
  ![3, v414.toNat]
def k0_off7 (k0_t1 : Fin k0_t1_loop.trips) : Fin 2 → Nat :=
  let c512_155 : Index := 512#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v432 : Index := Scalar.indexCast v355
  ![512, v432.toNat]
def k0_off8 (k0_t1 : Fin k0_t1_loop.trips) (c0_i32_157 : BitVec 32) : Fin 2 → Nat :=
  let c4_158 : Index := 4#32
  let c0_i32 : BitVec 32 := 0#32
  let c1_i32 : BitVec 32 := 1#32
  let arg9 : BitVec 32 := Scf.iv c0_i32 c1_i32 k0_t1
  let c2_i32_156 : BitVec 32 := 2#32
  let v434 : BitVec 32 := Scalar.muli arg9 c2_i32_156
  let v436 : BitVec 32 := Scalar.addi v434 c0_i32_157
  let v437 : Index := Scalar.indexCast v436
  ![4, v437.toNat]
def k0_off9 (k0_t1 : Fin k0_t1_loop.trips) (c0_i32_161 : BitVec 32) : Fin 2 → Nat :=
  let c5_162 : Index := 5#32
  let c0_i32 : BitVec 32 := 0#32
  let c1_i32 : BitVec 32 := 1#32
  let arg9 : BitVec 32 := Scf.iv c0_i32 c1_i32 k0_t1
  let c2_i32_156 : BitVec 32 := 2#32
  let v434 : BitVec 32 := Scalar.muli arg9 c2_i32_156
  let v451 : BitVec 32 := Scalar.addi v434 c0_i32_161
  let v452 : Index := Scalar.indexCast v451
  ![5, v452.toNat]
def k0_off10 (k0_t1 : Fin k0_t1_loop.trips) : Fin 2 → Nat :=
  let c768_168 : Index := 768#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v470 : Index := Scalar.indexCast v355
  ![768, v470.toNat]
def k0_off11 (k0_t1 : Fin k0_t1_loop.trips) (c0_i32_170 : BitVec 32) : Fin 2 → Nat :=
  let c6_171 : Index := 6#32
  let c0_i32 : BitVec 32 := 0#32
  let c1_i32 : BitVec 32 := 1#32
  let arg9 : BitVec 32 := Scf.iv c0_i32 c1_i32 k0_t1
  let c2_i32_169 : BitVec 32 := 2#32
  let v472 : BitVec 32 := Scalar.muli arg9 c2_i32_169
  let v474 : BitVec 32 := Scalar.addi v472 c0_i32_170
  let v475 : Index := Scalar.indexCast v474
  ![6, v475.toNat]
def k0_off12 (k0_t1 : Fin k0_t1_loop.trips) (c0_i32_174 : BitVec 32) : Fin 2 → Nat :=
  let c7_175 : Index := 7#32
  let c0_i32 : BitVec 32 := 0#32
  let c1_i32 : BitVec 32 := 1#32
  let arg9 : BitVec 32 := Scf.iv c0_i32 c1_i32 k0_t1
  let c2_i32_169 : BitVec 32 := 2#32
  let v472 : BitVec 32 := Scalar.muli arg9 c2_i32_169
  let v489 : BitVec 32 := Scalar.addi v472 c0_i32_174
  let v490 : Index := Scalar.indexCast v489
  ![7, v490.toNat]
def k0_off13 (k0_t1 : Fin k0_t1_loop.trips) : Fin 2 → Nat :=
  let c1024_181 : Index := 1024#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v508 : Index := Scalar.indexCast v355
  ![1024, v508.toNat]
def k0_off14 (k0_t1 : Fin k0_t1_loop.trips) (c0_i32_183 : BitVec 32) : Fin 2 → Nat :=
  let c8_184 : Index := 8#32
  let c0_i32 : BitVec 32 := 0#32
  let c1_i32 : BitVec 32 := 1#32
  let arg9 : BitVec 32 := Scf.iv c0_i32 c1_i32 k0_t1
  let c2_i32_182 : BitVec 32 := 2#32
  let v510 : BitVec 32 := Scalar.muli arg9 c2_i32_182
  let v512 : BitVec 32 := Scalar.addi v510 c0_i32_183
  let v513 : Index := Scalar.indexCast v512
  ![8, v513.toNat]
def k0_off15 (k0_t1 : Fin k0_t1_loop.trips) (c0_i32_187 : BitVec 32) : Fin 2 → Nat :=
  let c9_188 : Index := 9#32
  let c0_i32 : BitVec 32 := 0#32
  let c1_i32 : BitVec 32 := 1#32
  let arg9 : BitVec 32 := Scf.iv c0_i32 c1_i32 k0_t1
  let c2_i32_182 : BitVec 32 := 2#32
  let v510 : BitVec 32 := Scalar.muli arg9 c2_i32_182
  let v527 : BitVec 32 := Scalar.addi v510 c0_i32_187
  let v528 : Index := Scalar.indexCast v527
  ![9, v528.toNat]
def k0_off16 (k0_t1 : Fin k0_t1_loop.trips) : Fin 2 → Nat :=
  let c1280_194 : Index := 1280#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v546 : Index := Scalar.indexCast v355
  ![1280, v546.toNat]
def k0_off17 (k0_t1 : Fin k0_t1_loop.trips) (c0_i32_196 : BitVec 32) : Fin 2 → Nat :=
  let c10_197 : Index := 10#32
  let c0_i32 : BitVec 32 := 0#32
  let c1_i32 : BitVec 32 := 1#32
  let arg9 : BitVec 32 := Scf.iv c0_i32 c1_i32 k0_t1
  let c2_i32_195 : BitVec 32 := 2#32
  let v548 : BitVec 32 := Scalar.muli arg9 c2_i32_195
  let v550 : BitVec 32 := Scalar.addi v548 c0_i32_196
  let v551 : Index := Scalar.indexCast v550
  ![10, v551.toNat]
def k0_off18 (k0_t1 : Fin k0_t1_loop.trips) (c0_i32_200 : BitVec 32) : Fin 2 → Nat :=
  let c11_201 : Index := 11#32
  let c0_i32 : BitVec 32 := 0#32
  let c1_i32 : BitVec 32 := 1#32
  let arg9 : BitVec 32 := Scf.iv c0_i32 c1_i32 k0_t1
  let c2_i32_195 : BitVec 32 := 2#32
  let v548 : BitVec 32 := Scalar.muli arg9 c2_i32_195
  let v565 : BitVec 32 := Scalar.addi v548 c0_i32_200
  let v566 : Index := Scalar.indexCast v565
  ![11, v566.toNat]
def k0_off19 (k0_t1 : Fin k0_t1_loop.trips) : Fin 2 → Nat :=
  let c1536_207 : Index := 1536#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v584 : Index := Scalar.indexCast v355
  ![1536, v584.toNat]
def k0_off20 (k0_t1 : Fin k0_t1_loop.trips) (c0_i32_209 : BitVec 32) : Fin 2 → Nat :=
  let c12_210 : Index := 12#32
  let c0_i32 : BitVec 32 := 0#32
  let c1_i32 : BitVec 32 := 1#32
  let arg9 : BitVec 32 := Scf.iv c0_i32 c1_i32 k0_t1
  let c2_i32_208 : BitVec 32 := 2#32
  let v586 : BitVec 32 := Scalar.muli arg9 c2_i32_208
  let v588 : BitVec 32 := Scalar.addi v586 c0_i32_209
  let v589 : Index := Scalar.indexCast v588
  ![12, v589.toNat]
def k0_off21 (k0_t1 : Fin k0_t1_loop.trips) (c0_i32_213 : BitVec 32) : Fin 2 → Nat :=
  let c13_214 : Index := 13#32
  let c0_i32 : BitVec 32 := 0#32
  let c1_i32 : BitVec 32 := 1#32
  let arg9 : BitVec 32 := Scf.iv c0_i32 c1_i32 k0_t1
  let c2_i32_208 : BitVec 32 := 2#32
  let v586 : BitVec 32 := Scalar.muli arg9 c2_i32_208
  let v603 : BitVec 32 := Scalar.addi v586 c0_i32_213
  let v604 : Index := Scalar.indexCast v603
  ![13, v604.toNat]
def k0_off22 (k0_t1 : Fin k0_t1_loop.trips) : Fin 2 → Nat :=
  let c1792_220 : Index := 1792#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v622 : Index := Scalar.indexCast v355
  ![1792, v622.toNat]
def k0_off23 (k0_t1 : Fin k0_t1_loop.trips) (c0_i32_222 : BitVec 32) : Fin 2 → Nat :=
  let c14_223 : Index := 14#32
  let c0_i32 : BitVec 32 := 0#32
  let c1_i32 : BitVec 32 := 1#32
  let arg9 : BitVec 32 := Scf.iv c0_i32 c1_i32 k0_t1
  let c2_i32_221 : BitVec 32 := 2#32
  let v624 : BitVec 32 := Scalar.muli arg9 c2_i32_221
  let v626 : BitVec 32 := Scalar.addi v624 c0_i32_222
  let v627 : Index := Scalar.indexCast v626
  ![14, v627.toNat]
def k0_off24 (k0_t1 : Fin k0_t1_loop.trips) (c0_i32_226 : BitVec 32) : Fin 2 → Nat :=
  let c15_227 : Index := 15#32
  let c0_i32 : BitVec 32 := 0#32
  let c1_i32 : BitVec 32 := 1#32
  let arg9 : BitVec 32 := Scf.iv c0_i32 c1_i32 k0_t1
  let c2_i32_221 : BitVec 32 := 2#32
  let v624 : BitVec 32 := Scalar.muli arg9 c2_i32_221
  let v641 : BitVec 32 := Scalar.addi v624 c0_i32_226
  let v642 : Index := Scalar.indexCast v641
  ![15, v642.toNat]
def k0_off25 (k0_t1 : Fin k0_t1_loop.trips) : Fin 2 → Nat :=
  let c2048_233 : Index := 2048#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v660 : Index := Scalar.indexCast v355
  ![2048, v660.toNat]
def k0_off26 (k0_t1 : Fin k0_t1_loop.trips) (c0_i32_235 : BitVec 32) : Fin 2 → Nat :=
  let c16_236 : Index := 16#32
  let c0_i32 : BitVec 32 := 0#32
  let c1_i32 : BitVec 32 := 1#32
  let arg9 : BitVec 32 := Scf.iv c0_i32 c1_i32 k0_t1
  let c2_i32_234 : BitVec 32 := 2#32
  let v662 : BitVec 32 := Scalar.muli arg9 c2_i32_234
  let v664 : BitVec 32 := Scalar.addi v662 c0_i32_235
  let v665 : Index := Scalar.indexCast v664
  ![16, v665.toNat]
def k0_off27 (k0_t1 : Fin k0_t1_loop.trips) (c0_i32_239 : BitVec 32) : Fin 2 → Nat :=
  let c17_240 : Index := 17#32
  let c0_i32 : BitVec 32 := 0#32
  let c1_i32 : BitVec 32 := 1#32
  let arg9 : BitVec 32 := Scf.iv c0_i32 c1_i32 k0_t1
  let c2_i32_234 : BitVec 32 := 2#32
  let v662 : BitVec 32 := Scalar.muli arg9 c2_i32_234
  let v679 : BitVec 32 := Scalar.addi v662 c0_i32_239
  let v680 : Index := Scalar.indexCast v679
  ![17, v680.toNat]
def k0_off28 (k0_t1 : Fin k0_t1_loop.trips) : Fin 2 → Nat :=
  let c2304_246 : Index := 2304#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v698 : Index := Scalar.indexCast v355
  ![2304, v698.toNat]
def k0_off29 (k0_t1 : Fin k0_t1_loop.trips) (c0_i32_248 : BitVec 32) : Fin 2 → Nat :=
  let c18_249 : Index := 18#32
  let c0_i32 : BitVec 32 := 0#32
  let c1_i32 : BitVec 32 := 1#32
  let arg9 : BitVec 32 := Scf.iv c0_i32 c1_i32 k0_t1
  let c2_i32_247 : BitVec 32 := 2#32
  let v700 : BitVec 32 := Scalar.muli arg9 c2_i32_247
  let v702 : BitVec 32 := Scalar.addi v700 c0_i32_248
  let v703 : Index := Scalar.indexCast v702
  ![18, v703.toNat]
def k0_off30 (k0_t1 : Fin k0_t1_loop.trips) (c0_i32_252 : BitVec 32) : Fin 2 → Nat :=
  let c19_253 : Index := 19#32
  let c0_i32 : BitVec 32 := 0#32
  let c1_i32 : BitVec 32 := 1#32
  let arg9 : BitVec 32 := Scf.iv c0_i32 c1_i32 k0_t1
  let c2_i32_247 : BitVec 32 := 2#32
  let v700 : BitVec 32 := Scalar.muli arg9 c2_i32_247
  let v717 : BitVec 32 := Scalar.addi v700 c0_i32_252
  let v718 : Index := Scalar.indexCast v717
  ![19, v718.toNat]
def k0_off31 (k0_t1 : Fin k0_t1_loop.trips) : Fin 2 → Nat :=
  let c2560_259 : Index := 2560#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v736 : Index := Scalar.indexCast v355
  ![2560, v736.toNat]
def k0_off32 (k0_t1 : Fin k0_t1_loop.trips) (c0_i32_261 : BitVec 32) : Fin 2 → Nat :=
  let c20_262 : Index := 20#32
  let c0_i32 : BitVec 32 := 0#32
  let c1_i32 : BitVec 32 := 1#32
  let arg9 : BitVec 32 := Scf.iv c0_i32 c1_i32 k0_t1
  let c2_i32_260 : BitVec 32 := 2#32
  let v738 : BitVec 32 := Scalar.muli arg9 c2_i32_260
  let v740 : BitVec 32 := Scalar.addi v738 c0_i32_261
  let v741 : Index := Scalar.indexCast v740
  ![20, v741.toNat]
def k0_off33 (k0_t1 : Fin k0_t1_loop.trips) (c0_i32_265 : BitVec 32) : Fin 2 → Nat :=
  let c21_266 : Index := 21#32
  let c0_i32 : BitVec 32 := 0#32
  let c1_i32 : BitVec 32 := 1#32
  let arg9 : BitVec 32 := Scf.iv c0_i32 c1_i32 k0_t1
  let c2_i32_260 : BitVec 32 := 2#32
  let v738 : BitVec 32 := Scalar.muli arg9 c2_i32_260
  let v755 : BitVec 32 := Scalar.addi v738 c0_i32_265
  let v756 : Index := Scalar.indexCast v755
  ![21, v756.toNat]
def k0_off34 (k0_t1 : Fin k0_t1_loop.trips) : Fin 2 → Nat :=
  let c2816_272 : Index := 2816#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v774 : Index := Scalar.indexCast v355
  ![2816, v774.toNat]
def k0_off35 (k0_t1 : Fin k0_t1_loop.trips) (c0_i32_274 : BitVec 32) : Fin 2 → Nat :=
  let c22_275 : Index := 22#32
  let c0_i32 : BitVec 32 := 0#32
  let c1_i32 : BitVec 32 := 1#32
  let arg9 : BitVec 32 := Scf.iv c0_i32 c1_i32 k0_t1
  let c2_i32_273 : BitVec 32 := 2#32
  let v776 : BitVec 32 := Scalar.muli arg9 c2_i32_273
  let v778 : BitVec 32 := Scalar.addi v776 c0_i32_274
  let v779 : Index := Scalar.indexCast v778
  ![22, v779.toNat]
def k0_off36 (k0_t1 : Fin k0_t1_loop.trips) (c0_i32_278 : BitVec 32) : Fin 2 → Nat :=
  let c23_279 : Index := 23#32
  let c0_i32 : BitVec 32 := 0#32
  let c1_i32 : BitVec 32 := 1#32
  let arg9 : BitVec 32 := Scf.iv c0_i32 c1_i32 k0_t1
  let c2_i32_273 : BitVec 32 := 2#32
  let v776 : BitVec 32 := Scalar.muli arg9 c2_i32_273
  let v793 : BitVec 32 := Scalar.addi v776 c0_i32_278
  let v794 : Index := Scalar.indexCast v793
  ![23, v794.toNat]
def k0_off37 (k0_t1 : Fin k0_t1_loop.trips) : Fin 2 → Nat :=
  let c3072_285 : Index := 3072#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v812 : Index := Scalar.indexCast v355
  ![3072, v812.toNat]
def k0_off38 (k0_t1 : Fin k0_t1_loop.trips) (c0_i32_287 : BitVec 32) : Fin 2 → Nat :=
  let c24_288 : Index := 24#32
  let c0_i32 : BitVec 32 := 0#32
  let c1_i32 : BitVec 32 := 1#32
  let arg9 : BitVec 32 := Scf.iv c0_i32 c1_i32 k0_t1
  let c2_i32_286 : BitVec 32 := 2#32
  let v814 : BitVec 32 := Scalar.muli arg9 c2_i32_286
  let v816 : BitVec 32 := Scalar.addi v814 c0_i32_287
  let v817 : Index := Scalar.indexCast v816
  ![24, v817.toNat]
def k0_off39 (k0_t1 : Fin k0_t1_loop.trips) (c0_i32_291 : BitVec 32) : Fin 2 → Nat :=
  let c25_292 : Index := 25#32
  let c0_i32 : BitVec 32 := 0#32
  let c1_i32 : BitVec 32 := 1#32
  let arg9 : BitVec 32 := Scf.iv c0_i32 c1_i32 k0_t1
  let c2_i32_286 : BitVec 32 := 2#32
  let v814 : BitVec 32 := Scalar.muli arg9 c2_i32_286
  let v831 : BitVec 32 := Scalar.addi v814 c0_i32_291
  let v832 : Index := Scalar.indexCast v831
  ![25, v832.toNat]
def k0_off40 (k0_t1 : Fin k0_t1_loop.trips) : Fin 2 → Nat :=
  let c3328_298 : Index := 3328#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v850 : Index := Scalar.indexCast v355
  ![3328, v850.toNat]
def k0_off41 (k0_t1 : Fin k0_t1_loop.trips) (c0_i32_300 : BitVec 32) : Fin 2 → Nat :=
  let c26_301 : Index := 26#32
  let c0_i32 : BitVec 32 := 0#32
  let c1_i32 : BitVec 32 := 1#32
  let arg9 : BitVec 32 := Scf.iv c0_i32 c1_i32 k0_t1
  let c2_i32_299 : BitVec 32 := 2#32
  let v852 : BitVec 32 := Scalar.muli arg9 c2_i32_299
  let v854 : BitVec 32 := Scalar.addi v852 c0_i32_300
  let v855 : Index := Scalar.indexCast v854
  ![26, v855.toNat]
def k0_off42 (k0_t1 : Fin k0_t1_loop.trips) (c0_i32_304 : BitVec 32) : Fin 2 → Nat :=
  let c27_305 : Index := 27#32
  let c0_i32 : BitVec 32 := 0#32
  let c1_i32 : BitVec 32 := 1#32
  let arg9 : BitVec 32 := Scf.iv c0_i32 c1_i32 k0_t1
  let c2_i32_299 : BitVec 32 := 2#32
  let v852 : BitVec 32 := Scalar.muli arg9 c2_i32_299
  let v869 : BitVec 32 := Scalar.addi v852 c0_i32_304
  let v870 : Index := Scalar.indexCast v869
  ![27, v870.toNat]
def k0_off43 (k0_t1 : Fin k0_t1_loop.trips) : Fin 2 → Nat :=
  let c3584_311 : Index := 3584#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v888 : Index := Scalar.indexCast v355
  ![3584, v888.toNat]
def k0_off44 (k0_t1 : Fin k0_t1_loop.trips) (c0_i32_313 : BitVec 32) : Fin 2 → Nat :=
  let c28_314 : Index := 28#32
  let c0_i32 : BitVec 32 := 0#32
  let c1_i32 : BitVec 32 := 1#32
  let arg9 : BitVec 32 := Scf.iv c0_i32 c1_i32 k0_t1
  let c2_i32_312 : BitVec 32 := 2#32
  let v890 : BitVec 32 := Scalar.muli arg9 c2_i32_312
  let v892 : BitVec 32 := Scalar.addi v890 c0_i32_313
  let v893 : Index := Scalar.indexCast v892
  ![28, v893.toNat]
def k0_off45 (k0_t1 : Fin k0_t1_loop.trips) (c0_i32_317 : BitVec 32) : Fin 2 → Nat :=
  let c29_318 : Index := 29#32
  let c0_i32 : BitVec 32 := 0#32
  let c1_i32 : BitVec 32 := 1#32
  let arg9 : BitVec 32 := Scf.iv c0_i32 c1_i32 k0_t1
  let c2_i32_312 : BitVec 32 := 2#32
  let v890 : BitVec 32 := Scalar.muli arg9 c2_i32_312
  let v907 : BitVec 32 := Scalar.addi v890 c0_i32_317
  let v908 : Index := Scalar.indexCast v907
  ![29, v908.toNat]
def k0_off46 (k0_t1 : Fin k0_t1_loop.trips) : Fin 2 → Nat :=
  let c3840_324 : Index := 3840#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v926 : Index := Scalar.indexCast v355
  ![3840, v926.toNat]
def k0_off47 (k0_t1 : Fin k0_t1_loop.trips) (c0_i32_326 : BitVec 32) : Fin 2 → Nat :=
  let c30_327 : Index := 30#32
  let c0_i32 : BitVec 32 := 0#32
  let c1_i32 : BitVec 32 := 1#32
  let arg9 : BitVec 32 := Scf.iv c0_i32 c1_i32 k0_t1
  let c2_i32_325 : BitVec 32 := 2#32
  let v928 : BitVec 32 := Scalar.muli arg9 c2_i32_325
  let v930 : BitVec 32 := Scalar.addi v928 c0_i32_326
  let v931 : Index := Scalar.indexCast v930
  ![30, v931.toNat]
def k0_off48 (k0_t1 : Fin k0_t1_loop.trips) (c0_i32_330 : BitVec 32) : Fin 2 → Nat :=
  let c31_331 : Index := 31#32
  let c0_i32 : BitVec 32 := 0#32
  let c1_i32 : BitVec 32 := 1#32
  let arg9 : BitVec 32 := Scf.iv c0_i32 c1_i32 k0_t1
  let c2_i32_325 : BitVec 32 := 2#32
  let v928 : BitVec 32 := Scalar.muli arg9 c2_i32_325
  let v945 : BitVec 32 := Scalar.addi v928 c0_i32_330
  let v946 : Index := Scalar.indexCast v945
  ![31, v946.toNat]
def k0_off49 (k0_t1 : Fin k0_t1_loop.trips) : Fin 2 → Nat :=
  let c0_337 : Index := 0#32
  let c0_i32 : BitVec 32 := 0#32
  let c1_i32 : BitVec 32 := 1#32
  let arg9 : BitVec 32 := Scf.iv c0_i32 c1_i32 k0_t1
  let c256_i32 : BitVec 32 := 256#32
  let v354 : BitVec 32 := Scalar.muli arg9 c256_i32
  let v355 : BitVec 32 := v354
  let v964 : Index := Scalar.indexCast v355
  ![0, v964.toNat]
abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ProjReferenceIdeal.lean ====
abbrev S1x128x4096 : Shape := ⟨3, ![1, 128, 4096]⟩
abbrev S1x128x32 : Shape := ⟨3, ![1, 128, 32]⟩
abbrev S4096x2048 : Shape := ⟨2, ![4096, 2048]⟩
abbrev S32x16 : Shape := ⟨2, ![32, 16]⟩
abbrev S128x2048 : Shape := ⟨2, ![128, 2048]⟩
abbrev S128x32x128 : Shape := ⟨3, ![128, 32, 128]⟩
abbrev S128x32 : Shape := ⟨2, ![128, 32]⟩
abbrev S128x32x1 : Shape := ⟨3, ![128, 32, 1]⟩
abbrev S128x4096 : Shape := ⟨2, ![128, 4096]⟩
abbrev S32x128x16x128 : Shape := ⟨4, ![32, 128, 16, 128]⟩
abbrev S32x1x16x1 : Shape := ⟨4, ![32, 1, 16, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x128x4096, .fp8e4m3⟩
  | .hbm, ⟨1, _⟩ => ⟨S1x128x32, .f32⟩
  | .hbm, ⟨2, _⟩ => ⟨S4096x2048, .fp8e4m3⟩
  | .hbm, ⟨3, _⟩ => ⟨S32x16, .f32⟩
  | .hbm, ⟨4, _⟩ => ⟨S128x2048, .bf16⟩
  | .local _ .vmem, ⟨0, _⟩ => ⟨S1x128x4096, .fp8e4m3⟩
  | .local _ .vmem, ⟨1, _⟩ => ⟨S1x128x32, .f32⟩
  | .local _ .vmem, ⟨2, _⟩ => ⟨S4096x2048, .fp8e4m3⟩
  | .local _ .vmem, ⟨3, _⟩ => ⟨S32x16, .f32⟩
  | .local _ .vmem, ⟨4, _⟩ => ⟨S128x2048, .bf16⟩
  | _, _ => ⟨S1x128x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Quant.lean ====
abbrev S128x2048 : Shape := ⟨2, ![128, 2048]⟩
abbrev S2048 : Shape := ⟨1, ![2048]⟩
abbrev S1x2048 : Shape := ⟨2, ![1, 2048]⟩
abbrev S128x16 : Shape := ⟨2, ![128, 16]⟩
abbrev S128x128 : Shape := ⟨2, ![128, 128]⟩
abbrev S128 : Shape := ⟨1, ![128]⟩
abbrev S128x1 : Shape := ⟨2, ![128, 1]⟩
abbrev S1x128 : Shape := ⟨2, ![1, 128]⟩

abbrev nBuf : Space → Nat
  | .hbm => 5
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048, .f32⟩
  | .hbm, ⟨3, _⟩ => ⟨S128x2048, .fp8e4m3⟩
  | .hbm, ⟨4, _⟩ => ⟨S128x16, .f32⟩
  | .local _ .vmem, ⟨0, _⟩ => ⟨S128x2048, .f32⟩
  | .local _ .vmem, ⟨1, _⟩ => ⟨S1x2048, .f32⟩
  | .local _ .vmem, ⟨2, _⟩ => ⟨S128x2048, .fp8e4m3⟩
  | .local _ .vmem, ⟨3, _⟩ => ⟨S128x16, .f32⟩
  | .local _ .vmem, ⟨4, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== QuantReferenceIdeal.lean ====
abbrev S128x2048 : Shape := ⟨2, ![128, 2048]⟩
abbrev S2048 : Shape := ⟨1, ![2048]⟩
abbrev S128x16 : Shape := ⟨2, ![128, 16]⟩
abbrev S128 : Shape := ⟨1, ![128]⟩
abbrev S128x1 : Shape := ⟨2, ![128, 1]⟩
abbrev S1x2048 : Shape := ⟨2, ![1, 2048]⟩
abbrev S128x16x128 : Shape := ⟨3, ![128, 16, 128]⟩
abbrev S128x16x1 : Shape := ⟨3, ![128, 16, 1]⟩

abbrev nBuf : Space → Nat
  | .hbm => 4
  | .vmem => 4
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S128x2048, .fp8e4m3⟩
  | .hbm, ⟨3, _⟩ => ⟨S128x16, .f32⟩
  | .local _ .vmem, ⟨0, _⟩ => ⟨S128x2048, .f32⟩
  | .local _ .vmem, ⟨1, _⟩ => ⟨S2048, .f32⟩
  | .local _ .vmem, ⟨2, _⟩ => ⟨S128x2048, .fp8e4m3⟩
  | .local _ .vmem, ⟨3, _⟩ => ⟨S128x16, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Entry.lean ====
abbrev S1x128x2048 : Shape := ⟨3, ![1, 128, 2048]⟩
abbrev S1x128x16 : Shape := ⟨3, ![1, 128, 16]⟩
abbrev S128x2048 : Shape := ⟨2, ![128, 2048]⟩
abbrev S128x16 : Shape := ⟨2, ![128, 16]⟩
abbrev S2048 : Shape := ⟨1, ![2048]⟩
abbrev S1x2048 : Shape := ⟨2, ![1, 2048]⟩
abbrev S128x4096 : Shape := ⟨2, ![128, 4096]⟩
abbrev S128x32 : Shape := ⟨2, ![128, 32]⟩
abbrev S128x128 : Shape := ⟨2, ![128, 128]⟩
abbrev S128x1 : Shape := ⟨2, ![128, 1]⟩
abbrev S128 : Shape := ⟨1, ![128]⟩
abbrev S1x128 : Shape := ⟨2, ![1, 128]⟩

abbrev nBuf : Space → Nat
  | .hbm => 12
  | .vmem => 9
  | .smem => 0
  | _ => 0

abbrev bufTy : (tb : Table) → Fin (tcTables nBuf tb) → BufTy
  | .hbm, ⟨0, _⟩ => ⟨S1x128x2048, .fp8e4m3⟩
  | .hbm, ⟨1, _⟩ => ⟨S1x128x16, .f32⟩
  | .hbm, ⟨2, _⟩ => ⟨S128x2048, .f32⟩
  | .hbm, ⟨3, _⟩ => ⟨S128x16, .f32⟩
  | .hbm, ⟨4, _⟩ => ⟨S2048, .f32⟩
  | .hbm, ⟨5, _⟩ => ⟨S2048, .f32⟩
  | .hbm, ⟨6, _⟩ => ⟨S128x2048, .fp8e4m3⟩
  | .hbm, ⟨7, _⟩ => ⟨S128x16, .f32⟩
  | .hbm, ⟨8, _⟩ => ⟨S1x2048, .f32⟩
  | .hbm, ⟨9, _⟩ => ⟨S1x2048, .f32⟩
  | .hbm, ⟨10, _⟩ => ⟨S128x4096, .fp8e4m3⟩
  | .hbm, ⟨11, _⟩ => ⟨S128x32, .f32⟩
  | .local _ .vmem, ⟨0, _⟩ => ⟨S128x2048, .fp8e4m3⟩
  | .local _ .vmem, ⟨1, _⟩ => ⟨S128x16, .f32⟩
  | .local _ .vmem, ⟨2, _⟩ => ⟨S128x2048, .f32⟩
  | .local _ .vmem, ⟨3, _⟩ => ⟨S128x16, .f32⟩
  | .local _ .vmem, ⟨4, _⟩ => ⟨S1x2048, .f32⟩
  | .local _ .vmem, ⟨5, _⟩ => ⟨S1x2048, .f32⟩
  | .local _ .vmem, ⟨6, _⟩ => ⟨S128x4096, .fp8e4m3⟩
  | .local _ .vmem, ⟨7, _⟩ => ⟨S128x32, .f32⟩
  | .local _ .vmem, ⟨8, _⟩ => ⟨S128x4096, .bf16⟩
  | _, _ => ⟨S1x128x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== EntryReferenceIdeal.lean ====
abbrev S1x128x2048 : Shape := ⟨3, ![1, 128, 2048]⟩
abbrev S1x128x16 : Shape := ⟨3, ![1, 128, 16]⟩
abbrev S128x2048 : Shape := ⟨2, ![128, 2048]⟩
abbrev S128x16 : Shape := ⟨2, ![128, 16]⟩
abbrev S2048 : Shape := ⟨1, ![2048]⟩
abbrev S128x4096 : Shape := ⟨2, ![128, 4096]⟩
abbrev S128x32 : Shape := ⟨2, ![128, 32]⟩
abbrev S128x16x128 : Shape := ⟨3, ![128, 16, 128]⟩
abbrev S128x16x1 : Shape := ⟨3, ![128, 16, 1]⟩
abbrev S128 : Shape := ⟨1, ![128]⟩
abbrev S128x1 : Shape := ⟨2, ![128, 1]⟩
abbrev S1x2048 : Shape := ⟨2, ![1, 2048]⟩
abbrev S128x32x128 : Shape := ⟨3, ![128, 32, 128]⟩
abbrev S128x32x1 : Shape := ⟨3, ![128, 32, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x128x2048, .fp8e4m3⟩
  | .hbm, ⟨1, _⟩ => ⟨S1x128x16, .f32⟩
  | .hbm, ⟨2, _⟩ => ⟨S128x2048, .f32⟩
  | .hbm, ⟨3, _⟩ => ⟨S128x16, .f32⟩
  | .hbm, ⟨4, _⟩ => ⟨S2048, .f32⟩
  | .hbm, ⟨5, _⟩ => ⟨S2048, .f32⟩
  | .hbm, ⟨6, _⟩ => ⟨S128x4096, .fp8e4m3⟩
  | .hbm, ⟨7, _⟩ => ⟨S128x32, .f32⟩
  | .local _ .vmem, ⟨0, _⟩ => ⟨S1x128x2048, .fp8e4m3⟩
  | .local _ .vmem, ⟨1, _⟩ => ⟨S1x128x16, .f32⟩
  | .local _ .vmem, ⟨2, _⟩ => ⟨S128x2048, .f32⟩
  | .local _ .vmem, ⟨3, _⟩ => ⟨S128x16, .f32⟩
  | .local _ .vmem, ⟨4, _⟩ => ⟨S2048, .f32⟩
  | .local _ .vmem, ⟨5, _⟩ => ⟨S2048, .f32⟩
  | .local _ .vmem, ⟨6, _⟩ => ⟨S128x4096, .fp8e4m3⟩
  | .local _ .vmem, ⟨7, _⟩ => ⟨S128x32, .f32⟩
  | _, _ => ⟨S1x128x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x128x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Ring.lean ====
/-
  Hand-written, untrusted. The kernel's copy ring: eight VMEM slots of 1280 vocabulary columns each, filled from the
  head's codes in HBM, one DMA semaphore a slot. Slot `j` is, before trip `k` of the chunk loop, in flight with the one
  chunk `b` of `k ≤ b < k + 8` that has `b % 8 = j`, or free when that chunk lies past the last one (101).
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline library's beside the transfers' counters. -/
local notation "𝕄" => MT nD τ sig Unit (Elt F) ℕ (Pipeline.UD sig nD τ) ℕ

/-- The ring buffer, the head's codes in HBM, the two other scratch buffers. -/
abbrev ringM : Memref sig .tc .vmem S8x2048x1280 .fp8e4m3 := Memref.whole cc0_scratch2
abbrev headM : Memref sig .tc .hbm S2048x129280 .fp8e4m3 := Memref.whole main_arg3
abbrev ybM : Memref sig .tc .vmem S128x2048 .bf16 := Memref.whole cc0_scratch0
abbrev tgtM : Memref sig .tc .vmem S128x128 .i32 := Memref.whole cc0_scratch1

theorem slot_inb (j : Fin 8) : ∀ a, (![j.val, 0, 0] : Fin 3 → ℕ) a + S1x2048x1280.size a ≤ S8x2048x1280.size a := by
  have := j.isLt; intro a; fin_cases a
  · show j.val + 1 ≤ 8; omega
  · show 0 + 2048 ≤ 2048; omega
  · show 0 + 1280 ≤ 1280; omega

theorem chunk_inb (b : Fin 101) : ∀ a, (![0, 1280 * b.val] : Fin 2 → ℕ) a + S2048x1280.size a ≤ S2048x129280.size a := by
  have := b.isLt; intro a; fin_cases a
  · show 0 + 2048 ≤ 2048; omega
  · show 1280 * b.val + 1280 ≤ 129280; omega

/-! ## Names at an offset: a slot of the ring, its semaphore, a chunk of the head's codes -/

abbrev SlotOk (o : Fin 3 → ℕ) : Prop := ∀ a, o a + S1x2048x1280.size a ≤ S8x2048x1280.size a
abbrev CellOk (o : Fin 1 → ℕ) : Prop := ∀ a, o a + S1.size a ≤ S8.size a
abbrev ChunkOk (o : Fin 2 → ℕ) : Prop := ∀ a, o a + S2048x1280.size a ≤ S2048x129280.size a

abbrev slotAt (o : Fin 3 → ℕ) (ho : SlotOk o) : Memref sig .tc .vmem S2048x1280 .fp8e4m3 :=
  (ringM.slice (Rect.unit (s := S8x2048x1280) o S1x2048x1280.size ho) (fun _ => rfl)).squeeze S2048x1280 squeezes_S1x2048x1280_S2048x1280
abbrev cellAt (o : Fin 1 → ℕ) (ho : CellOk o) : SemLoc sig :=
  SemLoc.dma ((cc0_scratch3.slice (Rect.unit (s := S8) o S1.size ho)).squeeze S_ squeezes_S1_S_).sem
abbrev chunkAt (o : Fin 2 → ℕ) (ho : ChunkOk o) : Memref sig .tc .hbm S2048x1280 .fp8e4m3 :=
  headM.slice (Rect.unit (s := S2048x129280) o S2048x1280.size ho) (fun _ => rfl)

theorem cell_inb (j : Fin 8) : CellOk ![j.val] := by
  have := j.isLt; intro a; fin_cases a; show j.val + 1 ≤ 8; omega

abbrev HeadBuf (c : Dev nD) : Type := Buf (Elt F) (headM.view.loc (c : Thread nD τ))

/-- One of the eight read shares of the head's codes, on the elements `S`. -/
abbrev headShare (c : Dev nD) (i : Fin 8) (S : Finset (Idx (headM.view.loc (c : Thread nD τ)))) (fh : HeadBuf (F := F) c) : sProp 𝕄 :=
  headM.view.loc (c : Thread nD τ) ↦[S]{Transfers.shareTok fullShare 8 i} fh

/-- Slot `j`'s read share: the shares are dealt out in turn, from share 5 on (the order the first eight transfers take them in). -/
abbrev headTok (c : Dev nD) (j : Fin 8) (S : Finset (Idx (headM.view.loc (c : Thread nD τ)))) (fh : HeadBuf (F := F) c) : sProp 𝕄 :=
  headM.view.loc (c : Thread nD τ) ↦[S]{Transfers.shareTok fullShare 8 (j + 5)} fh

/-- A free slot: its semaphore at zero, the slot at anything, its whole share of the head's codes. -/
abbrev freeAt (c : Dev nD) (fh : HeadBuf (F := F) c) (j : Fin 8) (oc : Fin 1 → ℕ) (hc : CellOk oc) (os : Fin 3 → ℕ) (hs : SlotOk os) : sProp 𝕄 :=
  iprop(semVal ((c : Thread nD τ), cellAt oc hc) 0
    ∗ (∃ f, (slotAt os hs).view.loc (c : Thread nD τ) ↦[(slotAt os hs).view.set]{fullShare} f)
    ∗ headTok c j Finset.univ fh)

/-- A slot in flight with a chunk: the flight delivers the slot holding the chunk, and gives back the share of the
    chunk; beside it the rest of the slot's share. -/
abbrev busyAt (c : Dev nD) (fh : HeadBuf (F := F) c) (j : Fin 8) (oc : Fin 1 → ℕ) (hc : CellOk oc) (os : Fin 3 → ℕ) (hs : SlotOk os)
    (ob : Fin 2 → ℕ) (hb : ChunkOk ob) : sProp 𝕄 :=
  iprop((∃ f, Transfers.Flight (countersEmb (U := Pipeline.UD sig nD τ)) (c : Thread nD τ) (cellAt oc hc) () 81920
      iprop(((slotAt os hs).view.loc (c : Thread nD τ) ↦[(slotAt os hs).view.set]{fullShare}
          (slotAt os hs).view.writes (Elt F) f [⟨Rect.whole S2048x1280, ReadAs.same.apply ((chunkAt ob hb).view.read (Elt F) fh)⟩])
        ∗ headTok c j (chunkAt ob hb).view.set fh))
    ∗ headTok c j (Finset.univ \ (chunkAt ob hb).view.set) fh)

theorem freeAt_congr (c : Dev nD) (fh : HeadBuf (F := F) c) (j : Fin 8) {oc oc' : Fin 1 → ℕ} {hc : CellOk oc} (hc' : CellOk oc')
    {os os' : Fin 3 → ℕ} {hs : SlotOk os} (hs' : SlotOk os') (ec : oc = oc') (es : os = os') :
    freeAt c fh j oc hc os hs = freeAt c fh j oc' hc' os' hs' := by
  subst ec es; rfl

theorem busyAt_congr (c : Dev nD) (fh : HeadBuf (F := F) c) (j : Fin 8) {oc oc' : Fin 1 → ℕ} {hc : CellOk oc} (hc' : CellOk oc')
    {os os' : Fin 3 → ℕ} {hs : SlotOk os} (hs' : SlotOk os') {ob ob' : Fin 2 → ℕ} {hb : ChunkOk ob} (hb' : ChunkOk ob')
    (ec : oc = oc') (es : os = os') (eb : ob = ob') :
    busyAt c fh j oc hc os hs ob hb = busyAt c fh j oc' hc' os' hs' ob' hb' := by
  subst ec es eb; rfl

/-- Slot `j` free; slot `j` in flight with chunk `b`. -/
def freeK (c : Dev nD) (fh : HeadBuf (F := F) c) (j : Fin 8) : sProp 𝕄 :=
  freeAt c fh j ![j.val] (cell_inb j) ![j.val, 0, 0] (slot_inb j)
def busyK (c : Dev nD) (fh : HeadBuf (F := F) c) (j : Fin 8) (b : Fin 101) : sProp 𝕄 :=
  busyAt c fh j ![j.val] (cell_inb j) ![j.val, 0, 0] (slot_inb j) ![0, 1280 * b.val] (chunk_inb b)

/-! ## The names the program computes at trip `k` -/

theorem freeK_eq (c : Dev nD) (fh : HeadBuf (F := F) c) (k : Fin k0_t2_loop.trips) (j : Fin 8) (hj : k.val % 8 = j.val) :
    freeK c fh j = freeAt c fh j (k0_off3 k) (k0_off3_inb k) (k0_off4 k) (k0_off4_inb k) :=
  freeAt_congr c fh j _ _ (by rw [k0_off3_eq, hj]) (by rw [k0_off4_eq, hj])

theorem busyK_eq (c : Dev nD) (fh : HeadBuf (F := F) c) (k : Fin k0_t2_loop.trips) (j : Fin 8) (hj : k.val % 8 = j.val)
    (b : Fin 101) (hb : b.val = k.val) :
    busyK c fh j b = busyAt c fh j (k0_off3 k) (k0_off3_inb k) (k0_off4 k) (k0_off4_inb k) (k0_off5 k) (k0_off5_inb k) :=
  busyAt_congr c fh j _ _ _ (by rw [k0_off3_eq, hj]) (by rw [k0_off4_eq, hj]) (by rw [k0_off5_eq, hb])

theorem busyK_next (c : Dev nD) (fh : HeadBuf (F := F) c) (k : Fin k0_t2_loop.trips) (h : k0_cond1 k = 1#1) (j : Fin 8) (hj : k.val % 8 = j.val)
    (b : Fin 101) (hb : b.val = k.val + 8) :
    busyK c fh j b = busyAt c fh j (k0_off3 k) (k0_off3_inb k) (k0_off4 k) (k0_off4_inb k) (k0_off64 k) (k0_off64_inb k h) :=
  busyAt_congr c fh j _ _ _ (by rw [k0_off3_eq, hj]) (by rw [k0_off4_eq, hj]) (by rw [k0_off64_eq, hb]; congr 2)

/-! ## The ring before trip `k` -/

/-- Slot `j` in its state: in flight with a chunk, or free. -/
def Slot (c : Dev nD) (fh : HeadBuf (F := F) c) (j : Fin 8) (x : Option (Fin 101)) : sProp 𝕄 :=
  match x with
  | some b => busyK c fh j b
  | none => freeK c fh j

/-- Before trip `k` slot `j` is in flight with the first chunk `b ≥ k` of `b % 8 = j`, if there is one. -/
def stAt (k : ℕ) (j : Fin 8) : Option (Fin 101) :=
  if h : k + (j.val + 8 - k % 8) % 8 < 101 then some ⟨k + (j.val + 8 - k % 8) % 8, h⟩ else none

theorem stAt_here (k : ℕ) (hk : k < 101) (j : Fin 8) (hj : k % 8 = j.val) : stAt k j = some ⟨k, hk⟩ := by
  have e : k + (j.val + 8 - k % 8) % 8 = k := by omega
  unfold stAt; rw [dif_pos (by omega)]; congr 1; exact Fin.ext e

theorem stAt_succ_pos (k : ℕ) (h : k + 8 < 101) (j : Fin 8) (hj : k % 8 = j.val) :
    stAt (k + 1) = Function.update (stAt k) j (some ⟨k + 8, h⟩) := by
  funext i
  by_cases hi : i = j
  · subst hi; rw [Function.update_self]
    have e : k + 1 + (i.val + 8 - (k + 1) % 8) % 8 = k + 8 := by have := i.isLt; omega
    unfold stAt; rw [dif_pos (by omega)]; congr 1; exact Fin.ext e
  · rw [Function.update_of_ne hi]
    have hne : i.val ≠ j.val := fun h => hi (Fin.ext h)
    have e : k + 1 + (i.val + 8 - (k + 1) % 8) % 8 = k + (i.val + 8 - k % 8) % 8 := by have := i.isLt; omega
    unfold stAt; simp only [e]

theorem stAt_succ_neg (k : ℕ) (h : ¬ k + 8 < 101) (j : Fin 8) (hj : k % 8 = j.val) :
    stAt (k + 1) = Function.update (stAt k) j none := by
  funext i
  by_cases hi : i = j
  · subst hi; rw [Function.update_self]
    have e : k + 1 + (i.val + 8 - (k + 1) % 8) % 8 = k + 8 := by have := i.isLt; omega
    unfold stAt; rw [dif_neg (by omega)]
  · rw [Function.update_of_ne hi]
    have hne : i.val ≠ j.val := fun h => hi (Fin.ext h)
    have e : k + 1 + (i.val + 8 - (k + 1) % 8) % 8 = k + (i.val + 8 - k % 8) % 8 := by have := i.isLt; omega
    unfold stAt; simp only [e]

theorem cond1_iff : ∀ k : Fin k0_t2_loop.trips, k0_cond1 k = 1#1 ↔ k.val + 8 < 101 := by decide +kernel

end Cert.Kernel.Hand

end
-- ==== Proof.Step.lean ====
/-
  Hand-written, untrusted. One trip of the chunk loop as a function of what the trip reads: the chunk of the head's
  codes that has landed in its slot, the head's scales, the dequantised activations and the target words. A chunk is
  five panels of 256 vocabulary columns; a panel's logits are eight products of 256 rows each added to zero in turn;
  each panel updates the running maximum, the running sum and the target's logit of every lane.
-/
module

public import proofs.«01_k».proof.Proof.Ring

@[expose] public section

set_option maxRecDepth 16384

noncomputable section

namespace Cert.Kernel.Hand

open Cert.Kernel Cert.Kernel.Gen
open Idealize.ShloMosaic Idealize.ShloMosaic.TcCoe

variable {F : FTy → Type} [FloatOps F]

/-- The trip's number, as the loop's induction variable computes it. -/
abbrev ivT (k : Fin k0_t2_loop.trips) : BitVec 32 := Scf.iv 0#32 1#32 k.val

/-- Where panel `n`'s block of rows `256 i …` of the chunk lies in the ring. -/
abbrev offW (k : Fin k0_t2_loop.trips) (i : Fin 8) (n : Fin 5) : Fin 3 → ℕ :=
  ![(Scalar.indexCast (Scalar.remsi (ivT k) 8#32)).toNat, 256 * i.val, 256 * n.val]
theorem offW_eq : ∀ (k : Fin k0_t2_loop.trips) (i : Fin 8) (n : Fin 5), offW k i n = ![k.val % 8, 256 * i.val, 256 * n.val] := by
  decide +kernel
theorem offW_inb (k : Fin k0_t2_loop.trips) (i : Fin 8) (n : Fin 5) : ∀ a, offW k i n a + S1x256x256.size a ≤ S8x2048x1280.size a := by
  rw [offW_eq]; intro a; have := i.isLt; have := n.isLt; fin_cases a
  · show k.val % 8 + 1 ≤ 8; omega
  · show 256 * i.val + 256 ≤ 2048; omega
  · show 256 * n.val + 256 ≤ 1280; omega

/-- Where the scale of the 128-row block `r` and the panel's column block `d` lies. -/
abbrev offS (k : Fin k0_t2_loop.trips) (r : Fin 16) (n : Fin 5) (d : Fin 2) : Fin 2 → ℕ :=
  ![r.val, (Scalar.indexCast (Scalar.addi (Scalar.addi (Scalar.muli (ivT k) 10#32) (BitVec.ofNat 32 (2 * n.val))) (BitVec.ofNat 32 d.val))).toNat]
theorem offS_eq (k : Fin k0_t2_loop.trips) (r : Fin 16) (n : Fin 5) (d : Fin 2) :
    offS k r n d = ![r.val, 10 * k.val + 2 * n.val + d.val] := by
  have h : ∀ (k : Fin k0_t2_loop.trips) (n : Fin 5) (d : Fin 2),
      (Scalar.indexCast (Scalar.addi (Scalar.addi (Scalar.muli (ivT k) 10#32) (BitVec.ofNat 32 (2 * n.val))) (BitVec.ofNat 32 d.val))).toNat
        = 10 * k.val + 2 * n.val + d.val := by decide +kernel
  unfold offS; rw [h]
theorem offS_inb (k : Fin k0_t2_loop.trips) (r : Fin 16) (n : Fin 5) (d : Fin 2) : ∀ a, offS k r n d a + S1x1.size a ≤ S16x1010.size a := by
  have hk : k.val < 101 := Nat.lt_of_lt_of_le k.isLt k0_t2_abs.2.1
  rw [offS_eq]; intro a; have := r.isLt; have := n.isLt; have := d.isLt; fin_cases a
  · show r.val + 1 ≤ 16; omega
  · show 10 * k.val + 2 * n.val + d.val + 1 ≤ 1010; omega

theorem offY_inb (i : Fin 8) : ∀ a, (![0, 256 * i.val] : Fin 2 → ℕ) a + S128x256.size a ≤ S128x2048.size a := by
  intro a; have := i.isLt; fin_cases a
  · show 0 + 128 ≤ 128; omega
  · show 256 * i.val + 256 ≤ 2048; omega

section
variable (c : Dev nD) (fh : HeadBuf (F := F) c) (k : Fin k0_t2_loop.trips)
  (fs : S16x1010.Idx → Elt F .f32)
  (fy : BufTy.Contents (Elt F) ybM.view.ty) (ft : BufTy.Contents (Elt F) tgtM.view.ty) (v41 : IVec S128x128 32)

/-- The ring with trip `k`'s chunk landed in its slot. -/
abbrev landed : BufTy.Contents (Elt F) ringM.view.ty :=
  (slotAt (k0_off4 k) (k0_off4_inb k)).view.writes (Elt F) (slotAt (k0_off4 k) (k0_off4_inb k)).view.junk
    [⟨Rect.whole S2048x1280, ReadAs.same.apply ((chunkAt (k0_off5 k) (k0_off5_inb k)).view.read (Elt F) fh)⟩]

def wBlk (n : Fin 5) (i : Fin 8) : Vec F S1x256x256 .fp8e4m3 :=
  View.readAt (Elt F) ringM.view (Rect.unit (s := S8x2048x1280) (offW k i n) S1x256x256.size (offW_inb k i n)).toLoadRect (landed c fh k)

def sBlk (n : Fin 5) (r : Fin 16) (d : Fin 2) : F .f32 :=
  fs ((Rect.unit (s := S16x1010) (offS k r n d) S1x1.size (offS_inb k r n d)).toLoadRect.idx
    (Shape.Idx.first (by show 0 < S1x1.numel; rw [numel1_S1x1]; exact Nat.one_pos)))

def yBlk (i : Fin 8) : Vec F S128x256 .bf16 :=
  View.readAt (Elt F) ybM.view (Rect.unit (s := S128x2048) ![0, 256 * i.val] S128x256.size (offY_inb i)).toLoadRect fy

/-- One product of a panel, added to what the earlier ones gave. -/
def accStep (n : Fin 5) (i : Fin 8) (r0 r1 : Fin 16) (acc : FVec F S128x256 .f32) : FVec F S128x256 .f32 :=
  addf acc (matmul dot_S128x256_S256x256_S128x256_1_0_0_1_n_n none (yBlk fy i)
    (k0_pay8 (wBlk c fh k n i) (sBlk k fs n r0 0) (sBlk k fs n r0 1) (sBlk k fs n r1 0) (sBlk k fs n r1 1))
    (constant S128x256 .f32 0x00000000#32))

/-- Panel `n`'s logits. -/
def panel (n : Fin 5) : FVec F S128x256 .f32 :=
  accStep c fh k fs fy n 7 14 15 <| accStep c fh k fs fy n 6 12 13 <| accStep c fh k fs fy n 5 10 11 <|
  accStep c fh k fs fy n 4 8 9 <| accStep c fh k fs fy n 3 6 7 <| accStep c fh k fs fy n 2 4 5 <|
  accStep c fh k fs fy n 1 2 3 <| accStep c fh k fs fy n 0 0 1 (broadcast S128x256 (Scalar.ofBits .f32 0x00000000#32))

end

abbrev Carry (F : FTy → Type) := FVec F S128x128 .f32 × FVec F S128x128 .f32 × FVec F S128x128 .f32

/-- The update of the running maximum, sum and target logit by one panel `a` whose first column is `base`. -/
def upd (v41 : IVec S128x128 32) (tg : Vec F S128x128 .i32) (base : BitVec 32) (a : FVec F S128x256 .f32) (x : Carry F) : Carry F :=
  let l0 : FVec F S128x128 .f32 := extractStridedSlice S128x128 ![0, 0] a slices_S128x256_o0_0_S128x128
  let l1 : FVec F S128x128 .f32 := extractStridedSlice S128x128 ![0, 128] a slices_S128x256_o0_128_S128x128
  let m' : FVec F S128x128 .f32 := maximumf x.1 (maximumf l0 l1)
  let col : IVec S128x128 32 := subi (subi tg v41) (broadcast S128x128 base)
  (m', addf (addf (mulf x.2.1 (exp (subf x.1 m'))) (exp (subf l0 m'))) (exp (subf l1 m')),
    select (cmpi .eq col (broadcast S128x128 128#32)) l1 (select (cmpi .eq col (broadcast S128x128 0#32)) l0 x.2.2))

section
variable (c : Dev nD) (fh : HeadBuf (F := F) c)
  (fs : S16x1010.Idx → Elt F .f32)
  (fy : BufTy.Contents (Elt F) ybM.view.ty) (ft : BufTy.Contents (Elt F) tgtM.view.ty) (v41 : IVec S128x128 32)

def updAt (k : Fin k0_t2_loop.trips) (n : Fin 5) (x : Carry F) : Carry F :=
  upd v41 (View.readAt (Elt F) tgtM.view (Rect.unit (s := S128x128) ![0, 0] S128x128.size inb_S128x128_S128x128_0_0).toLoadRect ft)
    (Scalar.addi (Scalar.muli (ivT k) 1280#32) (BitVec.ofNat 32 (256 * n.val))) (panel c fh k fs fy n) x

/-- One trip. -/
def stepT (k : Fin k0_t2_loop.trips) (x : Carry F) : Carry F :=
  updAt c fh fs fy ft v41 k 4 <| updAt c fh fs fy ft v41 k 3 <| updAt c fh fs fy ft v41 k 2 <|
  updAt c fh fs fy ft v41 k 1 <| updAt c fh fs fy ft v41 k 0 x

/-- The carried values before trip `k`. -/
def carryT (x : Carry F) : ℕ → Carry F
  | 0 => x
  | k + 1 => if h : k < k0_t2_loop.trips then stepT c fh fs fy ft v41 ⟨k, h⟩ (carryT x k) else carryT x k
end

end Cert.Kernel.Hand

end
-- ==== Proof.Trip.lean ====
/-
  Hand-written, untrusted. One trip of the chunk loop at a symbolic trip number, run by the executor, as a step of the
  loop's invariant: the ring in its state before the trip, what the trip reads, the carried values the steps so far give.
-/
module

public import proofs.«01_k».proof.Proof.Step

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Before trip `k`: the ring, the scales, the activations, the target words; the carried values are `carryT`'s. -/
def invT (c : Dev nD) (fh : HeadBuf (F := F) c) (arg3 : Memref sig .tc .smem S16x1010 .f32) (fs : BufTy.Contents (Elt F) arg3.view.ty)
    (fy : BufTy.Contents (Elt F) ybM.view.ty) (ft : BufTy.Contents (Elt F) tgtM.view.ty) (v41 : IVec S128x128 32) (x₀ : Carry F)
    (k : ℕ) (x : Carry F) : sProp 𝕄 :=
  iprop(Ring.AtW (σ := fun _ => Option (Fin 101)) (Slot c fh) (stAt k)
    ∗ (arg3.view.loc (c : Thread nD τ) ↦[arg3.view.set]{fullShare} fs)
    ∗ (ybM.view.loc (c : Thread nD τ) ↦[ybM.view.set]{fullShare} fy)
    ∗ (tgtM.view.loc (c : Thread nD τ) ↦[tgtM.view.set]{fullShare} ft)
    ∗ (∃ W, owes (c : Thread nD τ) 0 W)
    ∗ ⌜x = carryT c fh (arg3.view.read (Elt F) fs) fy ft v41 x₀ k⌝)

set_option sl_exec.resultNames true in
theorem tripT (c : Dev nD) (fh : HeadBuf (F := F) c)
    (arg0 : Memref sig .tc .smem S1x129 .i32) (harg0 : arg0.IsWhole) (arg1 : Memref sig .tc .vmem S128x2048 .fp8e4m3) (harg1 : arg1.IsWhole)
    (arg2 : Memref sig .tc .vmem S128x16 .f32) (harg2 : arg2.IsWhole) (arg3 : Memref sig .tc .smem S16x1010 .f32) (harg3 : arg3.IsWhole)
    (arg5 : Memref sig .tc .vmem S1x128 .f32) (harg5 : arg5.IsWhole) (v41 : IVec S128x128 32) (v197 : FVec F S128x128 .fp8e4m3)
    (fs : BufTy.Contents (Elt F) arg3.view.ty) (fy : BufTy.Contents (Elt F) ybM.view.ty) (ft : BufTy.Contents (Elt F) tgtM.view.ty) (x₀ : Carry F)
    (k : Fin k0_t2_loop.trips) (x : Carry F) :
    invT c fh arg3 fs fy ft v41 x₀ k.val x
    ⊢ wp frame (wpE (defs₀ (F := F)) Variants.none (c : Thread nD τ) none) Set.univ
        (k0_t2_body arg0 harg0 arg1 harg1 arg2 harg2 arg3 harg3 (Memref.whole main_arg3) (Memref.isWhole_whole _) arg5 harg5
          (Memref.whole cc0_scratch0) (Memref.isWhole_whole _) (Memref.whole cc0_scratch1) (Memref.isWhole_whole _)
          (Memref.whole cc0_scratch2) (Memref.isWhole_whole _) cc0_scratch3 v41 v197 k x)
        (invT c fh arg3 fs fy ft v41 x₀ (k.val + 1)) := by
  obtain ⟨m, s, tl⟩ := x
  have hk : k.val < 101 := Nat.lt_of_lt_of_le k.isLt k0_t2_abs.2.1
  have hj : k.val % 8 = (⟨k.val % 8, by omega⟩ : Fin 8).val := rfl
  generalize (⟨k.val % 8, by omega⟩ : Fin 8) = j at hj
  unfold invT
  rw [Ring.AtW_focus _ _ j, stAt_here k.val hk j hj]
  rw [show Slot c fh j (some ⟨k.val, hk⟩) = busyK c fh j ⟨k.val, hk⟩ from rfl, busyK_eq c fh k j hj ⟨k.val, hk⟩ rfl]
  iintro ⟨⟨⟨⟨%f, Hfl⟩, Ht⟩, Hrest⟩, Hs3, Hy, Htg, ⟨%W, HO⟩, %hx⟩
  unfold k0_t2_body
  sl_exec_parts
  sl_step
  have hs : carryT c fh (arg3.view.read (Elt F) fs) fy ft v41 x₀ (k.val + 1) = stepT c fh (arg3.view.read (Elt F) fs) fy ft v41 k (m, s, tl) := by
    rw [hx]; exact dif_pos k.isLt
  rw [hs]
  by_cases h1 : k0_cond1 k = 1#1
  · have h8 := (cond1_iff k).mp h1
    have hR : iprop(busyAt c fh j (k0_off3 k) (k0_off3_inb k) (k0_off4 k) (k0_off4_inb k) (k0_off64 k) (k0_off64_inb k h1) ∗ Ring.restW (Slot c fh) (stAt k.val) j)
        ⊢ Ring.AtW (Slot c fh) (stAt (k.val + 1)) := by
      rw [stAt_succ_pos k.val h8 j hj, ← busyK_next c fh k h1 j hj ⟨k.val + 8, h8⟩ rfl]
      exact Ring.AtW_update (Slot c fh) (stAt k.val) j (some ⟨k.val + 8, h8⟩)
    ihave if1 := (Entails.of_eq (Guarded.pos h1)) $$ if1
    isplitl [if1 Ht Hrest]
    · iapply hR
      isplitr [Hrest]
      · isplitl [if1]
        · iexists _; iexact if1
        · rw [gset.pos h1]; iexact Ht
      · iexact Hrest
    isplitl [Hs3]; · iexact Hs3
    isplitl [Hy]; · iexact Hy
    isplitl [Htg]; · iexact Htg
    isplitl [HO]; · iexists _; iexact HO
    ipureintro; rfl
  · have h8 : ¬ k.val + 8 < 101 := fun h => h1 ((cond1_iff k).mpr h)
    have hR : iprop(freeAt c fh j (k0_off3 k) (k0_off3_inb k) (k0_off4 k) (k0_off4_inb k) ∗ Ring.restW (Slot c fh) (stAt k.val) j)
        ⊢ Ring.AtW (Slot c fh) (stAt (k.val + 1)) := by
      rw [stAt_succ_neg k.val h8 j hj, ← freeK_eq c fh k j hj]
      exact Ring.AtW_update (Slot c fh) (stAt k.val) j none
    ihave if1 := (Entails.of_eq (Guarded.neg h1)) $$ if1
    icases if1 with ⟨Hd, Hc⟩
    isplitl [Hd Hc Ht Hrest]
    · iapply hR
      isplitr [Hrest]
      · isplitl [Hc]; · iexact Hc
        isplitl [Hd]; · iexists _; iexact Hd
        rw [gset.neg h1, Finset.sdiff_empty]; iexact Ht
      · iexact Hrest
    isplitl [Hs3]; · iexact Hs3
    isplitl [Hy]; · iexact Hy
    isplitl [Htg]; · iexact Htg
    isplitl [HO]; · iexists _; iexact HO
    ipureintro; rfl

end Cert.Kernel.Hand
end
-- ==== Proof.Targets.lean ====
/-
  Hand-written, untrusted. The first loop: it copies each row's target word from the list of ids across a row of the
  target array. Its invariant: before trip `k` the rows below `k` hold their words.
-/
module

public import proofs.«01_k».proof.Proof.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem word_inb (r : Fin 128) : ∀ a, (![0, r.val + 1] : Fin 2 → ℕ) a + S1x1.size a ≤ S1x129.size a := by
  have := r.isLt; intro a; fin_cases a
  · show 0 + 1 ≤ 1; omega
  · show r.val + 1 + 1 ≤ 129; omega

/-- The target word of row `r`: the id after it. -/
def wordOf (I : S1x129.Idx → Elt F .i32) (r : Fin 128) : Elt F .i32 :=
  I ((Rect.unit (s := S1x129) ![0, r.val + 1] S1x1.size (word_inb r)).toLoadRect.idx (Shape.Idx.first (by show 0 < S1x1.numel; rw [numel1_S1x1]; exact Nat.one_pos)))

theorem wordOf_at (I : S1x129.Idx → Elt F .i32) (r : Fin 128) (o : Fin 2 → ℕ)
    (ho : ∀ a, o a + S1x1.size a ≤ S1x129.size a) (e : o = ![0, r.val + 1]) :
    wordOf (F := F) I r = I ((Rect.unit (s := S1x129) o S1x1.size ho).toLoadRect.idx (Shape.Idx.first (by show 0 < S1x1.numel; rw [numel1_S1x1]; exact Nat.one_pos))) := by
  subst e; rfl

/-- The target array: each row's word across the row. -/
def tgtC (I : S1x129.Idx → Elt F .i32) : BufTy.Contents (Elt F) tgtM.view.ty := fun y : S128x128.Idx => wordOf (F := F) I (y 0)

/-- The place of a row's element in the row. -/
def rowIx (y : S128x128.Idx) : S1x128.Idx := fun a => match a with
  | 0 => (0 : Fin 1)
  | 1 => y 1

/-- Rows below `k` of the target array hold their words. -/
def rowsTo (arg0 : Memref sig .tc .smem S1x129 .i32) (X : BufTy.Contents (Elt F) arg0.view.ty)
    (arg7 : Memref sig .tc .vmem S128x128 .i32) (f : BufTy.Contents (Elt F) arg7.view.ty) (k : ℕ) : Prop :=
  ∀ y : S128x128.Idx, (y 0).val < k → arg7.view.read (Elt F) f y = wordOf (F := F) (arg0.view.read (Elt F) X) (y 0)

/-- All rows done, the array is the one the words make. -/
theorem tgt_done (arg0 : Memref sig .tc .smem S1x129 .i32) (X : BufTy.Contents (Elt F) arg0.view.ty)
    (f : BufTy.Contents (Elt F) tgtM.view.ty) (k : ℕ) (hk : 128 ≤ k) (h : rowsTo (F := F) arg0 X tgtM f k) : f = tgtC (arg0.view.read (Elt F) X) :=
  funext fun y : S128x128.Idx => h y (lt_of_lt_of_le (y 0).isLt hk)

abbrev invW (c : Dev nD) (arg0 : Memref sig .tc .smem S1x129 .i32) (X : BufTy.Contents (Elt F) arg0.view.ty)
    (arg7 : Memref sig .tc .vmem S128x128 .i32) (k : ℕ) (_ : Unit) : sProp 𝕄 :=
  iprop((arg0.view.loc (c : Thread nD τ) ↦[arg0.view.set]{fullShare} X)
    ∗ (∃ f, (arg7.view.loc (c : Thread nD τ) ↦[arg7.view.set]{fullShare} f) ∗ ⌜rowsTo (F := F) arg0 X arg7 f k⌝))

set_option warn.classDefReducibility false in
@[sl_loop] def loopInvW (𝒱 : Variants) (c : Dev nD) (bd : Option 𝒱.V) (E : Set ℕ) (arg0 : Memref sig .tc .smem S1x129 .i32) (harg0 : arg0.IsWhole) (arg1 : Memref sig .tc .vmem S128x2048 .fp8e4m3) (harg1 : arg1.IsWhole) (arg2 : Memref sig .tc .vmem S128x16 .f32) (harg2 : arg2.IsWhole) (arg3 : Memref sig .tc .smem S16x1010 .f32) (harg3 : arg3.IsWhole) (arg4 : Memref sig .tc .hbm S2048x129280 .fp8e4m3) (harg4 : arg4.IsWhole) (arg5 : Memref sig .tc .vmem S1x128 .f32) (harg5 : arg5.IsWhole) (arg6 : Memref sig .tc .vmem S128x2048 .bf16) (harg6 : arg6.IsWhole) (arg7 : Memref sig .tc .vmem S128x128 .i32) (harg7 : arg7.IsWhole) (arg8 : Memref sig .tc .vmem S8x2048x1280 .fp8e4m3) (harg8 : arg8.IsWhole) (arg9 : DmaSems sig S8)
    (X : BufTy.Contents (Elt F) arg0.view.ty) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 where
  inv := invW c arg0 X arg7
  step k acc := by
    have hk : k.val < 128 := Nat.lt_of_lt_of_le k.isLt k0_t1_abs.2.1
    unfold k0_t1_body
    iintro ⟨HR, ⟨%f, HW, %hf⟩⟩
    sl_exec
    sl_step
    isplitl [HR]; · iexact HR
    iexists _
    isplitl [HW]; · iexact HW
    ipureintro
    intro y hy
    by_cases h : (y 0).val = k.val
    · rw [View.read_writes_cons_hit_of_coords _ _ (Rect.unit (s := S128x128) (k0_off2 k) S1x128.size (k0_off2_inb k)) _ _ (rowIx y) y (by
        intro a
        show (y a).val = k0_off2 k a + 1 * (rowIx y a).val
        rw [k0_off2_eq]
        fin_cases a
        · show (y 0).val = k.val + 1 * 0; omega
        · show (y 1).val = 0 + 1 * (y 1).val; omega)]
      show _ = wordOf (F := F) (arg0.view.read (Elt F) X) (y 0)
      rw [wordOf_at (F := F) (arg0.view.read (Elt F) X) (y 0) (k0_off1 k) (k0_off1_inb k) (by rw [k0_off1_eq, h])]
      rfl
    · rw [View.read_writes_cons_miss_of_axis _ _ _ _ y 0 k.val 1 (by rw [show (Rect.unit (s := S128x128) (k0_off2 k) S1x128.size (k0_off2_inb k)).off = k0_off2 k from rfl, k0_off2_eq]; rfl) rfl rfl (by omega)]
      exact hf y (by omega)

end Cert.Kernel.Hand
-- ==== Proof.Split.lean ====
/-
  Hand-written, untrusted. The ring buffer as its eight slots, and the head's codes as eight read shares: all slots free,
  from the buffers held whole and the eight semaphore cells at zero, and back.
-/
module

public import proofs.«01_k».proof.Proof.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The ring buffer as its eight slots, the head's codes as eight read shares -/

/-- The elements of slot `b`. -/
abbrev slotSet (b : Fin 8) : Finset S8x2048x1280.Idx := (slotAt ![b.val, 0, 0] (slot_inb b)).view.set

theorem slotSet_eq (b : Fin 8) : slotSet b = (Rect.unit (s := S8x2048x1280) ![b.val, 0, 0] S1x2048x1280.size (slot_inb b)).set :=
  (View.set_reshape _ _).trans (View.set_slice_whole _ _)

theorem ring_disjoint (b b' : Fin 8) (h : b ≠ b') : Disjoint (slotSet b) (slotSet b') := by
  rw [slotSet_eq, slotSet_eq]
  exact Ring.lead_disjoint (s := S8x2048x1280) (NB := 8) 0 1 (fun b => ![b.val, 0, 0]) S1x2048x1280.size slot_inb (fun b => (Nat.one_mul _).symm) rfl b b' h

theorem ring_cover : Finset.univ.biUnion slotSet = Finset.univ := by
  rw [show slotSet = fun b => (Rect.unit (s := S8x2048x1280) ![b.val, 0, 0] S1x2048x1280.size (slot_inb b)).set from funext slotSet_eq]
  exact Ring.lead_cover (s := S8x2048x1280) (NB := 8) 0 1 (fun b => ![b.val, 0, 0]) S1x2048x1280.size slot_inb (fun b => (Nat.one_mul _).symm)
    (fun b a ha => by fin_cases a; exact absurd rfl ha; rfl; rfl) rfl (fun a ha => by fin_cases a; exact absurd rfl ha; rfl; rfl) rfl

theorem freeK_all (c : Dev nD) (fh : HeadBuf (F := F) c) :
    bigSep Finset.univ (fun j : Fin 8 => freeK c fh j)
      = (iprop(bigSep Finset.univ (fun j : Fin 8 => semVal ((c : Thread nD τ), cellAt ![j.val] (cell_inb j)) 0)
        ∗ bigSep Finset.univ (fun j : Fin 8 => iprop(∃ f, ringM.view.loc (c : Thread nD τ) ↦[(slotAt ![j.val, 0, 0] (slot_inb j)).view.set]{fullShare} f))
        ∗ bigSep Finset.univ (fun j : Fin 8 => headTok c j Finset.univ fh)) : sProp 𝕄) := by
  rw [show (fun j : Fin 8 => freeK c fh j) = fun j => iprop(semVal ((c : Thread nD τ), cellAt ![j.val] (cell_inb j)) 0
    ∗ (iprop(∃ f, ringM.view.loc (c : Thread nD τ) ↦[(slotAt ![j.val, 0, 0] (slot_inb j)).view.set]{fullShare} f) ∗ headTok c j Finset.univ fh)) from rfl,
    bigSep_sep', bigSep_sep']

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  BI.bigSep_univ_eq_bigSepL [0, 1, 2, 3, 4, 5, 6, 7] (by decide) (by decide) Φ

theorem toks_eq (c : Dev nD) (fh : HeadBuf (F := F) c) :
    bigSep Finset.univ (fun j : Fin 8 => headTok c j Finset.univ fh) = bigSep Finset.univ (fun i : Fin 8 => headShare c i Finset.univ fh) := by
  rw [bigSep_eight, BI.bigSep_univ_eq_bigSepL [5, 6, 7, 0, 1, 2, 3, 4] (by decide) (by decide) (fun i : Fin 8 => headShare c i Finset.univ fh)]
  rfl

/-- All slots free, from the buffers held whole and the eight cells at zero; -/
theorem free_split (c : Dev nD) (fh : HeadBuf (F := F) c) :
    (iprop((∃ f, ringM.view.loc (c : Thread nD τ) ↦{fullShare} f) ∗ (headM.view.loc (c : Thread nD τ) ↦{fullShare} fh)
      ∗ bigSep Finset.univ (fun j : Fin 8 => semVal ((c : Thread nD τ), cellAt ![j.val] (cell_inb j)) 0)) : sProp 𝕄)
    ⊢ iprop(bigSep Finset.univ (fun j : Fin 8 => freeK c fh j)
      ∗ (headM.view.loc (c : Thread nD τ) ↦{Transfers.shareDrop fullShare 8} fh)) := by
  rw [freeK_all, toks_eq]
  iintro ⟨⟨%f, HR⟩, HH, HS⟩
  ihave ⟨HD, HT⟩ := (Transfers.pointsTo_toks_split fullShare 8) $$ HH
  isplitr [HD]
  · isplitl [HS]; · iexact HS
    isplitl [HR]
    · iapply (show (ringM.view.loc (c : Thread nD τ) ↦{fullShare} f : sProp 𝕄) ⊢ bigSep Finset.univ (fun j : Fin 8 => iprop(∃ f, ringM.view.loc (c : Thread nD τ) ↦[(slotAt ![j.val, 0, 0] (slot_inb j)).view.set]{fullShare} f)) from
        (Entails.of_eq (Ring.pointsTo_blocks slotSet ring_disjoint ring_cover f)).trans
          (bigSep_mono fun j _ => (show (_ : sProp 𝕄) ⊢ _ by iintro H; iexists f; iexact H)))
      iexact HR
    · iexact HT
  · iexact HD

/-- and back. -/
theorem free_join (c : Dev nD) (fh : HeadBuf (F := F) c) (f₀ : Buf (Elt F) (ringM.view.loc (c : Thread nD τ))) :
    iprop(bigSep Finset.univ (fun j : Fin 8 => freeK c fh j)
      ∗ (headM.view.loc (c : Thread nD τ) ↦{Transfers.shareDrop fullShare 8} fh))
    ⊢ (iprop((∃ f, ringM.view.loc (c : Thread nD τ) ↦{fullShare} f) ∗ (headM.view.loc (c : Thread nD τ) ↦{fullShare} fh)
      ∗ bigSep Finset.univ (fun j : Fin 8 => semVal ((c : Thread nD τ), cellAt ![j.val] (cell_inb j)) 0)) : sProp 𝕄) := by
  rw [freeK_all, toks_eq]
  iintro ⟨⟨HS, HR, HT⟩, HD⟩
  isplitl [HR]
  · iapply (Ring.pointsTo_blocks_join_exists slotSet ring_disjoint ring_cover f₀)
    iexact HR
  isplitr [HS]
  · iapply (Transfers.pointsTo_toks_join fullShare 8)
    isplitl [HD]; · iexact HD
    iexact HT
  · iexact HS

end Cert.Kernel.Hand
-- ==== Proof.Acts.lean ====
/-
  Hand-written, untrusted. The activations the kernel keeps in bf16: sixteen groups of 128 columns, each the group's codes
  times its column of scales.
-/
module

public import proofs.«01_k».proof.Proof.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem grp_inb (g : Fin 16) : ∀ a, (![0, 128 * g.val] : Fin 2 → ℕ) a + S128x128.size a ≤ S128x2048.size a := by
  have := g.isLt; intro a; fin_cases a
  · show 0 + 128 ≤ 128; omega
  · show 128 * g.val + 128 ≤ 2048; omega

theorem scl_inb (g : Fin 16) : ∀ a, (![0, g.val] : Fin 2 → ℕ) a + S128x1.size a ≤ S128x16.size a := by
  have := g.isLt; intro a; fin_cases a
  · show 0 + 128 ≤ 128; omega
  · show g.val + 1 ≤ 16; omega

variable (C1 : S128x2048.Idx → Elt F .fp8e4m3) (C2 : S128x16.Idx → Elt F .f32)

/-- Group `g`. -/
def yGrp (g : Fin 16) : FVec F S128x128 .bf16 :=
  k0_pay140 (fun x => C1 ((Rect.unit (s := S128x2048) ![0, 128 * g.val] S128x128.size (grp_inb g)).toLoadRect.idx x))
    (fun x => C2 ((Rect.unit (s := S128x16) ![0, g.val] S128x1.size (scl_inb g)).toLoadRect.idx x))

/-- A column's place in its group. -/
def grpIx (y : S128x2048.Idx) : S128x128.Idx := fun a => match a with
  | 0 => y 0
  | 1 => (⟨(y 1).val % 128, Nat.mod_lt _ (by omega)⟩ : Fin 128)

def grpOf (y : S128x2048.Idx) : Fin 16 := ⟨(y 1).val / 128, by have : (y 1).val < 2048 := (y 1).isLt; omega⟩

/-- The activations. -/
def ybC : BufTy.Contents (Elt F) ybM.view.ty := fun y : S128x2048.Idx => yGrp C1 C2 (grpOf y) (grpIx y)

/-- The store of group `g`. -/
def yPiece (g : Fin 16) : View.Piece (Elt F) S128x2048 .bf16 := ⟨Rect.unit (s := S128x2048) ![0, 128 * g.val] S128x128.size (grp_inb g), yGrp C1 C2 g⟩

/-- The sixteen stores leave the activations. -/
theorem yb_done (f : BufTy.Contents (Elt F) ybM.view.ty) :
    ybM.view.writes (Elt F) f ([15, 14, 13, 12, 11, 10, 9, 8, 7, 6, 5, 4, 3, 2, 1, 0].map (yPiece C1 C2)) = ybC C1 C2 := by
  refine funext fun y : S128x2048.Idx => ?_
  have hr : ∀ g : BufTy.Contents (Elt F) ybM.view.ty, g y = View.read (Elt F) ybM.view g y := fun g => rfl
  refine (hr _).trans ?_
  refine View.read_writes_apply_of_pieces ybM.view f (fun y : S128x2048.Idx => yGrp C1 C2 (grpOf y) (grpIx y)) _ ?_ y ?_
  · intro p hp x
    obtain ⟨g, -, rfl⟩ := List.mem_map.mp hp
    change S128x128.Idx at x
    have h1 : (x 1).val < 128 := (x 1).isLt
    have e0 : grpOf ((Rect.unit (s := S128x2048) ![0, 128 * g.val] S128x128.size (grp_inb g)).emb x) = g :=
      Fin.ext (show (128 * g.val + 1 * (x 1).val) / 128 = g.val by omega)
    have e1 : grpIx ((Rect.unit (s := S128x2048) ![0, 128 * g.val] S128x128.size (grp_inb g)).emb x) = x := by
      funext a; fin_cases a
      · exact Fin.ext (show 0 + 1 * (x 0).val = (x 0).val by omega)
      · exact Fin.ext (show (128 * g.val + 1 * (x 1).val) % 128 = (x 1).val by omega)
    show yGrp C1 C2 g x = yGrp C1 C2 (grpOf ((Rect.unit (s := S128x2048) ![0, 128 * g.val] S128x128.size (grp_inb g)).emb x)) (grpIx ((Rect.unit (s := S128x2048) ![0, 128 * g.val] S128x128.size (grp_inb g)).emb x))
    rw [e0, e1]
  · refine ⟨yPiece C1 C2 (grpOf y), List.mem_map.mpr ⟨grpOf y, by generalize grpOf y = g; revert g; decide, rfl⟩, ?_⟩
    refine (Rect.mem_set_unit (inb := grp_inb (grpOf y))).mpr fun a => ?_
    have h0 : (y 0).val < 128 := (y 0).isLt
    have h1 : (y 1).val < 2048 := (y 1).isLt
    fin_cases a
    · show 0 ≤ (y 0).val ∧ (y 0).val < 0 + 128; omega
    · show 128 * ((y 1).val / 128) ≤ (y 1).val ∧ (y 1).val < 128 * ((y 1).val / 128) + 128; omega

end Cert.Kernel.Hand
-- ==== Proof.Body.lean ====
/-
  Hand-written, untrusted. The kernel's body, run by the executor: the targets, the eight first transfers, the
  activations, the chunk loop by its invariant, the loss.
-/
module

public import proofs.«01_k».proof.Proof.Trip
public import proofs.«01_k».proof.Proof.Targets
public import proofs.«01_k».proof.Proof.Split
public import proofs.«01_k».proof.Proof.Acts

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A slot to be started: its semaphore at zero, the slot at anything. -/
abbrev startAt (c : Dev nD) (oc : Fin 1 → ℕ) (hc : CellOk oc) (os : Fin 3 → ℕ) (hs : SlotOk os) : sProp 𝕄 :=
  iprop(semVal ((c : Thread nD τ), cellAt oc hc) 0
    ∗ (∃ f, (slotAt os hs).view.loc (c : Thread nD τ) ↦[(slotAt os hs).view.set]{fullShare} f))

/-- The eight slots, free, under the names the program starts their transfers by; their shares of the head's codes
    listed apart, in the order the transfers take them. -/
theorem free_names (c : Dev nD) (fh : HeadBuf (F := F) c) :
    bigSep Finset.univ (fun j : Fin 8 => freeK c fh j)
      ⊢ iprop((startAt c ![0] inb_S8_S1_0 ![0, 0, 0] inb_S8x2048x1280_S1x2048x1280_0_0_0
        ∗ startAt c ![1] inb_S8_S1_1 ![1, 0, 0] inb_S8x2048x1280_S1x2048x1280_1_0_0
        ∗ startAt c ![2] inb_S8_S1_2 ![2, 0, 0] inb_S8x2048x1280_S1x2048x1280_2_0_0
        ∗ startAt c ![3] inb_S8_S1_3 ![3, 0, 0] inb_S8x2048x1280_S1x2048x1280_3_0_0
        ∗ startAt c ![4] inb_S8_S1_4 ![4, 0, 0] inb_S8x2048x1280_S1x2048x1280_4_0_0
        ∗ startAt c ![5] inb_S8_S1_5 ![5, 0, 0] inb_S8x2048x1280_S1x2048x1280_5_0_0
        ∗ startAt c ![6] inb_S8_S1_6 ![6, 0, 0] inb_S8x2048x1280_S1x2048x1280_6_0_0
        ∗ startAt c ![7] inb_S8_S1_7 ![7, 0, 0] inb_S8x2048x1280_S1x2048x1280_7_0_0)
        ∗ (headShare c 0 Finset.univ fh ∗ headShare c 1 Finset.univ fh ∗ headShare c 2 Finset.univ fh ∗ headShare c 3 Finset.univ fh ∗ headShare c 4 Finset.univ fh ∗ headShare c 5 Finset.univ fh ∗ headShare c 6 Finset.univ fh ∗ headShare c 7 Finset.univ fh)) := by
  have e : bigSep Finset.univ (fun j : Fin 8 => startAt (F := F) c ![j.val] (cell_inb j) ![j.val, 0, 0] (slot_inb j)) =
      iprop(bigSep Finset.univ (fun j : Fin 8 => semVal ((c : Thread nD τ), cellAt ![j.val] (cell_inb j)) 0)
        ∗ bigSep Finset.univ (fun j : Fin 8 => iprop(∃ f, ringM.view.loc (c : Thread nD τ) ↦[(slotAt ![j.val, 0, 0] (slot_inb j)).view.set]{fullShare} f))) :=
    bigSep_sep' _ _ _
  rw [bigSep_eight] at e
  refine BIBase.Entails.trans ?_ (Entails.of_eq (congrArg₂ (fun P Q : sProp 𝕄 => iprop(P ∗ Q)) e.symm
    (BI.bigSep_univ_eq_bigSepL [0, 1, 2, 3, 4, 5, 6, 7] (by decide) (by decide) (fun j : Fin 8 => headShare c j Finset.univ fh))))
  rw [freeK_all, toks_eq]
  iintro ⟨HS, HR, HT⟩
  isplitr [HT]
  · isplitl [HS]; · iexact HS
    iexact HR
  · iexact HT

/-- The eight slots in flight with the first eight chunks, under the names the program started the transfers by. -/
theorem busy_names (c : Dev nD) (fh : HeadBuf (F := F) c) :
    Ring.AtW (σ := fun _ => Option (Fin 101)) (Slot c fh) (stAt 0)
      = iprop(busyAt c fh 0 ![0] inb_S8_S1_0 ![0, 0, 0] inb_S8x2048x1280_S1x2048x1280_0_0_0 ![0, 0] inb_S2048x129280_S2048x1280_0_0
        ∗ busyAt c fh 1 ![1] inb_S8_S1_1 ![1, 0, 0] inb_S8x2048x1280_S1x2048x1280_1_0_0 ![0, 1280] inb_S2048x129280_S2048x1280_0_1280
        ∗ busyAt c fh 2 ![2] inb_S8_S1_2 ![2, 0, 0] inb_S8x2048x1280_S1x2048x1280_2_0_0 ![0, 2560] inb_S2048x129280_S2048x1280_0_2560
        ∗ busyAt c fh 3 ![3] inb_S8_S1_3 ![3, 0, 0] inb_S8x2048x1280_S1x2048x1280_3_0_0 ![0, 3840] inb_S2048x129280_S2048x1280_0_3840
        ∗ busyAt c fh 4 ![4] inb_S8_S1_4 ![4, 0, 0] inb_S8x2048x1280_S1x2048x1280_4_0_0 ![0, 5120] inb_S2048x129280_S2048x1280_0_5120
        ∗ busyAt c fh 5 ![5] inb_S8_S1_5 ![5, 0, 0] inb_S8x2048x1280_S1x2048x1280_5_0_0 ![0, 6400] inb_S2048x129280_S2048x1280_0_6400
        ∗ busyAt c fh 6 ![6] inb_S8_S1_6 ![6, 0, 0] inb_S8x2048x1280_S1x2048x1280_6_0_0 ![0, 7680] inb_S2048x129280_S2048x1280_0_7680
        ∗ busyAt c fh 7 ![7] inb_S8_S1_7 ![7, 0, 0] inb_S8x2048x1280_S1x2048x1280_7_0_0 ![0, 8960] inb_S2048x129280_S2048x1280_0_8960) :=
  bigSep_eight _

theorem stAt_end (j : Fin 8) : stAt 101 j = none := by
  unfold stAt; exact dif_neg (by omega)

theorem free_end (c : Dev nD) (fh : HeadBuf (F := F) c) :
    Ring.AtW (σ := fun _ => Option (Fin 101)) (Slot c fh) (stAt 101) = bigSep Finset.univ (fun j : Fin 8 => freeK c fh j) := by
  show bigSep Finset.univ (fun j => Slot c fh j (stAt 101 j)) = _
  simp only [stAt_end]; rfl

/-- The lane numbers. -/
abbrev lanes : IVec S128x128 32 := iota .tc S128x128 32 [1] iota_S128x128_d1_w32

/-- The carried values when the chunk loop ends. -/
def lastC (c : Dev nD) (fh : HeadBuf (F := F) c) (I : S1x129.Idx → Elt F .i32) (C1 : S128x2048.Idx → Elt F .fp8e4m3)
    (C2 : S128x16.Idx → Elt F .f32) (fs : S16x1010.Idx → Elt F .f32) : Carry F :=
  carryT c fh fs (ybC C1 C2) (tgtC I) lanes (k0_pay160, k0_pay161, k0_pay162) k0_t2_loop.trips

/-- The loss, of the ids, the activations' codes and scales, the head's codes and scales. -/
def lossV (c : Dev nD) (fh : HeadBuf (F := F) c) (I : S1x129.Idx → Elt F .i32) (C1 : S128x2048.Idx → Elt F .fp8e4m3)
    (C2 : S128x16.Idx → Elt F .f32) (fs : S16x1010.Idx → Elt F .f32) : FVec F S1x128 .f32 :=
  k0_pay1 (k0_pay164 (lastC c fh I C1 C2 fs).1 (lastC c fh I C1 C2 fs).2.1 (lastC c fh I C1 C2 fs).2.2) (Scalar.ofBits .f32 0x413C50D7#32)

set_option sl_exec.resultNames true in
theorem bodyT (c : Dev nD) (fh : HeadBuf (F := F) c)
    (arg0 : Memref sig .tc .smem S1x129 .i32) (harg0 : arg0.IsWhole) (arg1 : Memref sig .tc .vmem S128x2048 .fp8e4m3) (harg1 : arg1.IsWhole)
    (arg2 : Memref sig .tc .vmem S128x16 .f32) (harg2 : arg2.IsWhole) (arg3 : Memref sig .tc .smem S16x1010 .f32) (harg3 : arg3.IsWhole)
    (arg5 : Memref sig .tc .vmem S1x128 .f32) (harg5 : arg5.IsWhole)
    (X0 : BufTy.Contents (Elt F) arg0.view.ty) (X1 : BufTy.Contents (Elt F) arg1.view.ty) (X2 : BufTy.Contents (Elt F) arg2.view.ty)
    (fs : BufTy.Contents (Elt F) arg3.view.ty) :
    iprop(bigSep Finset.univ (fun j : Fin 8 => freeK c fh j)
      ∗ (arg0.view.loc (c : Thread nD τ) ↦[arg0.view.set]{fullShare} X0)
      ∗ (arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} fs)
      ∗ (∃ f, arg5.view.loc (c : Thread nD τ) ↦[arg5.view.set]{fullShare} f)
      ∗ (∃ f, ybM.view.loc (c : Thread nD τ) ↦[ybM.view.set]{fullShare} f)
      ∗ (∃ f, tgtM.view.loc (c : Thread nD τ) ↦[tgtM.view.set]{fullShare} f)
      ∗ (∃ W, owes (c : Thread nD τ) 0 W))
    ⊢ wp frame (wpE (defs₀ (F := F)) Variants.none (c : Thread nD τ) none) Set.univ
        (cc0_mtp_head arg0 harg0 arg1 harg1 arg2 harg2 arg3 harg3 (Memref.whole main_arg3) (Memref.isWhole_whole _) arg5 harg5
          (Memref.whole cc0_scratch0) (Memref.isWhole_whole _) (Memref.whole cc0_scratch1) (Memref.isWhole_whole _)
          (Memref.whole cc0_scratch2) (Memref.isWhole_whole _) cc0_scratch3)
        (fun _ => iprop(bigSep Finset.univ (fun j : Fin 8 => freeK c fh j)
          ∗ (arg0.view.loc (c : Thread nD τ) ↦[arg0.view.set]{fullShare} X0)
          ∗ (arg1.view.loc (c : Thread nD τ) ↦[arg1.view.set]{fullShare} X1)
          ∗ (arg2.view.loc (c : Thread nD τ) ↦[arg2.view.set]{fullShare} X2)
          ∗ (arg3.view.loc (c : Thread nD τ) ↦[arg3.view.set]{fullShare} fs)
          ∗ owns (c : Thread nD τ) arg5 fullShare
              (lossV c fh (arg0.view.read (Elt F) X0) (arg1.view.read (Elt F) X1) (arg2.view.read (Elt F) X2) (arg3.view.read (Elt F) fs))
          ∗ (∃ f, ybM.view.loc (c : Thread nD τ) ↦[ybM.view.set]{fullShare} f)
          ∗ (∃ f, tgtM.view.loc (c : Thread nD τ) ↦[tgtM.view.set]{fullShare} f)
          ∗ (∃ W, owes (c : Thread nD τ) 0 W))) := by
  rw [cc0_mtp_head_eq_skeleton]; unfold cc0_mtp_head_skel
  iintro ⟨HF, H0, H1, H2, H3, ⟨%_, H5⟩, ⟨%_, Hy⟩, ⟨%f7, Hw⟩, ⟨%W, HO⟩⟩
  ihave HF' := (free_names c fh) $$ HF
  icases HF' with ⟨⟨⟨S0, %_, F0⟩, ⟨S1, %_, F1⟩, ⟨S2, %_, F2⟩, ⟨S3, %_, F3⟩, ⟨S4, %_, F4⟩, ⟨S5, %_, F5⟩, ⟨S6, %_, F6⟩, ⟨S7, %_, F7⟩⟩, T0, T1, T2, T3, T4, T5, T6, T7⟩
  sl_exec
  sl_for (invW c arg0 X0 tgtM) $$ [H0 Hw]
  case region =>
    intro k acc
    exact (loopInvW Variants.none c none Set.univ arg0 harg0 arg1 harg1 arg2 harg2 arg3 harg3 (Memref.whole main_arg3) (Memref.isWhole_whole _) arg5 harg5
          (Memref.whole cc0_scratch0) (Memref.isWhole_whole _) (Memref.whole cc0_scratch1) (Memref.isWhole_whole _)
          (Memref.whole cc0_scratch2) (Memref.isWhole_whole _) cc0_scratch3 X0).step k acc
  · isplitl [H0]; · iexact H0
    iexists _; isplitl [Hw]; · iexact Hw
    ipureintro; intro y hy; exact absurd hy (Nat.not_lt_zero _)
  iintro %_ ⟨H0, ⟨%ft, Hw, %hft⟩⟩
  sl_exec
  rw [tgt_done arg0 X0 ft _ (by decide) hft]
  rw [show bodyT.sl.Hy_16 arg1 arg2 X1 X2 = [15, 14, 13, 12, 11, 10, 9, 8, 7, 6, 5, 4, 3, 2, 1, 0].map
    (yPiece (arg1.view.read (Elt F) X1) (arg2.view.read (Elt F) X2)) from rfl]
  ihave Hy' := (Entails.of_eq (congrArg (fun f => (ybM.view.loc (c : Thread nD τ) ↦[ybM.view.set]{fullShare} f : sProp 𝕄))
    (yb_done (arg1.view.read (Elt F) X1) (arg2.view.read (Elt F) X2) _))) $$ Hy
  sl_for (invT c fh arg3 fs (ybC (arg1.view.read (Elt F) X1) (arg2.view.read (Elt F) X2)) (tgtC (arg0.view.read (Elt F) X0)) lanes (k0_pay160, k0_pay161, k0_pay162))
    $$ [S0 T0 S1 T1 S2 T2 S3 T3 S4 T4 S5 T5 S6 T6 S7 T7 H3 Hy' Hw HO]
  case region =>
    intro k acc
    exact tripT c fh arg0 harg0 arg1 harg1 arg2 harg2 arg3 harg3 arg5 harg5 lanes _ fs _ _ _ k acc
  · unfold invT
    rw [busy_names]
    isplitl [S0 T0 S1 T1 S2 T2 S3 T3 S4 T4 S5 T5 S6 T6 S7 T7]
    · isplitl [S0 T5]
      · isplitl [S0]; · iexists _; iexact S0
        iexact T5
      isplitl [S1 T6]
      · isplitl [S1]; · iexists _; iexact S1
        iexact T6
      isplitl [S2 T7]
      · isplitl [S2]; · iexists _; iexact S2
        iexact T7
      isplitl [S3 T0]
      · isplitl [S3]; · iexists _; iexact S3
        iexact T0
      isplitl [S4 T1]
      · isplitl [S4]; · iexists _; iexact S4
        iexact T1
      isplitl [S5 T2]
      · isplitl [S5]; · iexists _; iexact S5
        iexact T2
      isplitl [S6 T3]
      · isplitl [S6]; · iexists _; iexact S6
        iexact T3
      isplitl [S7]; · iexists _; iexact S7
      iexact T4
    isplitl [H3]; · iexact H3
    isplitl [Hy']; · iexact Hy'
    isplitl [Hw]; · iexact Hw
    isplitl [HO]; · iexists _; iexact HO
    ipureintro; rfl
  iintro %x HI
  unfold invT
  icases HI with ⟨HF, H3, Hy, Hw, ⟨%W', HO⟩, %hx⟩
  sl_exec
  sl_step
  have hx' : x = lastC c fh (arg0.view.read (Elt F) X0) (arg1.view.read (Elt F) X1) (arg2.view.read (Elt F) X2) (arg3.view.read (Elt F) fs) := hx
  isplitl [HF]
  · iapply (Entails.of_eq (free_end c fh)); iexact HF
  isplitl [H0]; · iexact H0
  isplitl [H1]; · iexact H1
  isplitl [H2]; · iexact H2
  isplitl [H3]; · iexact H3
  isplitl [H5]
  · unfold owns; iexists _; isplitr [H5]; rotate_left; · iexact H5
    ipureintro
    rw [hx']
    funext y
    rw [View.read_writes_cons_hit_of_coords _ _ (Rect.unit (s := S1x128) ![0, 0] S1x128.size inb_S1x128_S1x128_0_0) _ _ y y (by
      intro a
      fin_cases a
      · show (y 0).val = 0 + 1 * (y 0).val; omega
      · show (y 1).val = 0 + 1 * (y 1).val; omega)]
    rfl
  isplitl [Hy]; · iexists _; iexact Hy
  isplitl [Hw]; · iexists _; iexact Hw
  iexists _; iexact HO

end Cert.Kernel.Hand
-- ==== Proof.Frame.lean ====
/-
  Hand-written, untrusted. The launch: the ring's slots and read shares come from the scoped buffers, the eight
  semaphores at zero and the head's codes; the body's run (Body.lean) gives the whole program's: every argument ends as it
  was, every semaphore at zero, and the result is `lossV` of the arguments.
-/
module

public import proofs.«01_k».proof.Proof.Body
public import Idealize.ShloMosaic.Lib.Pipeline.Value
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the kernel call, at the transfers' resources -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's own resources -/

/-- The ring's eight semaphores. -/
abbrev osem0 : Fin 8 → SemLoc sig := fun j =>
  (![SemLoc.dma 5, SemLoc.dma 6, SemLoc.dma 7, SemLoc.dma 8, SemLoc.dma 9, SemLoc.dma 10, SemLoc.dma 11, SemLoc.dma 12] : Fin 8 → SemLoc sig) j
theorem ownSemFacts0 : Pipeline.OwnSemFacts spec0 osem0 := by decide
theorem osem0_eq : ∀ j : Fin 8, osem0 j = cellAt ![j.val] (cell_inb j) := by
  intro j; fin_cases j <;> rfl
theorem ownSems00_eq (c : Dev nD) :
    (Pipeline.ownSems0 (Ix := Unit) (Name := ℕ) (U := Pipeline.UD sig nD τ) (Lvl := ℕ) (Val := Elt F) (τ := τ) osem0 c : sProp 𝕄)
      = bigSep Finset.univ (fun j : Fin 8 => semVal ((c : Thread nD τ), cellAt ![j.val] (cell_inb j)) 0) := by
  unfold Pipeline.ownSems0
  exact congrArg (bigSep Finset.univ) (funext fun j => by rw [osem0_eq])

/-- The one operand left in HBM: the head's codes, which the body's transfers read. -/
def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = (headM.view.loc (c : Thread nD τ) ↦{fullShare} V m c main_arg3) := by
  rw [BI.bigSep_eq_bigSepL_of_eq [main_arg3] (by decide) (by decide)]; rfl

theorem PhiD_eq (c : Dev nD) :
    (Pipeline.ΦD osem0 spec0 H0 (V m) c : sProp 𝕄)
      = iprop(iprop((∃ f, ybM.view.loc (c : Thread nD τ) ↦{fullShare} f) ∗ (∃ f, tgtM.view.loc (c : Thread nD τ) ↦{fullShare} f)
                ∗ (∃ f, ringM.view.loc (c : Thread nD τ) ↦{fullShare} f))
          ∗ (∃ r, prngReg c r)
          ∗ bigSep Finset.univ (fun j : Fin 8 => semVal ((c : Thread nD τ), cellAt ![j.val] (cell_inb j)) 0)
          ∗ (headM.view.loc (c : Thread nD τ) ↦{fullShare} V m c main_arg3)) := by
  rw [Pipeline.ΦD_eq, scopedRest0_eq, ownSems00_eq, hbmPts0_eq]; try rfl

/-! ## The proof data and the body obligation -/

/-- What the body leaves in the result's buffer. -/
def outAt (c : Dev nD) (t : Fin cfg0.N) : Vec F S1x128 .f32 :=
  lossV c (V m c main_arg3) (iblk m c 0 t) (iblk m c 1 t) (iblk m c 2 t) (iblk m c 3 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A buffer held on all of its view's elements is held whole. -/
theorem yb_whole (c : Dev nD) (f) : (ybM.view.loc (c : Thread nD τ) ↦[ybM.view.set]{fullShare} f : sProp 𝕄) = (ybM.view.loc (c : Thread nD τ) ↦{fullShare} f) := by
  rw [show ybM.view.set = Finset.univ from View.set_whole _]
theorem tgt_whole (c : Dev nD) (f) : (tgtM.view.loc (c : Thread nD τ) ↦[tgtM.view.set]{fullShare} f : sProp 𝕄) = (tgtM.view.loc (c : Thread nD τ) ↦{fullShare} f) := by
  rw [show tgtM.view.set = Finset.univ from View.set_whole _]

/-- The body's run in the form the launch wants: what the launch lends, and the windows' buffers at read contents. -/
theorem bodyK (c : Dev nD) (fh : HeadBuf (F := F) c) (W : Waits sig Unit)
    (arg0 : Memref sig .tc .smem S1x129 .i32) (harg0 : arg0.IsWhole) (arg1 : Memref sig .tc .vmem S128x2048 .fp8e4m3) (harg1 : arg1.IsWhole)
    (arg2 : Memref sig .tc .vmem S128x16 .f32) (harg2 : arg2.IsWhole) (arg3 : Memref sig .tc .smem S16x1010 .f32) (harg3 : arg3.IsWhole)
    (arg5 : Memref sig .tc .vmem S1x128 .f32) (harg5 : arg5.IsWhole)
    (x0 : Vec F S1x129 .i32) (x1 : Vec F S128x2048 .fp8e4m3) (x2 : Vec F S128x16 .f32) (x3 : Vec F S16x1010 .f32) (K : PUnit → sProp 𝕄) :
    (iprop((∃ f, ybM.view.loc (c : Thread nD τ) ↦{fullShare} f) ∗ (∃ f, tgtM.view.loc (c : Thread nD τ) ↦{fullShare} f)
        ∗ (∃ f, ringM.view.loc (c : Thread nD τ) ↦{fullShare} f)
        ∗ bigSep Finset.univ (fun j : Fin 8 => semVal ((c : Thread nD τ), cellAt ![j.val] (cell_inb j)) 0)
        ∗ (headM.view.loc (c : Thread nD τ) ↦{fullShare} fh)
        ∗ owes (c : Thread nD τ) 0 W
        ∗ owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg5 fullShare d)
        ∗ (iprop((∃ f, ybM.view.loc (c : Thread nD τ) ↦{fullShare} f) ∗ (∃ f, tgtM.view.loc (c : Thread nD τ) ↦{fullShare} f)
            ∗ (∃ f, ringM.view.loc (c : Thread nD τ) ↦{fullShare} f)
            ∗ bigSep Finset.univ (fun j : Fin 8 => semVal ((c : Thread nD τ), cellAt ![j.val] (cell_inb j)) 0)
            ∗ (headM.view.loc (c : Thread nD τ) ↦{fullShare} fh)
            ∗ (∃ W, owes (c : Thread nD τ) 0 W)
            ∗ owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg5 fullShare (lossV c fh x0 x1 x2 x3)) -∗ K ⟨⟩)) : sProp 𝕄)
    ⊢ wp frame (wpE (defs₀ (F := F)) Variants.none (c : Thread nD τ) none) Set.univ
        (cc0_mtp_head arg0 harg0 arg1 harg1 arg2 harg2 arg3 harg3 (Memref.whole main_arg3) (Memref.isWhole_whole _) arg5 harg5
          (Memref.whole cc0_scratch0) (Memref.isWhole_whole _) (Memref.whole cc0_scratch1) (Memref.isWhole_whole _)
          (Memref.whole cc0_scratch2) (Memref.isWhole_whole _) cc0_scratch3) K := by
  conv => lhs; unfold owns
  iintro ⟨⟨%fy, Hy⟩, ⟨%ft, Hw⟩, ⟨%fr, HR⟩, HS, HH, HO, ⟨%f0, %e0, H0⟩, ⟨%f1, %e1, H1⟩, ⟨%f2, %e2, H2⟩, ⟨%f3, %e3, H3⟩, ⟨%d5, %f5, -, H5⟩, Hk⟩
  subst e0 e1 e2 e3
  ihave ⟨HF, HD⟩ := (free_split c fh) $$ [HR HH HS]
  · isplitl [HR]; · iexists fr; iexact HR
    isplitl [HH]; · iexact HH
    iexact HS
  iapply wp_wand_r
  isplitl [HF Hy Hw HO H0 H1 H2 H3 H5]
  · iapply (bodyT c fh arg0 harg0 arg1 harg1 arg2 harg2 arg3 harg3 arg5 harg5 f0 f1 f2 f3)
    isplitl [HF]; · iexact HF
    isplitl [H0]; · iexact H0
    isplitl [H1]; · iexact H1
    isplitl [H2]; · iexact H2
    isplitl [H3]; · iexact H3
    isplitl [H5]; · iexists _; iexact H5
    isplitl [Hy]; · iexists fy; rw [yb_whole]; iexact Hy
    isplitl [Hw]; · iexists ft; rw [tgt_whole]; iexact Hw
    iexists _; iexact HO
  iintro %u ⟨HF, H0, H1, H2, H3, H5, ⟨%gy, Hy⟩, ⟨%gt, Hw⟩, HO⟩
  cases u
  ihave ⟨HR, HH, HS⟩ := (free_join c fh fr) $$ [HF HD]
  · isplitl [HF]; · iexact HF
    iexact HD
  iapply Hk
  isplitl [Hy]; · iexists gy; rw [← yb_whole]; iexact Hy
  isplitl [Hw]; · iexists gt; rw [← tgt_whole]; iexact Hw
  isplitl [HR]; · iexact HR
  isplitl [HS]; · iexact HS
  isplitl [HH]; · iexact HH
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  unfold owns; iexact H5

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1, after2, after3, after4]
  rw [show (dats m 0 c).Φ t.castSucc = Pipeline.ΦD osem0 spec0 H0 (V m) c from rfl, PhiD_eq]
  simp only [before0 m _ (A_eq m c 0) (after0 m c), before1 m _ (A_eq m c 1) (after1 m c), before2 m _ (A_eq m c 2) (after2 m c),
    before3 m _ (A_eq m c 3) (after3 m c)]
  unfold Dat.owesAt Pipeline.owesWithin
  rw [show (dats m 0 c).owed t.castSucc = 0 from rfl, show (dats m 0 c).owed t.succ = 0 from rfl]
  unfold outAt
  iintro ⟨⟨⟨Hy, Hw, HR⟩, Hg, HS, HH⟩, ⟨%W, -, HW⟩, ⟨%d0, H0⟩, ⟨%d1, H1⟩, ⟨%d2, H2⟩, ⟨%d3, H3⟩, ⟨%d4, H4⟩⟩
  iapply (bodyK c (V m c main_arg3) W _ _ _ _ _ _ _ _ _ _ (iblk m c 0 t) (iblk m c 1 t) (iblk m c 2 t) (iblk m c 3 t) _)
  isplitl [Hy]; · iexact Hy
  isplitl [Hw]; · iexact Hw
  isplitl [HR]; · iexact HR
  isplitl [HS]; · iexact HS
  isplitl [HH]; · iexact HH
  isplitl [HW]; · iexact HW
  isplitl [H0]; · iexact H0
  isplitl [H1]; · iexact H1
  isplitl [H2]; · iexact H2
  isplitl [H3]; · iexact H3
  isplitl [H4]; · iexists _; iexact H4
  iintro ⟨Hy, Hw, HR, HS, HH, ⟨%W', HW'⟩, H0, H1, H2, H3, H4⟩
  isplitl [Hy Hw HR Hg HS HH]
  · isplitl [Hy Hw HR]
    · isplitl [Hy]; · iexact Hy
      isplitl [Hw]; · iexact Hw
      iexact HR
    isplitl [Hg]; · iexact Hg
    isplitl [HS]; · iexact HS
    iexact HH
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-! ## What the arrays hold after the run -/

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S1x129.Idx) : ((cfg0.win 0).blk t).view.emb j = j := by
  obtain ⟨e0, e1⟩ := idx_zero0 t
  funext a; apply Fin.ext
  match a with
  | ⟨0, _⟩ => show win0_0.index t (0 : Fin 2) * 1 + 1 * (j 0).val = (j 0).val; omega
  | ⟨1, _⟩ => show win0_0.index t (1 : Fin 2) * 129 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S128x2048.Idx) : ((cfg0.win 1).blk t).view.emb j = j := by
  obtain ⟨e0, e1⟩ := idx_zero1 t
  funext a; apply Fin.ext
  match a with
  | ⟨0, _⟩ => show win0_1.index t (0 : Fin 2) * 128 + 1 * (j 0).val = (j 0).val; omega
  | ⟨1, _⟩ => show win0_1.index t (1 : Fin 2) * 2048 + 1 * (j 1).val = (j 1).val; omega
theorem iblk1_eq (c : Dev nD) (t : Fin cfg0.N) : iblk m c 1 t = V m c main_v0 := by
  funext j; show V m c main_v0 (((cfg0.win 1).blk t).view.emb j) = V m c main_v0 j; rw [emb1]
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S128x16.Idx) : ((cfg0.win 2).blk t).view.emb j = j := by
  obtain ⟨e0, e1⟩ := idx_zero2 t
  funext a; apply Fin.ext
  match a with
  | ⟨0, _⟩ => show win0_2.index t (0 : Fin 2) * 128 + 1 * (j 0).val = (j 0).val; omega
  | ⟨1, _⟩ => show win0_2.index t (1 : Fin 2) * 16 + 1 * (j 1).val = (j 1).val; omega
theorem iblk2_eq (c : Dev nD) (t : Fin cfg0.N) : iblk m c 2 t = V m c main_v1 := by
  funext j; show V m c main_v1 (((cfg0.win 2).blk t).view.emb j) = V m c main_v1 j; rw [emb2]
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S16x1010.Idx) : ((cfg0.win 3).blk t).view.emb j = j := by
  obtain ⟨e0, e1⟩ := idx_zero3 t
  funext a; apply Fin.ext
  match a with
  | ⟨0, _⟩ => show win0_3.index t (0 : Fin 2) * 16 + 1 * (j 0).val = (j 0).val; omega
  | ⟨1, _⟩ => show win0_3.index t (1 : Fin 2) * 1010 + 1 * (j 1).val = (j 1).val; omega
theorem iblk3_eq (c : Dev nD) (t : Fin cfg0.N) : iblk m c 3 t = V m c main_arg4 := by
  funext j; show V m c main_arg4 (((cfg0.win 3).blk t).view.emb j) = V m c main_arg4 j; rw [emb3]
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S1x128.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- The two host reshapes drop the batch axis of the codes and of the scales. -/
def codes2 (y : S1x128x2048.Idx → Elt F .fp8e4m3) : S128x2048.Idx → Elt F .fp8e4m3 := shapeCast S128x2048 y shapeCasts_S1x128x2048_S128x2048
def scales2 (y : S1x128x16.Idx → Elt F .f32) : S128x16.Idx → Elt F .f32 := shapeCast S128x16 y shapeCasts_S1x128x16_S128x16
theorem V_v0 (c : Dev nD) : V m c main_v0 = codes2 (m ((c : Thread nD τ).loc main_arg1)) := by
  entry_read; rfl
theorem V_v1 (c : Dev nD) : V m c main_v1 = scales2 (m ((c : Thread nD τ).loc main_arg2)) := by
  entry_read; rfl

/-- The result, of the arguments as launched. -/
def G (c : Dev nD) (a0 : S1x129.Idx → Elt F .i32) (a1 : S1x128x2048.Idx → Elt F .fp8e4m3) (a2 : S1x128x16.Idx → Elt F .f32)
    (a3 : HeadBuf (F := F) c) (a4 : S16x1010.Idx → Elt F .f32) : Vec F S1x128 .f32 :=
  lossV c a3 a0 (codes2 a1) (scales2 a2) a4

theorem outAt_eq (c : Dev nD) (t : Fin cfg0.N) :
    outAt m c t = G c (m ((c : Thread nD τ).loc main_arg0)) (m ((c : Thread nD τ).loc main_arg1)) (m ((c : Thread nD τ).loc main_arg2))
      (m ((c : Thread nD τ).loc main_arg3)) (m ((c : Thread nD τ).loc main_arg4)) := by
  unfold outAt G
  rw [iblk0_eq, iblk1_eq, iblk2_eq, iblk3_eq, V_main_arg0, V_main_arg3, V_main_arg4, V_v0, V_v1]

theorem cut4_eq (t : Fin cfg0.N) (X : Vec F S1x128 .f32) :
    (cfg0.win 4).cut (grid0.coords t) X = ((cfg0.win 4).blk t).view.read (Elt F) X := by
  funext j
  show X j = X (((cfg0.win 4).blk t).view.emb j)
  rw [emb4]
theorem flushed4_eq (c : Dev nD) (t : Fin cfg0.N) :
    (dats m 0 c).flushed 4 t = ((cfg0.win 4).blk t).view.read (Elt F) (outAt m c t0_0) := by
  show (cfg0.win 4).cut (grid0.coords t) ((dats m 0 c).after 4 t) = _
  rw [after4, fin_N0 t]
  exact cut4_eq _ _
theorem covered4 (i : S1x128.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩
theorem final4 (c : Dev nD) : (dats m 0 c).arrAt 4 cfg0.N = outAt m c t0_0 :=
  (dats m 0 c).arrAt_eq_of_cover 4 (outAt m c t0_0) (fun t _ => flushed4_eq m c t) covered4

/-- THE RUN: the result is `G` of the arguments, the arguments are as launched, every semaphore ends at zero. -/
theorem run : θ_run defs (onTc (τ := τ) (main (F := F))) ⟨m, fun _ => 0, ρ⟩ (fun r => (∀ c : Dev nD,
      r.2.mem ((c.tc : Thread nD τ).loc main_v2) = G c (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4).trans ((final4 m c).trans (outAt_eq m c t0_0)),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩, h.2⟩) (run_main m ρ)

/-- THE FRAME: the run without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ)

end Cert.Kernel.Hand

end
-- ==== Proof.Ideal.Ring.lean ====
/-
  Hand-written, untrusted. The kernel's copy ring: eight VMEM slots of 1280 vocabulary columns each, filled from the
  head's codes in HBM, one DMA semaphore a slot. Slot `j` is, before trip `k` of the chunk loop, in flight with the one
  chunk `b` of `k ≤ b < k + 8` that has `b % 8 = j`, or free when that chunk lies past the last one (101).
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline library's beside the transfers' counters. -/
local notation "𝕄" => MT nD τ sig Unit (Elt F) ℕ (Pipeline.UD sig nD τ) ℕ

/-- The ring buffer, the head's codes in HBM, the two other scratch buffers. -/
abbrev ringM : Memref sig .tc .vmem S8x2048x1280 .fp8e4m3 := Memref.whole cc0_scratch2
abbrev headM : Memref sig .tc .hbm S2048x129280 .fp8e4m3 := Memref.whole main_arg3
abbrev ybM : Memref sig .tc .vmem S128x2048 .bf16 := Memref.whole cc0_scratch0
abbrev tgtM : Memref sig .tc .vmem S128x128 .i32 := Memref.whole cc0_scratch1

theorem slot_inb (j : Fin 8) : ∀ a, (![j.val, 0, 0] : Fin 3 → ℕ) a + S1x2048x1280.size a ≤ S8x2048x1280.size a := by
  have := j.isLt; intro a; fin_cases a
  · show j.val + 1 ≤ 8; omega
  · show 0 + 2048 ≤ 2048; omega
  · show 0 + 1280 ≤ 1280; omega

theorem chunk_inb (b : Fin 101) : ∀ a, (![0, 1280 * b.val] : Fin 2 → ℕ) a + S2048x1280.size a ≤ S2048x129280.size a := by
  have := b.isLt; intro a; fin_cases a
  · show 0 + 2048 ≤ 2048; omega
  · show 1280 * b.val + 1280 ≤ 129280; omega

/-! ## Names at an offset: a slot of the ring, its semaphore, a chunk of the head's codes -/

abbrev SlotOk (o : Fin 3 → ℕ) : Prop := ∀ a, o a + S1x2048x1280.size a ≤ S8x2048x1280.size a
abbrev CellOk (o : Fin 1 → ℕ) : Prop := ∀ a, o a + S1.size a ≤ S8.size a
abbrev ChunkOk (o : Fin 2 → ℕ) : Prop := ∀ a, o a + S2048x1280.size a ≤ S2048x129280.size a

abbrev slotAt (o : Fin 3 → ℕ) (ho : SlotOk o) : Memref sig .tc .vmem S2048x1280 .fp8e4m3 :=
  (ringM.slice (Rect.unit (s := S8x2048x1280) o S1x2048x1280.size ho) (fun _ => rfl)).squeeze S2048x1280 squeezes_S1x2048x1280_S2048x1280
abbrev cellAt (o : Fin 1 → ℕ) (ho : CellOk o) : SemLoc sig :=
  SemLoc.dma ((cc0_scratch3.slice (Rect.unit (s := S8) o S1.size ho)).squeeze S_ squeezes_S1_S_).sem
abbrev chunkAt (o : Fin 2 → ℕ) (ho : ChunkOk o) : Memref sig .tc .hbm S2048x1280 .fp8e4m3 :=
  headM.slice (Rect.unit (s := S2048x129280) o S2048x1280.size ho) (fun _ => rfl)

theorem cell_inb (j : Fin 8) : CellOk ![j.val] := by
  have := j.isLt; intro a; fin_cases a; show j.val + 1 ≤ 8; omega

abbrev HeadBuf (c : Dev nD) : Type := Buf (Elt F) (headM.view.loc (c : Thread nD τ))

/-- One of the eight read shares of the head's codes, on the elements `S`. -/
abbrev headShare (c : Dev nD) (i : Fin 8) (S : Finset (Idx (headM.view.loc (c : Thread nD τ)))) (fh : HeadBuf (F := F) c) : sProp 𝕄 :=
  headM.view.loc (c : Thread nD τ) ↦[S]{Transfers.shareTok fullShare 8 i} fh

/-- Slot `j`'s read share: the shares are dealt out in turn, from share 5 on (the order the first eight transfers take them in). -/
abbrev headTok (c : Dev nD) (j : Fin 8) (S : Finset (Idx (headM.view.loc (c : Thread nD τ)))) (fh : HeadBuf (F := F) c) : sProp 𝕄 :=
  headM.view.loc (c : Thread nD τ) ↦[S]{Transfers.shareTok fullShare 8 (j + 5)} fh

/-- A free slot: its semaphore at zero, the slot at anything, its whole share of the head's codes. -/
abbrev freeAt (c : Dev nD) (fh : HeadBuf (F := F) c) (j : Fin 8) (oc : Fin 1 → ℕ) (hc : CellOk oc) (os : Fin 3 → ℕ) (hs : SlotOk os) : sProp 𝕄 :=
  iprop(semVal ((c : Thread nD τ), cellAt oc hc) 0
    ∗ (∃ f, (slotAt os hs).view.loc (c : Thread nD τ) ↦[(slotAt os hs).view.set]{fullShare} f)
    ∗ headTok c j Finset.univ fh)

/-- A slot in flight with a chunk: the flight delivers the slot holding the chunk, and gives back the share of the
    chunk; beside it the rest of the slot's share. -/
abbrev busyAt (c : Dev nD) (fh : HeadBuf (F := F) c) (j : Fin 8) (oc : Fin 1 → ℕ) (hc : CellOk oc) (os : Fin 3 → ℕ) (hs : SlotOk os)
    (ob : Fin 2 → ℕ) (hb : ChunkOk ob) : sProp 𝕄 :=
  iprop((∃ f, Transfers.Flight (countersEmb (U := Pipeline.UD sig nD τ)) (c : Thread nD τ) (cellAt oc hc) () 81920
      iprop(((slotAt os hs).view.loc (c : Thread nD τ) ↦[(slotAt os hs).view.set]{fullShare}
          (slotAt os hs).view.writes (Elt F) f [⟨Rect.whole S2048x1280, ReadAs.same.apply ((chunkAt ob hb).view.read (Elt F) fh)⟩])
        ∗ headTok c j (chunkAt ob hb).view.set fh))
    ∗ headTok c j (Finset.univ \ (chunkAt ob hb).view.set) fh)

theorem freeAt_congr (c : Dev nD) (fh : HeadBuf (F := F) c) (j : Fin 8) {oc oc' : Fin 1 → ℕ} {hc : CellOk oc} (hc' : CellOk oc')
    {os os' : Fin 3 → ℕ} {hs : SlotOk os} (hs' : SlotOk os') (ec : oc = oc') (es : os = os') :
    freeAt c fh j oc hc os hs = freeAt c fh j oc' hc' os' hs' := by
  subst ec es; rfl

theorem busyAt_congr (c : Dev nD) (fh : HeadBuf (F := F) c) (j : Fin 8) {oc oc' : Fin 1 → ℕ} {hc : CellOk oc} (hc' : CellOk oc')
    {os os' : Fin 3 → ℕ} {hs : SlotOk os} (hs' : SlotOk os') {ob ob' : Fin 2 → ℕ} {hb : ChunkOk ob} (hb' : ChunkOk ob')
    (ec : oc = oc') (es : os = os') (eb : ob = ob') :
    busyAt c fh j oc hc os hs ob hb = busyAt c fh j oc' hc' os' hs' ob' hb' := by
  subst ec es eb; rfl

/-- Slot `j` free; slot `j` in flight with chunk `b`. -/
def freeK (c : Dev nD) (fh : HeadBuf (F := F) c) (j : Fin 8) : sProp 𝕄 :=
  freeAt c fh j ![j.val] (cell_inb j) ![j.val, 0, 0] (slot_inb j)
def busyK (c : Dev nD) (fh : HeadBuf (F := F) c) (j : Fin 8) (b : Fin 101) : sProp 𝕄 :=
  busyAt c fh j ![j.val] (cell_inb j) ![j.val, 0, 0] (slot_inb j) ![0, 1280 * b.val] (chunk_inb b)

/-! ## The names the program computes at trip `k` -/

theorem freeK_eq (c : Dev nD) (fh : HeadBuf (F := F) c) (k : Fin k0_t2_loop.trips) (j : Fin 8) (hj : k.val % 8 = j.val) :
    freeK c fh j = freeAt c fh j (k0_off3 k) (k0_off3_inb k) (k0_off4 k) (k0_off4_inb k) :=
  freeAt_congr c fh j _ _ (by rw [k0_off3_eq, hj]) (by rw [k0_off4_eq, hj])

theorem busyK_eq (c : Dev nD) (fh : HeadBuf (F := F) c) (k : Fin k0_t2_loop.trips) (j : Fin 8) (hj : k.val % 8 = j.val)
    (b : Fin 101) (hb : b.val = k.val) :
    busyK c fh j b = busyAt c fh j (k0_off3 k) (k0_off3_inb k) (k0_off4 k) (k0_off4_inb k) (k0_off5 k) (k0_off5_inb k) :=
  busyAt_congr c fh j _ _ _ (by rw [k0_off3_eq, hj]) (by rw [k0_off4_eq, hj]) (by rw [k0_off5_eq, hb])

theorem busyK_next (c : Dev nD) (fh : HeadBuf (F := F) c) (k : Fin k0_t2_loop.trips) (h : k0_cond1 k = 1#1) (j : Fin 8) (hj : k.val % 8 = j.val)
    (b : Fin 101) (hb : b.val = k.val + 8) :
    busyK c fh j b = busyAt c fh j (k0_off3 k) (k0_off3_inb k) (k0_off4 k) (k0_off4_inb k) (k0_off64 k) (k0_off64_inb k h) :=
  busyAt_congr c fh j _ _ _ (by rw [k0_off3_eq, hj]) (by rw [k0_off4_eq, hj]) (by rw [k0_off64_eq, hb]; congr 2)

/-! ## The ring before trip `k` -/

/-- Slot `j` in its state: in flight with a chunk, or free. -/
def Slot (c : Dev nD) (fh : HeadBuf (F := F) c) (j : Fin 8) (x : Option (Fin 101)) : sProp 𝕄 :=
  match x with
  | some b => busyK c fh j b
  | none => freeK c fh j

/-- Before trip `k` slot `j` is in flight with the first chunk `b ≥ k` of `b % 8 = j`, if there is one. -/
def stAt (k : ℕ) (j : Fin 8) : Option (Fin 101) :=
  if h : k + (j.val + 8 - k % 8) % 8 < 101 then some ⟨k + (j.val + 8 - k % 8) % 8, h⟩ else none

theorem stAt_here (k : ℕ) (hk : k < 101) (j : Fin 8) (hj : k % 8 = j.val) : stAt k j = some ⟨k, hk⟩ := by
  have e : k + (j.val + 8 - k % 8) % 8 = k := by omega
  unfold stAt; rw [dif_pos (by omega)]; congr 1; exact Fin.ext e

theorem stAt_succ_pos (k : ℕ) (h : k + 8 < 101) (j : Fin 8) (hj : k % 8 = j.val) :
    stAt (k + 1) = Function.update (stAt k) j (some ⟨k + 8, h⟩) := by
  funext i
  by_cases hi : i = j
  · subst hi; rw [Function.update_self]
    have e : k + 1 + (i.val + 8 - (k + 1) % 8) % 8 = k + 8 := by have := i.isLt; omega
    unfold stAt; rw [dif_pos (by omega)]; congr 1; exact Fin.ext e
  · rw [Function.update_of_ne hi]
    have hne : i.val ≠ j.val := fun h => hi (Fin.ext h)
    have e : k + 1 + (i.val + 8 - (k + 1) % 8) % 8 = k + (i.val + 8 - k % 8) % 8 := by have := i.isLt; omega
    unfold stAt; simp only [e]

theorem stAt_succ_neg (k : ℕ) (h : ¬ k + 8 < 101) (j : Fin 8) (hj : k % 8 = j.val) :
    stAt (k + 1) = Function.update (stAt k) j none := by
  funext i
  by_cases hi : i = j
  · subst hi; rw [Function.update_self]
    have e : k + 1 + (i.val + 8 - (k + 1) % 8) % 8 = k + 8 := by have := i.isLt; omega
    unfold stAt; rw [dif_neg (by omega)]
  · rw [Function.update_of_ne hi]
    have hne : i.val ≠ j.val := fun h => hi (Fin.ext h)
    have e : k + 1 + (i.val + 8 - (k + 1) % 8) % 8 = k + (i.val + 8 - k % 8) % 8 := by have := i.isLt; omega
    unfold stAt; simp only [e]

theorem cond1_iff : ∀ k : Fin k0_t2_loop.trips, k0_cond1 k = 1#1 ↔ k.val + 8 < 101 := by decide +kernel

end Cert.KernelIdeal.Hand

end
-- ==== Proof.Ideal.Step.lean ====
/-
  Hand-written, untrusted. One trip of the chunk loop as a function of what the trip reads: the chunk of the head's
  codes that has landed in its slot, the head's scales, the dequantised activations and the target words. A chunk is
  five panels of 256 vocabulary columns; a panel's logits are eight products of 256 rows each added to zero in turn;
  each panel updates the running maximum, the running sum and the target's logit of every lane.
-/
module

public import proofs.«01_k».proof.Proof.Ideal.Ring

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The trip's number, as the loop's induction variable computes it. -/
abbrev ivT (k : Fin k0_t2_loop.trips) : BitVec 32 := Scf.iv 0#32 1#32 k.val

/-- Where panel `n`'s block of rows `256 i …` of the chunk lies in the ring. -/
abbrev offW (k : Fin k0_t2_loop.trips) (i : Fin 8) (n : Fin 5) : Fin 3 → ℕ :=
  ![(Scalar.indexCast (Scalar.remsi (ivT k) 8#32)).toNat, 256 * i.val, 256 * n.val]
theorem offW_eq : ∀ (k : Fin k0_t2_loop.trips) (i : Fin 8) (n : Fin 5), offW k i n = ![k.val % 8, 256 * i.val, 256 * n.val] := by
  decide +kernel
theorem offW_inb (k : Fin k0_t2_loop.trips) (i : Fin 8) (n : Fin 5) : ∀ a, offW k i n a + S1x256x256.size a ≤ S8x2048x1280.size a := by
  rw [offW_eq]; intro a; have := i.isLt; have := n.isLt; fin_cases a
  · show k.val % 8 + 1 ≤ 8; omega
  · show 256 * i.val + 256 ≤ 2048; omega
  · show 256 * n.val + 256 ≤ 1280; omega

/-- Where the scale of the 128-row block `r` and the panel's column block `d` lies. -/
abbrev offS (k : Fin k0_t2_loop.trips) (r : Fin 16) (n : Fin 5) (d : Fin 2) : Fin 2 → ℕ :=
  ![r.val, (Scalar.indexCast (Scalar.addi (Scalar.addi (Scalar.muli (ivT k) 10#32) (BitVec.ofNat 32 (2 * n.val))) (BitVec.ofNat 32 d.val))).toNat]
theorem offS_eq (k : Fin k0_t2_loop.trips) (r : Fin 16) (n : Fin 5) (d : Fin 2) :
    offS k r n d = ![r.val, 10 * k.val + 2 * n.val + d.val] := by
  have h : ∀ (k : Fin k0_t2_loop.trips) (n : Fin 5) (d : Fin 2),
      (Scalar.indexCast (Scalar.addi (Scalar.addi (Scalar.muli (ivT k) 10#32) (BitVec.ofNat 32 (2 * n.val))) (BitVec.ofNat 32 d.val))).toNat
        = 10 * k.val + 2 * n.val + d.val := by decide +kernel
  unfold offS; rw [h]
theorem offS_inb (k : Fin k0_t2_loop.trips) (r : Fin 16) (n : Fin 5) (d : Fin 2) : ∀ a, offS k r n d a + S1x1.size a ≤ S16x1010.size a := by
  have hk : k.val < 101 := Nat.lt_of_lt_of_le k.isLt k0_t2_abs.2.1
  rw [offS_eq]; intro a; have := r.isLt; have := n.isLt; have := d.isLt; fin_cases a
  · show r.val + 1 ≤ 16; omega
  · show 10 * k.val + 2 * n.val + d.val + 1 ≤ 1010; omega

theorem offY_inb (i : Fin 8) : ∀ a, (![0, 256 * i.val] : Fin 2 → ℕ) a + S128x256.size a ≤ S128x2048.size a := by
  intro a; have := i.isLt; fin_cases a
  · show 0 + 128 ≤ 128; omega
  · show 256 * i.val + 256 ≤ 2048; omega

section
variable (c : Dev nD) (fh : HeadBuf (F := F) c) (k : Fin k0_t2_loop.trips)
  (fs : S16x1010.Idx → Elt F .f32)
  (fy : BufTy.Contents (Elt F) ybM.view.ty) (ft : BufTy.Contents (Elt F) tgtM.view.ty) (v41 : IVec S128x128 32)

/-- The ring with trip `k`'s chunk landed in its slot. -/
abbrev landed : BufTy.Contents (Elt F) ringM.view.ty :=
  (slotAt (k0_off4 k) (k0_off4_inb k)).view.writes (Elt F) (slotAt (k0_off4 k) (k0_off4_inb k)).view.junk
    [⟨Rect.whole S2048x1280, ReadAs.same.apply ((chunkAt (k0_off5 k) (k0_off5_inb k)).view.read (Elt F) fh)⟩]

def wBlk (n : Fin 5) (i : Fin 8) : Vec F S1x256x256 .fp8e4m3 :=
  View.readAt (Elt F) ringM.view (Rect.unit (s := S8x2048x1280) (offW k i n) S1x256x256.size (offW_inb k i n)).toLoadRect (landed c fh k)

def sBlk (n : Fin 5) (r : Fin 16) (d : Fin 2) : F .f32 :=
  fs ((Rect.unit (s := S16x1010) (offS k r n d) S1x1.size (offS_inb k r n d)).toLoadRect.idx
    (Shape.Idx.first (by show 0 < S1x1.numel; rw [numel1_S1x1]; exact Nat.one_pos)))

def yBlk (i : Fin 8) : Vec F S128x256 .bf16 :=
  View.readAt (Elt F) ybM.view (Rect.unit (s := S128x2048) ![0, 256 * i.val] S128x256.size (offY_inb i)).toLoadRect fy

/-- One product of a panel, added to what the earlier ones gave. -/
def accStep (n : Fin 5) (i : Fin 8) (r0 r1 : Fin 16) (acc : FVec F S128x256 .f32) : FVec F S128x256 .f32 :=
  addf acc (matmul dot_S128x256_S256x256_S128x256_1_0_0_1_n_n none (yBlk fy i)
    (k0_pay8 (wBlk c fh k n i) (sBlk k fs n r0 0) (sBlk k fs n r0 1) (sBlk k fs n r1 0) (sBlk k fs n r1 1))
    (constant S128x256 .f32 0x00000000#32))

/-- Panel `n`'s logits. -/
def panel (n : Fin 5) : FVec F S128x256 .f32 :=
  accStep c fh k fs fy n 7 14 15 <| accStep c fh k fs fy n 6 12 13 <| accStep c fh k fs fy n 5 10 11 <|
  accStep c fh k fs fy n 4 8 9 <| accStep c fh k fs fy n 3 6 7 <| accStep c fh k fs fy n 2 4 5 <|
  accStep c fh k fs fy n 1 2 3 <| accStep c fh k fs fy n 0 0 1 (broadcast S128x256 (Scalar.ofBits .f32 0x00000000#32))

end

abbrev Carry (F : FTy → Type) := FVec F S128x128 .f32 × FVec F S128x128 .f32 × FVec F S128x128 .f32

/-- The update of the running maximum, sum and target logit by one panel `a` whose first column is `base`. -/
def upd (v41 : IVec S128x128 32) (tg : Vec F S128x128 .i32) (base : BitVec 32) (a : FVec F S128x256 .f32) (x : Carry F) : Carry F :=
  let l0 : FVec F S128x128 .f32 := extractStridedSlice S128x128 ![0, 0] a slices_S128x256_o0_0_S128x128
  let l1 : FVec F S128x128 .f32 := extractStridedSlice S128x128 ![0, 128] a slices_S128x256_o0_128_S128x128
  let m' : FVec F S128x128 .f32 := maximumf x.1 (maximumf l0 l1)
  let col : IVec S128x128 32 := subi (subi tg v41) (broadcast S128x128 base)
  (m', addf (addf (mulf x.2.1 (exp (subf x.1 m'))) (exp (subf l0 m'))) (exp (subf l1 m')),
    select (cmpi .eq col (broadcast S128x128 128#32)) l1 (select (cmpi .eq col (broadcast S128x128 0#32)) l0 x.2.2))

section
variable (c : Dev nD) (fh : HeadBuf (F := F) c)
  (fs : S16x1010.Idx → Elt F .f32)
  (fy : BufTy.Contents (Elt F) ybM.view.ty) (ft : BufTy.Contents (Elt F) tgtM.view.ty) (v41 : IVec S128x128 32)

def updAt (k : Fin k0_t2_loop.trips) (n : Fin 5) (x : Carry F) : Carry F :=
  upd v41 (View.readAt (Elt F) tgtM.view (Rect.unit (s := S128x128) ![0, 0] S128x128.size inb_S128x128_S128x128_0_0).toLoadRect ft)
    (Scalar.addi (Scalar.muli (ivT k) 1280#32) (BitVec.ofNat 32 (256 * n.val))) (panel c fh k fs fy n) x

/-- One trip. -/
def stepT (k : Fin k0_t2_loop.trips) (x : Carry F) : Carry F :=
  updAt c fh fs fy ft v41 k 4 <| updAt c fh fs fy ft v41 k 3 <| updAt c fh fs fy ft v41 k 2 <|
  updAt c fh fs fy ft v41 k 1 <| updAt c fh fs fy ft v41 k 0 x

/-- The carried values before trip `k`. -/
def carryT (x : Carry F) : ℕ → Carry F
  | 0 => x
  | k + 1 => if h : k < k0_t2_loop.trips then stepT c fh fs fy ft v41 ⟨k, h⟩ (carryT x k) else carryT x k
end

end Cert.KernelIdeal.Hand

end
-- ==== Proof.Ideal.Trip.lean ====
/-
  Hand-written, untrusted. One trip of the chunk loop at a symbolic trip number, run by the executor, as a step of the
  loop's invariant: the ring in its state before the trip, what the trip reads, the carried values the steps so far give.
-/
module

public import proofs.«01_k».proof.Proof.Ideal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Before trip `k`: the ring, the scales, the activations, the target words; the carried values are `carryT`'s. -/
def invT (c : Dev nD) (fh : HeadBuf (F := F) c) (arg3 : Memref sig .tc .smem S16x1010 .f32) (fs : BufTy.Contents (Elt F) arg3.view.ty)
    (fy : BufTy.Contents (Elt F) ybM.view.ty) (ft : BufTy.Contents (Elt F) tgtM.view.ty) (v41 : IVec S128x128 32) (x₀ : Carry F)
    (k : ℕ) (x : Carry F) : sProp 𝕄 :=
  iprop(Ring.AtW (σ := fun _ => Option (Fin 101)) (Slot c fh) (stAt k)
    ∗ (arg3.view.loc (c : Thread nD τ) ↦[arg3.view.set]{fullShare} fs)
    ∗ (ybM.view.loc (c : Thread nD τ) ↦[ybM.view.set]{fullShare} fy)
    ∗ (tgtM.view.loc (c : Thread nD τ) ↦[tgtM.view.set]{fullShare} ft)
    ∗ (∃ W, owes (c : Thread nD τ) 0 W)
    ∗ ⌜x = carryT c fh (arg3.view.read (Elt F) fs) fy ft v41 x₀ k⌝)

set_option sl_exec.resultNames true in
theorem tripT (c : Dev nD) (fh : HeadBuf (F := F) c)
    (arg0 : Memref sig .tc .smem S1x129 .i32) (harg0 : arg0.IsWhole) (arg1 : Memref sig .tc .vmem S128x2048 .fp8e4m3) (harg1 : arg1.IsWhole)
    (arg2 : Memref sig .tc .vmem S128x16 .f32) (harg2 : arg2.IsWhole) (arg3 : Memref sig .tc .smem S16x1010 .f32) (harg3 : arg3.IsWhole)
    (arg5 : Memref sig .tc .vmem S1x128 .f32) (harg5 : arg5.IsWhole) (v41 : IVec S128x128 32) (v197 : FVec F S128x128 .fp8e4m3)
    (fs : BufTy.Contents (Elt F) arg3.view.ty) (fy : BufTy.Contents (Elt F) ybM.view.ty) (ft : BufTy.Contents (Elt F) tgtM.view.ty) (x₀ : Carry F)
    (k : Fin k0_t2_loop.trips) (x : Carry F) :
    invT c fh arg3 fs fy ft v41 x₀ k.val x
    ⊢ wp frame (wpE (defs₀ (F := F)) Variants.none (c : Thread nD τ) none) Set.univ
        (k0_t2_body arg0 harg0 arg1 harg1 arg2 harg2 arg3 harg3 (Memref.whole main_arg3) (Memref.isWhole_whole _) arg5 harg5
          (Memref.whole cc0_scratch0) (Memref.isWhole_whole _) (Memref.whole cc0_scratch1) (Memref.isWhole_whole _)
          (Memref.whole cc0_scratch2) (Memref.isWhole_whole _) cc0_scratch3 v41 v197 k x)
        (invT c fh arg3 fs fy ft v41 x₀ (k.val + 1)) := by
  obtain ⟨m, s, tl⟩ := x
  have hk : k.val < 101 := Nat.lt_of_lt_of_le k.isLt k0_t2_abs.2.1
  have hj : k.val % 8 = (⟨k.val % 8, by omega⟩ : Fin 8).val := rfl
  generalize (⟨k.val % 8, by omega⟩ : Fin 8) = j at hj
  unfold invT
  rw [Ring.AtW_focus _ _ j, stAt_here k.val hk j hj]
  rw [show Slot c fh j (some ⟨k.val, hk⟩) = busyK c fh j ⟨k.val, hk⟩ from rfl, busyK_eq c fh k j hj ⟨k.val, hk⟩ rfl]
  iintro ⟨⟨⟨⟨%f, Hfl⟩, Ht⟩, Hrest⟩, Hs3, Hy, Htg, ⟨%W, HO⟩, %hx⟩
  unfold k0_t2_body
  sl_exec_parts
  sl_step
  have hs : carryT c fh (arg3.view.read (Elt F) fs) fy ft v41 x₀ (k.val + 1) = stepT c fh (arg3.view.read (Elt F) fs) fy ft v41 k (m, s, tl) := by
    rw [hx]; exact dif_pos k.isLt
  rw [hs]
  by_cases h1 : k0_cond1 k = 1#1
  · have h8 := (cond1_iff k).mp h1
    have hR : iprop(busyAt c fh j (k0_off3 k) (k0_off3_inb k) (k0_off4 k) (k0_off4_inb k) (k0_off64 k) (k0_off64_inb k h1) ∗ Ring.restW (Slot c fh) (stAt k.val) j)
        ⊢ Ring.AtW (Slot c fh) (stAt (k.val + 1)) := by
      rw [stAt_succ_pos k.val h8 j hj, ← busyK_next c fh k h1 j hj ⟨k.val + 8, h8⟩ rfl]
      exact Ring.AtW_update (Slot c fh) (stAt k.val) j (some ⟨k.val + 8, h8⟩)
    ihave if1 := (Entails.of_eq (Guarded.pos h1)) $$ if1
    isplitl [if1 Ht Hrest]
    · iapply hR
      isplitr [Hrest]
      · isplitl [if1]
        · iexists _; iexact if1
        · rw [gset.pos h1]; iexact Ht
      · iexact Hrest
    isplitl [Hs3]; · iexact Hs3
    isplitl [Hy]; · iexact Hy
    isplitl [Htg]; · iexact Htg
    isplitl [HO]; · iexists _; iexact HO
    ipureintro; rfl
  · have h8 : ¬ k.val + 8 < 101 := fun h => h1 ((cond1_iff k).mpr h)
    have hR : iprop(freeAt c fh j (k0_off3 k) (k0_off3_inb k) (k0_off4 k) (k0_off4_inb k) ∗ Ring.restW (Slot c fh) (stAt k.val) j)
        ⊢ Ring.AtW (Slot c fh) (stAt (k.val + 1)) := by
      rw [stAt_succ_neg k.val h8 j hj, ← freeK_eq c fh k j hj]
      exact Ring.AtW_update (Slot c fh) (stAt k.val) j none
    ihave if1 := (Entails.of_eq (Guarded.neg h1)) $$ if1
    icases if1 with ⟨Hd, Hc⟩
    isplitl [Hd Hc Ht Hrest]
    · iapply hR
      isplitr [Hrest]
      · isplitl [Hc]; · iexact Hc
        isplitl [Hd]; · iexists _; iexact Hd
        rw [gset.neg h1, Finset.sdiff_empty]; iexact Ht
      · iexact Hrest
    isplitl [Hs3]; · iexact Hs3
    isplitl [Hy]; · iexact Hy
    isplitl [Htg]; · iexact Htg
    isplitl [HO]; · iexists _; iexact HO
    ipureintro; rfl

end Cert.KernelIdeal.Hand
end
-- ==== Proof.Ideal.Targets.lean ====
/-
  Hand-written, untrusted. The first loop: it copies each row's target word from the list of ids across a row of the
  target array. Its invariant: before trip `k` the rows below `k` hold their words.
-/
module

public import proofs.«01_k».proof.Proof.Ideal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem word_inb (r : Fin 128) : ∀ a, (![0, r.val + 1] : Fin 2 → ℕ) a + S1x1.size a ≤ S1x129.size a := by
  have := r.isLt; intro a; fin_cases a
  · show 0 + 1 ≤ 1; omega
  · show r.val + 1 + 1 ≤ 129; omega

/-- The target word of row `r`: the id after it. -/
def wordOf (I : S1x129.Idx → Elt F .i32) (r : Fin 128) : Elt F .i32 :=
  I ((Rect.unit (s := S1x129) ![0, r.val + 1] S1x1.size (word_inb r)).toLoadRect.idx (Shape.Idx.first (by show 0 < S1x1.numel; rw [numel1_S1x1]; exact Nat.one_pos)))

theorem wordOf_at (I : S1x129.Idx → Elt F .i32) (r : Fin 128) (o : Fin 2 → ℕ)
    (ho : ∀ a, o a + S1x1.size a ≤ S1x129.size a) (e : o = ![0, r.val + 1]) :
    wordOf (F := F) I r = I ((Rect.unit (s := S1x129) o S1x1.size ho).toLoadRect.idx (Shape.Idx.first (by show 0 < S1x1.numel; rw [numel1_S1x1]; exact Nat.one_pos))) := by
  subst e; rfl

/-- The target array: each row's word across the row. -/
def tgtC (I : S1x129.Idx → Elt F .i32) : BufTy.Contents (Elt F) tgtM.view.ty := fun y : S128x128.Idx => wordOf (F := F) I (y 0)

/-- The place of a row's element in the row. -/
def rowIx (y : S128x128.Idx) : S1x128.Idx := fun a => match a with
  | 0 => (0 : Fin 1)
  | 1 => y 1

/-- Rows below `k` of the target array hold their words. -/
def rowsTo (arg0 : Memref sig .tc .smem S1x129 .i32) (X : BufTy.Contents (Elt F) arg0.view.ty)
    (arg7 : Memref sig .tc .vmem S128x128 .i32) (f : BufTy.Contents (Elt F) arg7.view.ty) (k : ℕ) : Prop :=
  ∀ y : S128x128.Idx, (y 0).val < k → arg7.view.read (Elt F) f y = wordOf (F := F) (arg0.view.read (Elt F) X) (y 0)

/-- All rows done, the array is the one the words make. -/
theorem tgt_done (arg0 : Memref sig .tc .smem S1x129 .i32) (X : BufTy.Contents (Elt F) arg0.view.ty)
    (f : BufTy.Contents (Elt F) tgtM.view.ty) (k : ℕ) (hk : 128 ≤ k) (h : rowsTo (F := F) arg0 X tgtM f k) : f = tgtC (arg0.view.read (Elt F) X) :=
  funext fun y : S128x128.Idx => h y (lt_of_lt_of_le (y 0).isLt hk)

abbrev invW (c : Dev nD) (arg0 : Memref sig .tc .smem S1x129 .i32) (X : BufTy.Contents (Elt F) arg0.view.ty)
    (arg7 : Memref sig .tc .vmem S128x128 .i32) (k : ℕ) (_ : Unit) : sProp 𝕄 :=
  iprop((arg0.view.loc (c : Thread nD τ) ↦[arg0.view.set]{fullShare} X)
    ∗ (∃ f, (arg7.view.loc (c : Thread nD τ) ↦[arg7.view.set]{fullShare} f) ∗ ⌜rowsTo (F := F) arg0 X arg7 f k⌝))

set_option warn.classDefReducibility false in
@[sl_loop] def loopInvW (𝒱 : Variants) (c : Dev nD) (bd : Option 𝒱.V) (E : Set ℕ) (arg0 : Memref sig .tc .smem S1x129 .i32) (harg0 : arg0.IsWhole) (arg1 : Memref sig .tc .vmem S128x2048 .fp8e4m3) (harg1 : arg1.IsWhole) (arg2 : Memref sig .tc .vmem S128x16 .f32) (harg2 : arg2.IsWhole) (arg3 : Memref sig .tc .smem S16x1010 .f32) (harg3 : arg3.IsWhole) (arg4 : Memref sig .tc .hbm S2048x129280 .fp8e4m3) (harg4 : arg4.IsWhole) (arg5 : Memref sig .tc .vmem S1x128 .f32) (harg5 : arg5.IsWhole) (arg6 : Memref sig .tc .vmem S128x2048 .bf16) (harg6 : arg6.IsWhole) (arg7 : Memref sig .tc .vmem S128x128 .i32) (harg7 : arg7.IsWhole) (arg8 : Memref sig .tc .vmem S8x2048x1280 .fp8e4m3) (harg8 : arg8.IsWhole) (arg9 : DmaSems sig S8)
    (X : BufTy.Contents (Elt F) arg0.view.ty) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 where
  inv := invW c arg0 X arg7
  step k acc := by
    have hk : k.val < 128 := Nat.lt_of_lt_of_le k.isLt k0_t1_abs.2.1
    unfold k0_t1_body
    iintro ⟨HR, ⟨%f, HW, %hf⟩⟩
    sl_exec
    sl_step
    isplitl [HR]; · iexact HR
    iexists _
    isplitl [HW]; · iexact HW
    ipureintro
    intro y hy
    by_cases h : (y 0).val = k.val
    · rw [View.read_writes_cons_hit_of_coords _ _ (Rect.unit (s := S128x128) (k0_off2 k) S1x128.size (k0_off2_inb k)) _ _ (rowIx y) y (by
        intro a
        show (y a).val = k0_off2 k a + 1 * (rowIx y a).val
        rw [k0_off2_eq]
        fin_cases a
        · show (y 0).val = k.val + 1 * 0; omega
        · show (y 1).val = 0 + 1 * (y 1).val; omega)]
      show _ = wordOf (F := F) (arg0.view.read (Elt F) X) (y 0)
      rw [wordOf_at (F := F) (arg0.view.read (Elt F) X) (y 0) (k0_off1 k) (k0_off1_inb k) (by rw [k0_off1_eq, h])]
      rfl
    · rw [View.read_writes_cons_miss_of_axis _ _ _ _ y 0 k.val 1 (by rw [show (Rect.unit (s := S128x128) (k0_off2 k) S1x128.size (k0_off2_inb k)).off = k0_off2 k from rfl, k0_off2_eq]; rfl) rfl rfl (by omega)]
      exact hf y (by omega)

end Cert.KernelIdeal.Hand
-- ==== Proof.Ideal.Split.lean ====
/-
  Hand-written, untrusted. The ring buffer as its eight slots, and the head's codes as eight read shares: all slots free,
  from the buffers held whole and the eight semaphore cells at zero, and back.
-/
module

public import proofs.«01_k».proof.Proof.Ideal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The ring buffer as its eight slots, the head's codes as eight read shares -/

/-- The elements of slot `b`. -/
abbrev slotSet (b : Fin 8) : Finset S8x2048x1280.Idx := (slotAt ![b.val, 0, 0] (slot_inb b)).view.set

theorem slotSet_eq (b : Fin 8) : slotSet b = (Rect.unit (s := S8x2048x1280) ![b.val, 0, 0] S1x2048x1280.size (slot_inb b)).set :=
  (View.set_reshape _ _).trans (View.set_slice_whole _ _)

theorem ring_disjoint (b b' : Fin 8) (h : b ≠ b') : Disjoint (slotSet b) (slotSet b') := by
  rw [slotSet_eq, slotSet_eq]
  exact Ring.lead_disjoint (s := S8x2048x1280) (NB := 8) 0 1 (fun b => ![b.val, 0, 0]) S1x2048x1280.size slot_inb (fun b => (Nat.one_mul _).symm) rfl b b' h

theorem ring_cover : Finset.univ.biUnion slotSet = Finset.univ := by
  rw [show slotSet = fun b => (Rect.unit (s := S8x2048x1280) ![b.val, 0, 0] S1x2048x1280.size (slot_inb b)).set from funext slotSet_eq]
  exact Ring.lead_cover (s := S8x2048x1280) (NB := 8) 0 1 (fun b => ![b.val, 0, 0]) S1x2048x1280.size slot_inb (fun b => (Nat.one_mul _).symm)
    (fun b a ha => by fin_cases a; exact absurd rfl ha; rfl; rfl) rfl (fun a ha => by fin_cases a; exact absurd rfl ha; rfl; rfl) rfl

theorem freeK_all (c : Dev nD) (fh : HeadBuf (F := F) c) :
    bigSep Finset.univ (fun j : Fin 8 => freeK c fh j)
      = (iprop(bigSep Finset.univ (fun j : Fin 8 => semVal ((c : Thread nD τ), cellAt ![j.val] (cell_inb j)) 0)
        ∗ bigSep Finset.univ (fun j : Fin 8 => iprop(∃ f, ringM.view.loc (c : Thread nD τ) ↦[(slotAt ![j.val, 0, 0] (slot_inb j)).view.set]{fullShare} f))
        ∗ bigSep Finset.univ (fun j : Fin 8 => headTok c j Finset.univ fh)) : sProp 𝕄) := by
  rw [show (fun j : Fin 8 => freeK c fh j) = fun j => iprop(semVal ((c : Thread nD τ), cellAt ![j.val] (cell_inb j)) 0
    ∗ (iprop(∃ f, ringM.view.loc (c : Thread nD τ) ↦[(slotAt ![j.val, 0, 0] (slot_inb j)).view.set]{fullShare} f) ∗ headTok c j Finset.univ fh)) from rfl,
    bigSep_sep', bigSep_sep']

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  BI.bigSep_univ_eq_bigSepL [0, 1, 2, 3, 4, 5, 6, 7] (by decide) (by decide) Φ

theorem toks_eq (c : Dev nD) (fh : HeadBuf (F := F) c) :
    bigSep Finset.univ (fun j : Fin 8 => headTok c j Finset.univ fh) = bigSep Finset.univ (fun i : Fin 8 => headShare c i Finset.univ fh) := by
  rw [bigSep_eight, BI.bigSep_univ_eq_bigSepL [5, 6, 7, 0, 1, 2, 3, 4] (by decide) (by decide) (fun i : Fin 8 => headShare c i Finset.univ fh)]
  rfl

/-- All slots free, from the buffers held whole and the eight cells at zero; -/
theorem free_split (c : Dev nD) (fh : HeadBuf (F := F) c) :
    (iprop((∃ f, ringM.view.loc (c : Thread nD τ) ↦{fullShare} f) ∗ (headM.view.loc (c : Thread nD τ) ↦{fullShare} fh)
      ∗ bigSep Finset.univ (fun j : Fin 8 => semVal ((c : Thread nD τ), cellAt ![j.val] (cell_inb j)) 0)) : sProp 𝕄)
    ⊢ iprop(bigSep Finset.univ (fun j : Fin 8 => freeK c fh j)
      ∗ (headM.view.loc (c : Thread nD τ) ↦{Transfers.shareDrop fullShare 8} fh)) := by
  rw [freeK_all, toks_eq]
  iintro ⟨⟨%f, HR⟩, HH, HS⟩
  ihave ⟨HD, HT⟩ := (Transfers.pointsTo_toks_split fullShare 8) $$ HH
  isplitr [HD]
  · isplitl [HS]; · iexact HS
    isplitl [HR]
    · iapply (show (ringM.view.loc (c : Thread nD τ) ↦{fullShare} f : sProp 𝕄) ⊢ bigSep Finset.univ (fun j : Fin 8 => iprop(∃ f, ringM.view.loc (c : Thread nD τ) ↦[(slotAt ![j.val, 0, 0] (slot_inb j)).view.set]{fullShare} f)) from
        (Entails.of_eq (Ring.pointsTo_blocks slotSet ring_disjoint ring_cover f)).trans
          (bigSep_mono fun j _ => (show (_ : sProp 𝕄) ⊢ _ by iintro H; iexists f; iexact H)))
      iexact HR
    · iexact HT
  · iexact HD

/-- and back. -/
theorem free_join (c : Dev nD) (fh : HeadBuf (F := F) c) (f₀ : Buf (Elt F) (ringM.view.loc (c : Thread nD τ))) :
    iprop(bigSep Finset.univ (fun j : Fin 8 => freeK c fh j)
      ∗ (headM.view.loc (c : Thread nD τ) ↦{Transfers.shareDrop fullShare 8} fh))
    ⊢ (iprop((∃ f, ringM.view.loc (c : Thread nD τ) ↦{fullShare} f) ∗ (headM.view.loc (c : Thread nD τ) ↦{fullShare} fh)
      ∗ bigSep Finset.univ (fun j : Fin 8 => semVal ((c : Thread nD τ), cellAt ![j.val] (cell_inb j)) 0)) : sProp 𝕄) := by
  rw [freeK_all, toks_eq]
  iintro ⟨⟨HS, HR, HT⟩, HD⟩
  isplitl [HR]
  · iapply (Ring.pointsTo_blocks_join_exists slotSet ring_disjoint ring_cover f₀)
    iexact HR
  isplitr [HS]
  · iapply (Transfers.pointsTo_toks_join fullShare 8)
    isplitl [HD]; · iexact HD
    iexact HT
  · iexact HS

end Cert.KernelIdeal.Hand
-- ==== Proof.Ideal.Acts.lean ====
/-
  Hand-written, untrusted. The activations the kernel keeps in bf16: sixteen groups of 128 columns, each the group's codes
  times its column of scales.
-/
module

public import proofs.«01_k».proof.Proof.Ideal.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem grp_inb (g : Fin 16) : ∀ a, (![0, 128 * g.val] : Fin 2 → ℕ) a + S128x128.size a ≤ S128x2048.size a := by
  have := g.isLt; intro a; fin_cases a
  · show 0 + 128 ≤ 128; omega
  · show 128 * g.val + 128 ≤ 2048; omega

theorem scl_inb (g : Fin 16) : ∀ a, (![0, g.val] : Fin 2 → ℕ) a + S128x1.size a ≤ S128x16.size a := by
  have := g.isLt; intro a; fin_cases a
  · show 0 + 128 ≤ 128; omega
  · show g.val + 1 ≤ 16; omega

variable (C1 : S128x2048.Idx → Elt F .fp8e4m3) (C2 : S128x16.Idx → Elt F .f32)

/-- Group `g`. -/
def yGrp (g : Fin 16) : FVec F S128x128 .bf16 :=
  k0_pay140 (fun x => C1 ((Rect.unit (s := S128x2048) ![0, 128 * g.val] S128x128.size (grp_inb g)).toLoadRect.idx x))
    (fun x => C2 ((Rect.unit (s := S128x16) ![0, g.val] S128x1.size (scl_inb g)).toLoadRect.idx x))

/-- A column's place in its group. -/
def grpIx (y : S128x2048.Idx) : S128x128.Idx := fun a => match a with
  | 0 => y 0
  | 1 => (⟨(y 1).val % 128, Nat.mod_lt _ (by omega)⟩ : Fin 128)

def grpOf (y : S128x2048.Idx) : Fin 16 := ⟨(y 1).val / 128, by have : (y 1).val < 2048 := (y 1).isLt; omega⟩

/-- The activations. -/
def ybC : BufTy.Contents (Elt F) ybM.view.ty := fun y : S128x2048.Idx => yGrp C1 C2 (grpOf y) (grpIx y)

/-- The store of group `g`. -/
def yPiece (g : Fin 16) : View.Piece (Elt F) S128x2048 .bf16 := ⟨Rect.unit (s := S128x2048) ![0, 128 * g.val] S128x128.size (grp_inb g), yGrp C1 C2 g⟩

/-- The sixteen stores leave the activations. -/
theorem yb_done (f : BufTy.Contents (Elt F) ybM.view.ty) :
    ybM.view.writes (Elt F) f ([15, 14, 13, 12, 11, 10, 9, 8, 7, 6, 5, 4, 3, 2, 1, 0].map (yPiece C1 C2)) = ybC C1 C2 := by
  refine funext fun y : S128x2048.Idx => ?_
  have hr : ∀ g : BufTy.Contents (Elt F) ybM.view.ty, g y = View.read (Elt F) ybM.view g y := fun g => rfl
  refine (hr _).trans ?_
  refine View.read_writes_apply_of_pieces ybM.view f (fun y : S128x2048.Idx => yGrp C1 C2 (grpOf y) (grpIx y)) _ ?_ y ?_
  · intro p hp x
    obtain ⟨g, -, rfl⟩ := List.mem_map.mp hp
    change S128x128.Idx at x
    have h1 : (x 1).val < 128 := (x 1).isLt
    have e0 : grpOf ((Rect.unit (s := S128x2048) ![0, 128 * g.val] S128x128.size (grp_inb g)).emb x) = g :=
      Fin.ext (show (128 * g.val + 1 * (x 1).val) / 128 = g.val by omega)
    have e1 : grpIx ((Rect.unit (s := S128x2048) ![0, 128 * g.val] S128x128.size (grp_inb g)).emb x) = x := by
      funext a; fin_cases a
      · exact Fin.ext (show 0 + 1 * (x 0).val = (x 0).val by omega)
      · exact Fin.ext (show (128 * g.val + 1 * (x 1).val) % 128 = (x 1).val by omega)
    show yGrp C1 C2 g x = yGrp C1 C2 (grpOf ((Rect.unit (s := S128x2048) ![0, 128 * g.val] S128x128.size (grp_inb g)).emb x)) (grpIx ((Rect.unit (s := S128x2048) ![0, 128 * g.val] S128x128.size (grp_inb g)).emb x))
    rw [e0, e1]
  · refine ⟨yPiece C1 C2 (grpOf y), List.mem_map.mpr ⟨grpOf y, by generalize grpOf y = g; revert g; decide, rfl⟩, ?_⟩
    refine (Rect.mem_set_unit (inb := grp_inb (grpOf y))).mpr fun a => ?_
    have h0 : (y 0).val < 128 := (y 0).isLt
    have h1 : (y 1).val < 2048 := (y 1).isLt
    fin_cases a
    · show 0 ≤ (y 0).val ∧ (y 0).val < 0 + 128; omega
    · show 128 * ((y 1).val / 128) ≤ (y 1).val ∧ (y 1).val < 128 * ((y 1).val / 128) + 128; omega

end Cert.KernelIdeal.Hand
-- ==== Proof.Ideal.Body.lean ====
/-
  Hand-written, untrusted. The kernel's body, run by the executor: the targets, the eight first transfers, the
  activations, the chunk loop by its invariant, the loss.
-/
module

public import proofs.«01_k».proof.Proof.Ideal.Trip
public import proofs.«01_k».proof.Proof.Ideal.Targets
public import proofs.«01_k».proof.Proof.Ideal.Split
public import proofs.«01_k».proof.Proof.Ideal.Acts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A slot to be started: its semaphore at zero, the slot at anything. -/
abbrev startAt (c : Dev nD) (oc : Fin 1 → ℕ) (hc : CellOk oc) (os : Fin 3 → ℕ) (hs : SlotOk os) : sProp 𝕄 :=
  iprop(semVal ((c : Thread nD τ), cellAt oc hc) 0
    ∗ (∃ f, (slotAt os hs).view.loc (c : Thread nD τ) ↦[(slotAt os hs).view.set]{fullShare} f))

/-- The eight slots, free, under the names the program starts their transfers by; their shares of the head's codes
    listed apart, in the order the transfers take them. -/
theorem free_names (c : Dev nD) (fh : HeadBuf (F := F) c) :
    bigSep Finset.univ (fun j : Fin 8 => freeK c fh j)
      ⊢ iprop((startAt c ![0] inb_S8_S1_0 ![0, 0, 0] inb_S8x2048x1280_S1x2048x1280_0_0_0
        ∗ startAt c ![1] inb_S8_S1_1 ![1, 0, 0] inb_S8x2048x1280_S1x2048x1280_1_0_0
        ∗ startAt c ![2] inb_S8_S1_2 ![2, 0, 0] inb_S8x2048x1280_S1x2048x1280_2_0_0
        ∗ startAt c ![3] inb_S8_S1_3 ![3, 0, 0] inb_S8x2048x1280_S1x2048x1280_3_0_0
        ∗ startAt c ![4] inb_S8_S1_4 ![4, 0, 0] inb_S8x2048x1280_S1x2048x1280_4_0_0
        ∗ startAt c ![5] inb_S8_S1_5 ![5, 0, 0] inb_S8x2048x1280_S1x2048x1280_5_0_0
        ∗ startAt c ![6] inb_S8_S1_6 ![6, 0, 0] inb_S8x2048x1280_S1x2048x1280_6_0_0
        ∗ startAt c ![7] inb_S8_S1_7 ![7, 0, 0] inb_S8x2048x1280_S1x2048x1280_7_0_0)
        ∗ (headShare c 0 Finset.univ fh ∗ headShare c 1 Finset.univ fh ∗ headShare c 2 Finset.univ fh ∗ headShare c 3 Finset.univ fh ∗ headShare c 4 Finset.univ fh ∗ headShare c 5 Finset.univ fh ∗ headShare c 6 Finset.univ fh ∗ headShare c 7 Finset.univ fh)) := by
  have e : bigSep Finset.univ (fun j : Fin 8 => startAt (F := F) c ![j.val] (cell_inb j) ![j.val, 0, 0] (slot_inb j)) =
      iprop(bigSep Finset.univ (fun j : Fin 8 => semVal ((c : Thread nD τ), cellAt ![j.val] (cell_inb j)) 0)
        ∗ bigSep Finset.univ (fun j : Fin 8 => iprop(∃ f, ringM.view.loc (c : Thread nD τ) ↦[(slotAt ![j.val, 0, 0] (slot_inb j)).view.set]{fullShare} f))) :=
    bigSep_sep' _ _ _
  rw [bigSep_eight] at e
  refine BIBase.Entails.trans ?_ (Entails.of_eq (congrArg₂ (fun P Q : sProp 𝕄 => iprop(P ∗ Q)) e.symm
    (BI.bigSep_univ_eq_bigSepL [0, 1, 2, 3, 4, 5, 6, 7] (by decide) (by decide) (fun j : Fin 8 => headShare c j Finset.univ fh))))
  rw [freeK_all, toks_eq]
  iintro ⟨HS, HR, HT⟩
  isplitr [HT]
  · isplitl [HS]; · iexact HS
    iexact HR
  · iexact HT

/-- The eight slots in flight with the first eight chunks, under the names the program started the transfers by. -/
theorem busy_names (c : Dev nD) (fh : HeadBuf (F := F) c) :
    Ring.AtW (σ := fun _ => Option (Fin 101)) (Slot c fh) (stAt 0)
      = iprop(busyAt c fh 0 ![0] inb_S8_S1_0 ![0, 0, 0] inb_S8x2048x1280_S1x2048x1280_0_0_0 ![0, 0] inb_S2048x129280_S2048x1280_0_0
        ∗ busyAt c fh 1 ![1] inb_S8_S1_1 ![1, 0, 0] inb_S8x2048x1280_S1x2048x1280_1_0_0 ![0, 1280] inb_S2048x129280_S2048x1280_0_1280
        ∗ busyAt c fh 2 ![2] inb_S8_S1_2 ![2, 0, 0] inb_S8x2048x1280_S1x2048x1280_2_0_0 ![0, 2560] inb_S2048x129280_S2048x1280_0_2560
        ∗ busyAt c fh 3 ![3] inb_S8_S1_3 ![3, 0, 0] inb_S8x2048x1280_S1x2048x1280_3_0_0 ![0, 3840] inb_S2048x129280_S2048x1280_0_3840
        ∗ busyAt c fh 4 ![4] inb_S8_S1_4 ![4, 0, 0] inb_S8x2048x1280_S1x2048x1280_4_0_0 ![0, 5120] inb_S2048x129280_S2048x1280_0_5120
        ∗ busyAt c fh 5 ![5] inb_S8_S1_5 ![5, 0, 0] inb_S8x2048x1280_S1x2048x1280_5_0_0 ![0, 6400] inb_S2048x129280_S2048x1280_0_6400
        ∗ busyAt c fh 6 ![6] inb_S8_S1_6 ![6, 0, 0] inb_S8x2048x1280_S1x2048x1280_6_0_0 ![0, 7680] inb_S2048x129280_S2048x1280_0_7680
        ∗ busyAt c fh 7 ![7] inb_S8_S1_7 ![7, 0, 0] inb_S8x2048x1280_S1x2048x1280_7_0_0 ![0, 8960] inb_S2048x129280_S2048x1280_0_8960) :=
  bigSep_eight _

theorem stAt_end (j : Fin 8) : stAt 101 j = none := by
  unfold stAt; exact dif_neg (by omega)

theorem free_end (c : Dev nD) (fh : HeadBuf (F := F) c) :
    Ring.AtW (σ := fun _ => Option (Fin 101)) (Slot c fh) (stAt 101) = bigSep Finset.univ (fun j : Fin 8 => freeK c fh j) := by
  show bigSep Finset.univ (fun j => Slot c fh j (stAt 101 j)) = _
  simp only [stAt_end]; rfl

/-- The lane numbers. -/
abbrev lanes : IVec S128x128 32 := iota .tc S128x128 32 [1] iota_S128x128_d1_w32

/-- The carried values when the chunk loop ends. -/
def lastC (c : Dev nD) (fh : HeadBuf (F := F) c) (I : S1x129.Idx → Elt F .i32) (C1 : S128x2048.Idx → Elt F .fp8e4m3)
    (C2 : S128x16.Idx → Elt F .f32) (fs : S16x1010.Idx → Elt F .f32) : Carry F :=
  carryT c fh fs (ybC C1 C2) (tgtC I) lanes (k0_pay160, k0_pay161, k0_pay162) k0_t2_loop.trips

/-- The loss, of the ids, the activations' codes and scales, the head's codes and scales. -/
def lossV (c : Dev nD) (fh : HeadBuf (F := F) c) (I : S1x129.Idx → Elt F .i32) (C1 : S128x2048.Idx → Elt F .fp8e4m3)
    (C2 : S128x16.Idx → Elt F .f32) (fs : S16x1010.Idx → Elt F .f32) : FVec F S1x128 .f32 :=
  k0_pay1 (k0_pay164 (lastC c fh I C1 C2 fs).1 (lastC c fh I C1 C2 fs).2.1 (lastC c fh I C1 C2 fs).2.2) (Scalar.ofBits .f32 0x413C50D7#32)

set_option sl_exec.resultNames true in
theorem bodyT (c : Dev nD) (fh : HeadBuf (F := F) c)
    (arg0 : Memref sig .tc .smem S1x129 .i32) (harg0 : arg0.IsWhole) (arg1 : Memref sig .tc .vmem S128x2048 .fp8e4m3) (harg1 : arg1.IsWhole)
    (arg2 : Memref sig .tc .vmem S128x16 .f32) (harg2 : arg2.IsWhole) (arg3 : Memref sig .tc .smem S16x1010 .f32) (harg3 : arg3.IsWhole)
    (arg5 : Memref sig .tc .vmem S1x128 .f32) (harg5 : arg5.IsWhole)
    (X0 : BufTy.Contents (Elt F) arg0.view.ty) (X1 : BufTy.Contents (Elt F) arg1.view.ty) (X2 : BufTy.Contents (Elt F) arg2.view.ty)
    (fs : BufTy.Contents (Elt F) arg3.view.ty) :
    iprop(bigSep Finset.univ (fun j : Fin 8 => freeK c fh j)
      ∗ (arg0.view.loc (c : Thread nD τ) ↦[arg0.view.set]{fullShare} X0)
      ∗ (arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} fs)
      ∗ (∃ f, arg5.view.loc (c : Thread nD τ) ↦[arg5.view.set]{fullShare} f)
      ∗ (∃ f, ybM.view.loc (c : Thread nD τ) ↦[ybM.view.set]{fullShare} f)
      ∗ (∃ f, tgtM.view.loc (c : Thread nD τ) ↦[tgtM.view.set]{fullShare} f)
      ∗ (∃ W, owes (c : Thread nD τ) 0 W))
    ⊢ wp frame (wpE (defs₀ (F := F)) Variants.none (c : Thread nD τ) none) Set.univ
        (cc0_mtp_head arg0 harg0 arg1 harg1 arg2 harg2 arg3 harg3 (Memref.whole main_arg3) (Memref.isWhole_whole _) arg5 harg5
          (Memref.whole cc0_scratch0) (Memref.isWhole_whole _) (Memref.whole cc0_scratch1) (Memref.isWhole_whole _)
          (Memref.whole cc0_scratch2) (Memref.isWhole_whole _) cc0_scratch3)
        (fun _ => iprop(bigSep Finset.univ (fun j : Fin 8 => freeK c fh j)
          ∗ (arg0.view.loc (c : Thread nD τ) ↦[arg0.view.set]{fullShare} X0)
          ∗ (arg1.view.loc (c : Thread nD τ) ↦[arg1.view.set]{fullShare} X1)
          ∗ (arg2.view.loc (c : Thread nD τ) ↦[arg2.view.set]{fullShare} X2)
          ∗ (arg3.view.loc (c : Thread nD τ) ↦[arg3.view.set]{fullShare} fs)
          ∗ owns (c : Thread nD τ) arg5 fullShare
              (lossV c fh (arg0.view.read (Elt F) X0) (arg1.view.read (Elt F) X1) (arg2.view.read (Elt F) X2) (arg3.view.read (Elt F) fs))
          ∗ (∃ f, ybM.view.loc (c : Thread nD τ) ↦[ybM.view.set]{fullShare} f)
          ∗ (∃ f, tgtM.view.loc (c : Thread nD τ) ↦[tgtM.view.set]{fullShare} f)
          ∗ (∃ W, owes (c : Thread nD τ) 0 W))) := by
  rw [cc0_mtp_head_eq_skeleton]; unfold cc0_mtp_head_skel
  iintro ⟨HF, H0, H1, H2, H3, ⟨%_, H5⟩, ⟨%_, Hy⟩, ⟨%f7, Hw⟩, ⟨%W, HO⟩⟩
  ihave HF' := (free_names c fh) $$ HF
  icases HF' with ⟨⟨⟨S0, %_, F0⟩, ⟨S1, %_, F1⟩, ⟨S2, %_, F2⟩, ⟨S3, %_, F3⟩, ⟨S4, %_, F4⟩, ⟨S5, %_, F5⟩, ⟨S6, %_, F6⟩, ⟨S7, %_, F7⟩⟩, T0, T1, T2, T3, T4, T5, T6, T7⟩
  sl_exec
  sl_for (invW c arg0 X0 tgtM) $$ [H0 Hw]
  case region =>
    intro k acc
    exact (loopInvW Variants.none c none Set.univ arg0 harg0 arg1 harg1 arg2 harg2 arg3 harg3 (Memref.whole main_arg3) (Memref.isWhole_whole _) arg5 harg5
          (Memref.whole cc0_scratch0) (Memref.isWhole_whole _) (Memref.whole cc0_scratch1) (Memref.isWhole_whole _)
          (Memref.whole cc0_scratch2) (Memref.isWhole_whole _) cc0_scratch3 X0).step k acc
  · isplitl [H0]; · iexact H0
    iexists _; isplitl [Hw]; · iexact Hw
    ipureintro; intro y hy; exact absurd hy (Nat.not_lt_zero _)
  iintro %_ ⟨H0, ⟨%ft, Hw, %hft⟩⟩
  sl_exec
  rw [tgt_done arg0 X0 ft _ (by decide) hft]
  rw [show bodyT.sl.Hy_16 arg1 arg2 X1 X2 = [15, 14, 13, 12, 11, 10, 9, 8, 7, 6, 5, 4, 3, 2, 1, 0].map
    (yPiece (arg1.view.read (Elt F) X1) (arg2.view.read (Elt F) X2)) from rfl]
  ihave Hy' := (Entails.of_eq (congrArg (fun f => (ybM.view.loc (c : Thread nD τ) ↦[ybM.view.set]{fullShare} f : sProp 𝕄))
    (yb_done (arg1.view.read (Elt F) X1) (arg2.view.read (Elt F) X2) _))) $$ Hy
  sl_for (invT c fh arg3 fs (ybC (arg1.view.read (Elt F) X1) (arg2.view.read (Elt F) X2)) (tgtC (arg0.view.read (Elt F) X0)) lanes (k0_pay160, k0_pay161, k0_pay162))
    $$ [S0 T0 S1 T1 S2 T2 S3 T3 S4 T4 S5 T5 S6 T6 S7 T7 H3 Hy' Hw HO]
  case region =>
    intro k acc
    exact tripT c fh arg0 harg0 arg1 harg1 arg2 harg2 arg3 harg3 arg5 harg5 lanes _ fs _ _ _ k acc
  · unfold invT
    rw [busy_names]
    isplitl [S0 T0 S1 T1 S2 T2 S3 T3 S4 T4 S5 T5 S6 T6 S7 T7]
    · isplitl [S0 T5]
      · isplitl [S0]; · iexists _; iexact S0
        iexact T5
      isplitl [S1 T6]
      · isplitl [S1]; · iexists _; iexact S1
        iexact T6
      isplitl [S2 T7]
      · isplitl [S2]; · iexists _; iexact S2
        iexact T7
      isplitl [S3 T0]
      · isplitl [S3]; · iexists _; iexact S3
        iexact T0
      isplitl [S4 T1]
      · isplitl [S4]; · iexists _; iexact S4
        iexact T1
      isplitl [S5 T2]
      · isplitl [S5]; · iexists _; iexact S5
        iexact T2
      isplitl [S6 T3]
      · isplitl [S6]; · iexists _; iexact S6
        iexact T3
      isplitl [S7]; · iexists _; iexact S7
      iexact T4
    isplitl [H3]; · iexact H3
    isplitl [Hy']; · iexact Hy'
    isplitl [Hw]; · iexact Hw
    isplitl [HO]; · iexists _; iexact HO
    ipureintro; rfl
  iintro %x HI
  unfold invT
  icases HI with ⟨HF, H3, Hy, Hw, ⟨%W', HO⟩, %hx⟩
  sl_exec
  sl_step
  have hx' : x = lastC c fh (arg0.view.read (Elt F) X0) (arg1.view.read (Elt F) X1) (arg2.view.read (Elt F) X2) (arg3.view.read (Elt F) fs) := hx
  isplitl [HF]
  · iapply (Entails.of_eq (free_end c fh)); iexact HF
  isplitl [H0]; · iexact H0
  isplitl [H1]; · iexact H1
  isplitl [H2]; · iexact H2
  isplitl [H3]; · iexact H3
  isplitl [H5]
  · unfold owns; iexists _; isplitr [H5]; rotate_left; · iexact H5
    ipureintro
    rw [hx']
    funext y
    rw [View.read_writes_cons_hit_of_coords _ _ (Rect.unit (s := S1x128) ![0, 0] S1x128.size inb_S1x128_S1x128_0_0) _ _ y y (by
      intro a
      fin_cases a
      · show (y 0).val = 0 + 1 * (y 0).val; omega
      · show (y 1).val = 0 + 1 * (y 1).val; omega)]
    rfl
  isplitl [Hy]; · iexists _; iexact Hy
  isplitl [Hw]; · iexists _; iexact Hw
  iexists _; iexact HO

end Cert.KernelIdeal.Hand
-- ==== Proof.Ideal.Frame.lean ====
/-
  Hand-written, untrusted. The launch: the ring's slots and read shares come from the scoped buffers, the eight
  semaphores at zero and the head's codes; the body's run (Body.lean) gives the whole program's: every argument ends as it
  was, every semaphore at zero, and the result is `lossV` of the arguments.
-/
module

public import proofs.«01_k».proof.Proof.Ideal.Body
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the kernel call, at the transfers' resources -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's own resources -/

/-- The ring's eight semaphores. -/
abbrev osem0 : Fin 8 → SemLoc sig := fun j =>
  (![SemLoc.dma 5, SemLoc.dma 6, SemLoc.dma 7, SemLoc.dma 8, SemLoc.dma 9, SemLoc.dma 10, SemLoc.dma 11, SemLoc.dma 12] : Fin 8 → SemLoc sig) j
theorem ownSemFacts0 : Pipeline.OwnSemFacts spec0 osem0 := by decide
theorem osem0_eq : ∀ j : Fin 8, osem0 j = cellAt ![j.val] (cell_inb j) := by
  intro j; fin_cases j <;> rfl
theorem ownSems00_eq (c : Dev nD) :
    (Pipeline.ownSems0 (Ix := Unit) (Name := ℕ) (U := Pipeline.UD sig nD τ) (Lvl := ℕ) (Val := Elt F) (τ := τ) osem0 c : sProp 𝕄)
      = bigSep Finset.univ (fun j : Fin 8 => semVal ((c : Thread nD τ), cellAt ![j.val] (cell_inb j)) 0) := by
  unfold Pipeline.ownSems0
  exact congrArg (bigSep Finset.univ) (funext fun j => by rw [osem0_eq])

/-- The one operand left in HBM: the head's codes, which the body's transfers read. -/
def H0 : Finset (Ref sig .tc) := {main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = (headM.view.loc (c : Thread nD τ) ↦{fullShare} V m c main_arg3) := by
  rw [BI.bigSep_eq_bigSepL_of_eq [main_arg3] (by decide) (by decide)]; rfl

theorem PhiD_eq (c : Dev nD) :
    (Pipeline.ΦD osem0 spec0 H0 (V m) c : sProp 𝕄)
      = iprop(iprop((∃ f, ybM.view.loc (c : Thread nD τ) ↦{fullShare} f) ∗ (∃ f, tgtM.view.loc (c : Thread nD τ) ↦{fullShare} f)
                ∗ (∃ f, ringM.view.loc (c : Thread nD τ) ↦{fullShare} f))
          ∗ (∃ r, prngReg c r)
          ∗ bigSep Finset.univ (fun j : Fin 8 => semVal ((c : Thread nD τ), cellAt ![j.val] (cell_inb j)) 0)
          ∗ (headM.view.loc (c : Thread nD τ) ↦{fullShare} V m c main_arg3)) := by
  rw [Pipeline.ΦD_eq, scopedRest0_eq, ownSems00_eq, hbmPts0_eq]; try rfl

/-! ## The proof data and the body obligation -/

/-- What the body leaves in the result's buffer. -/
def outAt (c : Dev nD) (t : Fin cfg0.N) : Vec F S1x128 .f32 :=
  lossV c (V m c main_arg3) (iblk m c 0 t) (iblk m c 1 t) (iblk m c 2 t) (iblk m c 3 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A buffer held on all of its view's elements is held whole. -/
theorem yb_whole (c : Dev nD) (f) : (ybM.view.loc (c : Thread nD τ) ↦[ybM.view.set]{fullShare} f : sProp 𝕄) = (ybM.view.loc (c : Thread nD τ) ↦{fullShare} f) := by
  rw [show ybM.view.set = Finset.univ from View.set_whole _]
theorem tgt_whole (c : Dev nD) (f) : (tgtM.view.loc (c : Thread nD τ) ↦[tgtM.view.set]{fullShare} f : sProp 𝕄) = (tgtM.view.loc (c : Thread nD τ) ↦{fullShare} f) := by
  rw [show tgtM.view.set = Finset.univ from View.set_whole _]

/-- The body's run in the form the launch wants: what the launch lends, and the windows' buffers at read contents. -/
theorem bodyK (c : Dev nD) (fh : HeadBuf (F := F) c) (W : Waits sig Unit)
    (arg0 : Memref sig .tc .smem S1x129 .i32) (harg0 : arg0.IsWhole) (arg1 : Memref sig .tc .vmem S128x2048 .fp8e4m3) (harg1 : arg1.IsWhole)
    (arg2 : Memref sig .tc .vmem S128x16 .f32) (harg2 : arg2.IsWhole) (arg3 : Memref sig .tc .smem S16x1010 .f32) (harg3 : arg3.IsWhole)
    (arg5 : Memref sig .tc .vmem S1x128 .f32) (harg5 : arg5.IsWhole)
    (x0 : Vec F S1x129 .i32) (x1 : Vec F S128x2048 .fp8e4m3) (x2 : Vec F S128x16 .f32) (x3 : Vec F S16x1010 .f32) (K : PUnit → sProp 𝕄) :
    (iprop((∃ f, ybM.view.loc (c : Thread nD τ) ↦{fullShare} f) ∗ (∃ f, tgtM.view.loc (c : Thread nD τ) ↦{fullShare} f)
        ∗ (∃ f, ringM.view.loc (c : Thread nD τ) ↦{fullShare} f)
        ∗ bigSep Finset.univ (fun j : Fin 8 => semVal ((c : Thread nD τ), cellAt ![j.val] (cell_inb j)) 0)
        ∗ (headM.view.loc (c : Thread nD τ) ↦{fullShare} fh)
        ∗ owes (c : Thread nD τ) 0 W
        ∗ owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg5 fullShare d)
        ∗ (iprop((∃ f, ybM.view.loc (c : Thread nD τ) ↦{fullShare} f) ∗ (∃ f, tgtM.view.loc (c : Thread nD τ) ↦{fullShare} f)
            ∗ (∃ f, ringM.view.loc (c : Thread nD τ) ↦{fullShare} f)
            ∗ bigSep Finset.univ (fun j : Fin 8 => semVal ((c : Thread nD τ), cellAt ![j.val] (cell_inb j)) 0)
            ∗ (headM.view.loc (c : Thread nD τ) ↦{fullShare} fh)
            ∗ (∃ W, owes (c : Thread nD τ) 0 W)
            ∗ owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg5 fullShare (lossV c fh x0 x1 x2 x3)) -∗ K ⟨⟩)) : sProp 𝕄)
    ⊢ wp frame (wpE (defs₀ (F := F)) Variants.none (c : Thread nD τ) none) Set.univ
        (cc0_mtp_head arg0 harg0 arg1 harg1 arg2 harg2 arg3 harg3 (Memref.whole main_arg3) (Memref.isWhole_whole _) arg5 harg5
          (Memref.whole cc0_scratch0) (Memref.isWhole_whole _) (Memref.whole cc0_scratch1) (Memref.isWhole_whole _)
          (Memref.whole cc0_scratch2) (Memref.isWhole_whole _) cc0_scratch3) K := by
  conv => lhs; unfold owns
  iintro ⟨⟨%fy, Hy⟩, ⟨%ft, Hw⟩, ⟨%fr, HR⟩, HS, HH, HO, ⟨%f0, %e0, H0⟩, ⟨%f1, %e1, H1⟩, ⟨%f2, %e2, H2⟩, ⟨%f3, %e3, H3⟩, ⟨%d5, %f5, -, H5⟩, Hk⟩
  subst e0 e1 e2 e3
  ihave ⟨HF, HD⟩ := (free_split c fh) $$ [HR HH HS]
  · isplitl [HR]; · iexists fr; iexact HR
    isplitl [HH]; · iexact HH
    iexact HS
  iapply wp_wand_r
  isplitl [HF Hy Hw HO H0 H1 H2 H3 H5]
  · iapply (bodyT c fh arg0 harg0 arg1 harg1 arg2 harg2 arg3 harg3 arg5 harg5 f0 f1 f2 f3)
    isplitl [HF]; · iexact HF
    isplitl [H0]; · iexact H0
    isplitl [H1]; · iexact H1
    isplitl [H2]; · iexact H2
    isplitl [H3]; · iexact H3
    isplitl [H5]; · iexists _; iexact H5
    isplitl [Hy]; · iexists fy; rw [yb_whole]; iexact Hy
    isplitl [Hw]; · iexists ft; rw [tgt_whole]; iexact Hw
    iexists _; iexact HO
  iintro %u ⟨HF, H0, H1, H2, H3, H5, ⟨%gy, Hy⟩, ⟨%gt, Hw⟩, HO⟩
  cases u
  ihave ⟨HR, HH, HS⟩ := (free_join c fh fr) $$ [HF HD]
  · isplitl [HF]; · iexact HF
    iexact HD
  iapply Hk
  isplitl [Hy]; · iexists gy; rw [← yb_whole]; iexact Hy
  isplitl [Hw]; · iexists gt; rw [← tgt_whole]; iexact Hw
  isplitl [HR]; · iexact HR
  isplitl [HS]; · iexact HS
  isplitl [HH]; · iexact HH
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  unfold owns; iexact H5

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1, after2, after3, after4]
  rw [show (dats m 0 c).Φ t.castSucc = Pipeline.ΦD osem0 spec0 H0 (V m) c from rfl, PhiD_eq]
  simp only [before0 m _ (A_eq m c 0) (after0 m c), before1 m _ (A_eq m c 1) (after1 m c), before2 m _ (A_eq m c 2) (after2 m c),
    before3 m _ (A_eq m c 3) (after3 m c)]
  unfold Dat.owesAt Pipeline.owesWithin
  rw [show (dats m 0 c).owed t.castSucc = 0 from rfl, show (dats m 0 c).owed t.succ = 0 from rfl]
  unfold outAt
  iintro ⟨⟨⟨Hy, Hw, HR⟩, Hg, HS, HH⟩, ⟨%W, -, HW⟩, ⟨%d0, H0⟩, ⟨%d1, H1⟩, ⟨%d2, H2⟩, ⟨%d3, H3⟩, ⟨%d4, H4⟩⟩
  iapply (bodyK c (V m c main_arg3) W _ _ _ _ _ _ _ _ _ _ (iblk m c 0 t) (iblk m c 1 t) (iblk m c 2 t) (iblk m c 3 t) _)
  isplitl [Hy]; · iexact Hy
  isplitl [Hw]; · iexact Hw
  isplitl [HR]; · iexact HR
  isplitl [HS]; · iexact HS
  isplitl [HH]; · iexact HH
  isplitl [HW]; · iexact HW
  isplitl [H0]; · iexact H0
  isplitl [H1]; · iexact H1
  isplitl [H2]; · iexact H2
  isplitl [H3]; · iexact H3
  isplitl [H4]; · iexists _; iexact H4
  iintro ⟨Hy, Hw, HR, HS, HH, ⟨%W', HW'⟩, H0, H1, H2, H3, H4⟩
  isplitl [Hy Hw HR Hg HS HH]
  · isplitl [Hy Hw HR]
    · isplitl [Hy]; · iexact Hy
      isplitl [Hw]; · iexact Hw
      iexact HR
    isplitl [Hg]; · iexact Hg
    isplitl [HS]; · iexact HS
    iexact HH
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-! ## What the arrays hold after the run -/

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S1x129.Idx) : ((cfg0.win 0).blk t).view.emb j = j := by
  obtain ⟨e0, e1⟩ := idx_zero0 t
  funext a; apply Fin.ext
  match a with
  | ⟨0, _⟩ => show win0_0.index t (0 : Fin 2) * 1 + 1 * (j 0).val = (j 0).val; omega
  | ⟨1, _⟩ => show win0_0.index t (1 : Fin 2) * 129 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S128x2048.Idx) : ((cfg0.win 1).blk t).view.emb j = j := by
  obtain ⟨e0, e1⟩ := idx_zero1 t
  funext a; apply Fin.ext
  match a with
  | ⟨0, _⟩ => show win0_1.index t (0 : Fin 2) * 128 + 1 * (j 0).val = (j 0).val; omega
  | ⟨1, _⟩ => show win0_1.index t (1 : Fin 2) * 2048 + 1 * (j 1).val = (j 1).val; omega
theorem iblk1_eq (c : Dev nD) (t : Fin cfg0.N) : iblk m c 1 t = V m c main_v0 := by
  funext j; show V m c main_v0 (((cfg0.win 1).blk t).view.emb j) = V m c main_v0 j; rw [emb1]
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S128x16.Idx) : ((cfg0.win 2).blk t).view.emb j = j := by
  obtain ⟨e0, e1⟩ := idx_zero2 t
  funext a; apply Fin.ext
  match a with
  | ⟨0, _⟩ => show win0_2.index t (0 : Fin 2) * 128 + 1 * (j 0).val = (j 0).val; omega
  | ⟨1, _⟩ => show win0_2.index t (1 : Fin 2) * 16 + 1 * (j 1).val = (j 1).val; omega
theorem iblk2_eq (c : Dev nD) (t : Fin cfg0.N) : iblk m c 2 t = V m c main_v1 := by
  funext j; show V m c main_v1 (((cfg0.win 2).blk t).view.emb j) = V m c main_v1 j; rw [emb2]
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S16x1010.Idx) : ((cfg0.win 3).blk t).view.emb j = j := by
  obtain ⟨e0, e1⟩ := idx_zero3 t
  funext a; apply Fin.ext
  match a with
  | ⟨0, _⟩ => show win0_3.index t (0 : Fin 2) * 16 + 1 * (j 0).val = (j 0).val; omega
  | ⟨1, _⟩ => show win0_3.index t (1 : Fin 2) * 1010 + 1 * (j 1).val = (j 1).val; omega
theorem iblk3_eq (c : Dev nD) (t : Fin cfg0.N) : iblk m c 3 t = V m c main_arg4 := by
  funext j; show V m c main_arg4 (((cfg0.win 3).blk t).view.emb j) = V m c main_arg4 j; rw [emb3]
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S1x128.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- The two host reshapes drop the batch axis of the codes and of the scales. -/
def codes2 (y : S1x128x2048.Idx → Elt F .fp8e4m3) : S128x2048.Idx → Elt F .fp8e4m3 := shapeCast S128x2048 y shapeCasts_S1x128x2048_S128x2048
def scales2 (y : S1x128x16.Idx → Elt F .f32) : S128x16.Idx → Elt F .f32 := shapeCast S128x16 y shapeCasts_S1x128x16_S128x16
theorem V_v0 (c : Dev nD) : V m c main_v0 = codes2 (m ((c : Thread nD τ).loc main_arg1)) := by
  entry_read; rfl
theorem V_v1 (c : Dev nD) : V m c main_v1 = scales2 (m ((c : Thread nD τ).loc main_arg2)) := by
  entry_read; rfl

/-- The result, of the arguments as launched. -/
def G (c : Dev nD) (a0 : S1x129.Idx → Elt F .i32) (a1 : S1x128x2048.Idx → Elt F .fp8e4m3) (a2 : S1x128x16.Idx → Elt F .f32)
    (a3 : HeadBuf (F := F) c) (a4 : S16x1010.Idx → Elt F .f32) : Vec F S1x128 .f32 :=
  lossV c a3 a0 (codes2 a1) (scales2 a2) a4

theorem outAt_eq (c : Dev nD) (t : Fin cfg0.N) :
    outAt m c t = G c (m ((c : Thread nD τ).loc main_arg0)) (m ((c : Thread nD τ).loc main_arg1)) (m ((c : Thread nD τ).loc main_arg2))
      (m ((c : Thread nD τ).loc main_arg3)) (m ((c : Thread nD τ).loc main_arg4)) := by
  unfold outAt G
  rw [iblk0_eq, iblk1_eq, iblk2_eq, iblk3_eq, V_main_arg0, V_main_arg3, V_main_arg4, V_v0, V_v1]

theorem cut4_eq (t : Fin cfg0.N) (X : Vec F S1x128 .f32) :
    (cfg0.win 4).cut (grid0.coords t) X = ((cfg0.win 4).blk t).view.read (Elt F) X := by
  funext j
  show X j = X (((cfg0.win 4).blk t).view.emb j)
  rw [emb4]
theorem flushed4_eq (c : Dev nD) (t : Fin cfg0.N) :
    (dats m 0 c).flushed 4 t = ((cfg0.win 4).blk t).view.read (Elt F) (outAt m c t0_0) := by
  show (cfg0.win 4).cut (grid0.coords t) ((dats m 0 c).after 4 t) = _
  rw [after4, fin_N0 t]
  exact cut4_eq _ _
theorem covered4 (i : S1x128.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩
theorem final4 (c : Dev nD) : (dats m 0 c).arrAt 4 cfg0.N = outAt m c t0_0 :=
  (dats m 0 c).arrAt_eq_of_cover 4 (outAt m c t0_0) (fun t _ => flushed4_eq m c t) covered4

/-- THE RUN: the result is `G` of the arguments, the arguments are as launched, every semaphore ends at zero. -/
theorem run : θ_run defs (onTc (τ := τ) (main (F := F))) ⟨m, fun _ => 0, ρ⟩ (fun r => (∀ c : Dev nD,
      r.2.mem ((c.tc : Thread nD τ).loc main_v2) = G c (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4).trans ((final4 m c).trans (outAt_eq m c t0_0)),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩, h.2⟩) (run_main m ρ)

/-- THE FRAME: the run without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ)

end Cert.KernelIdeal.Hand

end
-- ==== Proof.Value.Ereal.lean ====
/-
  Hand-written, untrusted. The mathematics of the running log-sum-exp over the extended reals: rescaling a sum of
  exponentials taken against one maximum to a larger one, so that a sum kept piece by piece is the whole sum.
-/
module

public import Idealize.ShloMosaic.PureOps.Ideal
public import Idealize.ShloMosaic.PureOps.Ideal.Laws

@[expose] public section

noncomputable section

namespace Cert.Value

open Idealize.ShloMosaic

theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

/-- Two differences in a row, exponentiated. -/
theorem exp_shift (l m m' : EReal) (h : l ≤ m) (h' : m ≤ m') :
    Ideal.exp (l - m) * Ideal.exp (m - m') = Ideal.exp (l - m') := by
  induction m with
  | bot =>
    obtain rfl : l = ⊥ := le_bot_iff.mp h
    simp only [sub_eq_add_neg, EReal.bot_add, Ideal.exp_bot, zero_mul]
  | top =>
    obtain rfl : m' = ⊤ := top_le_iff.mp h'
    simp only [sub_eq_add_neg, EReal.neg_top, EReal.add_bot, Ideal.exp_bot, mul_zero]
  | coe m =>
    induction l with
    | bot => simp only [sub_eq_add_neg, EReal.bot_add, Ideal.exp_bot, zero_mul]
    | top => exact absurd h (by simp)
    | coe l =>
      induction m' with
      | bot => exact absurd h' (by simp)
      | top =>
        simp only [sub_eq_add_neg, EReal.neg_top, EReal.add_bot, Ideal.exp_bot, mul_zero]
      | coe m' =>
        rw [← EReal.coe_sub, ← EReal.coe_sub, ← EReal.coe_sub, Ideal.exp_coe, Ideal.exp_coe, Ideal.exp_coe, ← EReal.coe_mul,
          ← Real.exp_add]
        congr 2; ring

/-- A sum of terms none of which is negative, times a factor. -/
theorem sum_mul {ι : Type} [DecidableEq ι] (s : Finset ι) (f : ι → EReal) (hf : ∀ i, 0 ≤ f i) (x : EReal) :
    (∑ i ∈ s, f i) * x = ∑ i ∈ s, f i * x := by
  induction s using Finset.induction_on with
  | empty => simp
  | insert a s ha ih =>
    rw [Finset.sum_insert ha, Finset.sum_insert ha, EReal.right_distrib_of_nonneg (hf a) (Finset.sum_nonneg fun i _ => hf i), ih]

/-- The sum of a set's exponentials against its own maximum, rescaled to a larger number. -/
theorem rescale {ι : Type} [DecidableEq ι] (s : Finset ι) (f : ι → EReal) (m m' : EReal) (hm : ∀ i ∈ s, f i ≤ m) (h : m ≤ m') :
    (∑ i ∈ s, Ideal.exp (f i - m)) * Ideal.exp (m - m') = ∑ i ∈ s, Ideal.exp (f i - m') := by
  rw [sum_mul s _ (fun i => exp_nonneg _)]
  exact Finset.sum_congr rfl fun i hi => exp_shift _ _ _ (hm i hi) h

/-- The maximum of the first `n` values, `⊥` of none. -/
def mx (f : ℕ → EReal) (n : ℕ) : EReal := (Finset.range n).sup f
/-- Their exponentials against it, summed. -/
def sm (f : ℕ → EReal) (n : ℕ) : EReal := ∑ j ∈ Finset.range n, Ideal.exp (f j - mx f n)
/-- The value marked, if one of them is. -/
def tg (f : ℕ → EReal) (p : ℕ → Prop) [DecidablePred p] (n : ℕ) : EReal := ∑ j ∈ Finset.range n, if p j then f j else 0

theorem mx_two (f : ℕ → EReal) (n : ℕ) : max (mx f n) (max (f n) (f (n + 1))) = mx f (n + 2) := by
  unfold mx
  rw [Finset.range_add_one, Finset.range_add_one, Finset.sup_insert, Finset.sup_insert]
  change _ = max (f (n+1)) (max (f n) _)
  rw [max_comm (f n) (f (n + 1)), max_comm ((Finset.range n).sup f), max_assoc]

theorem sm_two (f : ℕ → EReal) (n : ℕ) :
    sm f n * Ideal.exp (mx f n - mx f (n + 2)) + Ideal.exp (f n - mx f (n + 2)) + Ideal.exp (f (n + 1) - mx f (n + 2)) = sm f (n + 2) := by
  conv => rhs; unfold sm
  rw [Finset.sum_range_succ, Finset.sum_range_succ]
  congr 2
  exact rescale _ _ _ _ (fun i hi => Finset.le_sup (f := f) hi) (Finset.sup_mono (Finset.range_mono (by omega)))

theorem tg_two (f : ℕ → EReal) (p : ℕ → Prop) [DecidablePred p] (n : ℕ) (hu : ∀ i j, i < j → j < n + 2 → p j → ¬p i) :
    (if p (n + 1) then f (n + 1) else if p n then f n else tg f p n) = tg f p (n + 2) := by
  have h0 : ∀ k, n ≤ k → k < n + 2 → p k → tg f p n = 0 := fun k hk hk' h =>
    Finset.sum_eq_zero fun i hi => if_neg (hu i k (lt_of_lt_of_le (Finset.mem_range.mp hi) hk) hk' h)
  conv => rhs; unfold tg
  rw [Finset.sum_range_succ, Finset.sum_range_succ]
  change _ = tg f p n + _ + _
  by_cases h1 : p (n + 1)
  · rw [if_pos h1, if_pos h1, h0 (n + 1) (by omega) (by omega) h1, if_neg (hu n (n + 1) (by omega) (by omega) h1), zero_add, zero_add]
  · rw [if_neg h1, if_neg h1, add_zero]
    by_cases h2 : p n
    · rw [if_pos h2, if_pos h2, h0 n le_rfl (by omega) h2, zero_add]
    · rw [if_neg h2, if_neg h2, add_zero]

/-- A sum over `n` blocks of `w` places is the sum over the places. -/
theorem sum_blocks {M : Type} [AddCommMonoid M] (f : ℕ → M) (n w : ℕ) :
    ∑ j ∈ Finset.range n, ∑ a : Fin w, f (w * j + a.val) = ∑ v ∈ Finset.range (w * n), f v := by
  induction n with
  | zero => simp
  | succ n ih =>
    rw [Finset.sum_range_succ, ih, Nat.mul_succ, Finset.sum_range_add, Fin.sum_univ_eq_sum_range (fun a => f (w * n + a))]

end Cert.Value

end
-- ==== Proof.Value.Logit.lean ====
/-
  Hand-written, untrusted. What one panel of the kernel computes, over the extended reals: element `(r, j)` of panel `n`
  of chunk `k` is row `r`'s logit of the vocabulary column `1280 k + 256 n + j`, the sum over all 2048 rows of the head
  of activation times weight, each a code times its block's scale.
-/
module

public import proofs.«01_k».proof.Proof.Ideal.Step
public import proofs.«01_k».proof.Proof.Ideal.Acts
public import proofs.«01_k».proof.Proof.Value.Ereal
public import Idealize.ShloMosaic.Lib.ValueIdx
public import Idealize.ShloMosaic.Lib.ValueLayout
public import Idealize.ShloMosaic.Lib.Pipeline.Value
public import Idealize.ShloMosaic.Lib.Pointwise.Tactic
public import Idealize.ShloMosaic.Lib.Pointwise.Select
public import Idealize.ShloMosaic.Lib.Pointwise.Contract

@[expose] public section

set_option maxRecDepth 16384

noncomputable section

namespace Cert.Value

open Cert.KernelIdeal Cert.KernelIdeal.Gen Cert.KernelIdeal.Hand
open Idealize.ShloMosaic Idealize.ShloMosaic.TcCoe

/-- An array's element at two numbers. -/
def at2 {n0 n1 : ℕ} [NeZero n0] [NeZero n1] (X : (⟨2, ![n0, n1]⟩ : Shape).Idx → EReal) (a b : ℕ) : EReal :=
  X (ix2 (Fin.ofNat n0 a) (Fin.ofNat n1 b))

theorem at2_of {n0 n1 : ℕ} [NeZero n0] [NeZero n1] (X : (⟨2, ![n0, n1]⟩ : Shape).Idx → EReal) (i : (⟨2, ![n0, n1]⟩ : Shape).Idx)
    (a b : ℕ) (ha : (i 0).val = a) (hb : (i 1).val = b) : X i = at2 X a b := by
  subst ha hb
  unfold at2
  have e0 : Fin.ofNat n0 (i 0).val = i 0 := Fin.ext (Nat.mod_eq_of_lt (i 0).isLt)
  have e1 : Fin.ofNat n1 (i 1).val = i 1 := Fin.ext (Nat.mod_eq_of_lt (i 1).isLt)
  rw [e0, e1]
  exact congrArg X (eq_ix2 i)

/-- Two windows name one element when offset and place add up alike. -/
theorem idx_eq {s : Shape} {o o' sz sz' : Fin s.rank → ℕ} (h : ∀ a, o a + sz a ≤ s.size a) (h' : ∀ a, o' a + sz' a ≤ s.size a)
    (x : (Rect.unit (s := s) o sz h).shape.Idx) (x' : (Rect.unit (s := s) o' sz' h').shape.Idx)
    (e : ∀ a, o a + (x a).val = o' a + (x' a).val) :
    (Rect.unit (s := s) o sz h).toLoadRect.idx x = (Rect.unit (s := s) o' sz' h').toLoadRect.idx x' := by
  funext a; apply Fin.ext
  show o a + 1 * (x a).val = o' a + 1 * (x' a).val
  rw [Nat.one_mul, Nat.one_mul]; exact e a

theorem emb_val {s : Shape} {o sz : Fin s.rank → ℕ} (h : ∀ a, o a + sz a ≤ s.size a) (x : (Rect.unit (s := s) o sz h).shape.Idx)
    (a : Fin s.rank) : ((Rect.unit (s := s) o sz h).emb x a).val = o a + (x a).val := by
  show o a + 1 * (x a).val = _
  rw [Nat.one_mul]
theorem idx_val {s : Shape} {o sz : Fin s.rank → ℕ} (h : ∀ a, o a + sz a ≤ s.size a) (x : (Rect.unit (s := s) o sz h).shape.Idx)
    (a : Fin s.rank) : ((Rect.unit (s := s) o sz h).toLoadRect.idx x a).val = o a + (x a).val := by
  show o a + 1 * (x a).val = _
  rw [Nat.one_mul]

/-- The activation of row `r` at `k`; the head's weight at `(k, v)`; their product's sum. -/
def yv (C1 : S128x2048.Idx → EReal) (C2 : S128x16.Idx → EReal) (r k : ℕ) : EReal := at2 C1 r k * at2 C2 r (k / 128)
def wv (fh : S2048x129280.Idx → EReal) (fs : S16x1010.Idx → EReal) (k v : ℕ) : EReal := at2 fh k v * at2 fs (k / 128) (v / 128)
def logit (C1 : S128x2048.Idx → EReal) (C2 : S128x16.Idx → EReal) (fh : S2048x129280.Idx → EReal) (fs : S16x1010.Idx → EReal)
    (r v : ℕ) : EReal := ∑ k ∈ Finset.range 2048, yv C1 C2 r k * wv fh fs k v

section
variable (c : Dev nD) (fh : HeadBuf (F := Ideal) c) (k : Fin k0_t2_loop.trips) (fs : S16x1010.Idx → Elt Ideal .f32)
  (C1 : S128x2048.Idx → Elt Ideal .fp8e4m3) (C2 : S128x16.Idx → Elt Ideal .f32)

theorem trip_lt (k : Fin k0_t2_loop.trips) : k.val < 101 := Nat.lt_of_lt_of_le k.isLt k0_t2_abs.2.1

/-- The head's codes as an array. -/
def headX (fh : HeadBuf (F := Ideal) c) : S2048x129280.Idx → EReal := fh

/-- The landed chunk, read in the ring. -/
theorem landed_at (A : Fin 2048) (B : Fin 1280) :
    ringM.view.read (Elt Ideal) (landed c fh k) ((Rect.unit (s := S8x2048x1280) (k0_off4 k) S1x2048x1280.size (k0_off4_inb k)).toLoadRect.idx (ix3 0 A B))
      = headX c fh ((Rect.unit (s := S2048x129280) (k0_off5 k) S2048x1280.size (k0_off5_inb k)).emb (ix2 A B)) := by
  have h := congrFun (View.read_writes_whole (Val := Elt Ideal) (slotAt (k0_off4 k) (k0_off4_inb k)).view
    (slotAt (k0_off4 k) (k0_off4_inb k)).view.junk ((chunkAt (k0_off5 k) (k0_off5_inb k)).view.read (Elt Ideal) fh)) (ix2 A B)
  have hq : S1x2048x1280.ShapeCasts S2048x1280 := by decide
  have e := ValueIdx.shapeCast_1ab_ab_apply (a := 2048) (b := 1280) (View.readAt (Elt Ideal) ringM.view
    (Rect.unit (s := S8x2048x1280) (k0_off4 k) S1x2048x1280.size (k0_off4_inb k)).toLoadRect (landed c fh k)) hq A B
  exact e.symm.trans h

theorem wBlk_def (n : Fin 5) (i : Fin 8) (x : S1x256x256.Idx) :
    wBlk c fh k n i x = ringM.view.read (Elt Ideal) (landed c fh k) ((Rect.unit (s := S8x2048x1280) (offW k i n) S1x256x256.size (offW_inb k i n)).toLoadRect.idx x) := by
  rw [wBlk, View.readAt_apply]

theorem wBlk_at (n : Fin 5) (i : Fin 8) (a b : Fin 256) :
    wBlk c fh k n i (ix3 0 a b) = at2 (headX c fh) (256 * i.val + a.val) (1280 * k.val + (256 * n.val + b.val)) := by
  have hA : 256 * i.val + a.val < 2048 := by have := i.isLt; have := a.isLt; omega
  have hB : 256 * n.val + b.val < 1280 := by have := n.isLt; have := b.isLt; omega
  rw [wBlk_def, idx_eq (s := S8x2048x1280) (o := offW k i n) (sz := S1x256x256.size) (offW_inb k i n) (k0_off4_inb k) (ix3 0 a b) (ix3 0 ⟨_, hA⟩ ⟨_, hB⟩) (fun x => by
    rw [congrFun (offW_eq k i n) x, congrFun (k0_off4_eq k) x]
    fin_cases x
    · rfl
    · show 256 * i.val + a.val = 0 + (256 * i.val + a.val); omega
    · show 256 * n.val + b.val = 0 + (256 * n.val + b.val); omega), landed_at]
  refine at2_of (n0 := 2048) (n1 := 129280) (headX c fh) _ _ _ ?_ ?_
  · refine (emb_val (k0_off5_inb k) _ 0).trans ?_
    rw [congrFun (k0_off5_eq k) 0]; show 0 + (256 * i.val + a.val) = _; omega
  · refine (emb_val (k0_off5_inb k) _ 1).trans ?_
    rw [congrFun (k0_off5_eq k) 1]; show 1280 * k.val + (256 * n.val + b.val) = _; omega

theorem sBlk_at (n : Fin 5) (r : Fin 16) (d : Fin 2) : sBlk k fs n r d = at2 fs r.val (10 * k.val + 2 * n.val + d.val) := by
  refine at2_of (n0 := 16) (n1 := 1010) fs _ _ _ ?_ ?_
  · refine (idx_val (offS_inb k r n d) _ 0).trans ?_
    rw [congrFun (offS_eq k r n d) 0]; rfl
  · refine (idx_val (offS_inb k r n d) _ 1).trans ?_
    rw [congrFun (offS_eq k r n d) 1]; rfl

theorem pay140_at (X : Vec Ideal S128x128 .fp8e4m3) (Y : Vec Ideal S128x1 .f32) (p q : Fin 128) :
    k0_pay140 X Y (ix2 p q) = X (ix2 p q) * Y (ix2 p 0) := by
  unfold k0_pay140
  rw [shapeCast_self, shapeCast_self, shapeCast_self]
  pointwise

theorem ybC_at (y : S128x2048.Idx) : ybC C1 C2 y = yv C1 C2 (y 0).val (y 1).val := by
  show k0_pay140 _ _ (grpIx y) = _
  obtain ⟨p, q, e⟩ : ∃ (p q : Fin 128), grpIx y = ix2 p q := ⟨_, _, eq_ix2 (n0 := 128) (n1 := 128) (grpIx y)⟩
  have e0 : p.val = (y 0).val := congrArg (fun i : S128x128.Idx => (i 0).val) e.symm
  have e1 : q.val = (y 1).val % 128 := congrArg (fun i : S128x128.Idx => (i 1).val) e.symm
  rw [e, pay140_at]
  unfold yv
  congr 1
  · refine at2_of (n0 := 128) (n1 := 2048) C1 _ _ _ ((idx_val (grp_inb (grpOf y)) _ 0).trans ?_) ((idx_val (grp_inb (grpOf y)) _ 1).trans ?_)
    · show 0 + p.val = _; omega
    · show 128 * ((y 1).val / 128) + q.val = _; omega
  · refine at2_of (n0 := 128) (n1 := 16) C2 _ _ _ ((idx_val (scl_inb (grpOf y)) _ 0).trans ?_) ((idx_val (scl_inb (grpOf y)) _ 1).trans ?_)
    · show 0 + p.val = _; omega
    · show (y 1).val / 128 + 0 = _; omega

theorem yBlk_at (i : Fin 8) (r : Fin 128) (a : Fin 256) :
    yBlk (ybC C1 C2) i (ix2 r a) = yv C1 C2 r.val (256 * i.val + a.val) := by
  show ybC C1 C2 ((Rect.unit (s := S128x2048) ![0, 256 * i.val] S128x256.size (offY_inb i)).toLoadRect.idx (ix2 r a)) = _
  rw [ybC_at]
  congr 1
  · refine (idx_val (offY_inb i) _ 0).trans ?_
    show 0 + r.val = _; omega
  · exact idx_val (offY_inb i) _ 1

/-- The dequantised block of weights: each quadrant's codes times its scale. -/
theorem pay8_at (W : Vec Ideal S1x256x256 .fp8e4m3) (s0 s1 s2 s3 : Elt Ideal .f32) (a b : Fin 256) :
    k0_pay8 W s0 s1 s2 s3 (ix2 a b)
      = W (ix3 0 a b) * (if a.val < 128 then (if b.val < 128 then s0 else s1) else (if b.val < 128 then s2 else s3)) := by
  have hs : ∀ a b : Fin 256, shapeCast S256x256 W shapeCasts_S1x256x256_S256x256 (ix2 a b) = W (ix3 0 a b) :=
    fun a b => ValueIdx.shapeCast_1ab_ab_apply (a := 256) (b := 256) W _ a b
  unfold k0_pay8
  pointwise
  simp only [hs]
  by_cases ha : a.val < 128 <;> by_cases hb : b.val < 128
  · simp only [ha, hb, if_true, dif_pos]
  · have eb : (⟨128 + (b.val - 128), by have := b.isLt; omega⟩ : Fin 256) = b := Fin.ext (by show 128 + (b.val - 128) = b.val; omega)
    simp only [ha, hb, if_true, if_false, dif_pos, dif_neg, not_false_iff, eb]
  · have ea : (⟨128 + (a.val - 128), by have := a.isLt; omega⟩ : Fin 256) = a := Fin.ext (by show 128 + (a.val - 128) = a.val; omega)
    simp only [ha, hb, if_true, if_false, dif_pos, dif_neg, not_false_iff, ea]
  · have ea : (⟨128 + (a.val - 128), by have := a.isLt; omega⟩ : Fin 256) = a := Fin.ext (by show 128 + (a.val - 128) = a.val; omega)
    have eb : (⟨128 + (b.val - 128), by have := b.isLt; omega⟩ : Fin 256) = b := Fin.ext (by show 128 + (b.val - 128) = b.val; omega)
    simp only [ha, hb, if_true, if_false, dif_pos, dif_neg, not_false_iff, ea, eb]

/-- A block of the dequantised weights, element by element. -/
theorem wDeq_at (n : Fin 5) (i : Fin 8) (r0 r1 : Fin 16) (h0 : r0.val = 2 * i.val) (h1 : r1.val = 2 * i.val + 1) (a b : Fin 256) :
    k0_pay8 (wBlk c fh k n i) (sBlk k fs n r0 0) (sBlk k fs n r0 1) (sBlk k fs n r1 0) (sBlk k fs n r1 1) (ix2 a b)
      = wv (headX c fh) fs (256 * i.val + a.val) (1280 * k.val + (256 * n.val + b.val)) := by
  rw [pay8_at, wBlk_at]
  unfold wv
  congr 1
  have ha := a.isLt; have hb := b.isLt
  split_ifs with p q q <;> rw [sBlk_at] <;> congr 1
  all_goals first | omega | (show _ + 1 = _; omega) | (show _ + 0 = _; omega)

/-- One product of a panel: the 256 rows' part of the logit. -/
theorem accStep_at (n : Fin 5) (i : Fin 8) (r0 r1 : Fin 16) (h0 : r0.val = 2 * i.val) (h1 : r1.val = 2 * i.val + 1)
    (acc : FVec Ideal S128x256 .f32) (r : Fin 128) (j : Fin 256) :
    accStep c fh k fs (ybC C1 C2) n i r0 r1 acc (ix2 r j)
      = acc (ix2 r j) + ∑ a : Fin 256, yv C1 C2 r.val (256 * i.val + a.val)
          * wv (headX c fh) fs (256 * i.val + a.val) (1280 * k.val + (256 * n.val + j.val)) := by
  unfold accStep
  generalize hW : k0_pay8 (wBlk c fh k n i) (sBlk k fs n r0 0) (sBlk k fs n r0 1) (sBlk k fs n r1 0) (sBlk k fs n r1 1) = W
  generalize hY : yBlk (ybC C1 C2) i = Y
  have hW' := fun a b => (congrFun hW (ix2 a b)).symm.trans (wDeq_at c fh k fs n i r0 r1 h0 h1 a b)
  have hY' := fun r a => (congrFun hY (ix2 r a)).symm.trans (yBlk_at C1 C2 i r a)
  pointwise [hW', hY']

/-- A panel's logits. -/
theorem panel_at (n : Fin 5) (r : Fin 128) (j : Fin 256) :
    panel c fh k fs (ybC C1 C2) n (ix2 r j) = logit C1 C2 (headX c fh) fs r.val (1280 * k.val + (256 * n.val + j.val)) := by
  unfold panel logit
  rw [accStep_at _ _ _ _ _ _ _ _ _ _ (by rfl) (by rfl), accStep_at _ _ _ _ _ _ _ _ _ _ (by rfl) (by rfl),
    accStep_at _ _ _ _ _ _ _ _ _ _ (by rfl) (by rfl), accStep_at _ _ _ _ _ _ _ _ _ _ (by rfl) (by rfl),
    accStep_at _ _ _ _ _ _ _ _ _ _ (by rfl) (by rfl), accStep_at _ _ _ _ _ _ _ _ _ _ (by rfl) (by rfl),
    accStep_at _ _ _ _ _ _ _ _ _ _ (by rfl) (by rfl), accStep_at _ _ _ _ _ _ _ _ _ _ (by rfl) (by rfl)]
  rw [show (2048 : ℕ) = 256 * 8 from rfl, ← sum_blocks]
  simp only [Finset.sum_range_succ, Finset.sum_range_zero]
  rw [show broadcast S128x256 (Scalar.ofBits (F := Ideal) .f32 0x00000000#32) (ix2 r j) = 0 by pointwise]
  rfl

end

end Cert.Value

end
-- ==== Proof.Value.Carry.lean ====
/-
  Hand-written, untrusted. What the chunk loop carries, over the extended reals: per row and lane the maximum of the
  lane's logits so far, the sum of their exponentials against it, and the target's logit if it has come by.
-/
module

public import proofs.«01_k».proof.Proof.Ideal.Body
public import proofs.«01_k».proof.Proof.Value.Logit

@[expose] public section

set_option maxRecDepth 16384

noncomputable section

namespace Cert.Value

open Cert.KernelIdeal Cert.KernelIdeal.Gen Cert.KernelIdeal.Hand
open Idealize.ShloMosaic Idealize.ShloMosaic.TcCoe

variable (c : Dev nD) (fh : HeadBuf (F := Ideal) c) (fs : S16x1010.Idx → Elt Ideal .f32)
  (C1 : S128x2048.Idx → Elt Ideal .fp8e4m3) (C2 : S128x16.Idx → Elt Ideal .f32) (I : S1x129.Idx → BitVec 32)

/-- Lane `a`'s logits of row `r`, one to each block of 128 columns. -/
def lane (r a j : ℕ) : EReal := logit C1 C2 (headX c fh) fs r (128 * j + a)
/-- The target of row `r` is column `a` of block `j`. -/
def mark (w : BitVec 32) (a j : ℕ) : Prop := w = BitVec.ofNat 32 (128 * j + a)
instance (w : BitVec 32) (a : ℕ) : DecidablePred (mark w a) := fun j => inferInstanceAs (Decidable (w = _))

/-- The carried values after `N` blocks of 128 columns. -/
def St (x : Carry Ideal) (N : ℕ) : Prop := ∀ r a : Fin 128,
  x.1 (ix2 r a) = mx (lane c fh fs C1 C2 r.val a.val) N
  ∧ x.2.1 (ix2 r a) = sm (lane c fh fs C1 C2 r.val a.val) N
  ∧ x.2.2 (ix2 r a) = tg (lane c fh fs C1 C2 r.val a.val) (mark (wordOf (F := Ideal) I r) a.val) N

theorem base_eq : ∀ (k : Fin k0_t2_loop.trips) (n : Fin 5),
    Scalar.addi (Scalar.muli (ivT k) 1280#32) (BitVec.ofNat 32 (256 * n.val)) = BitVec.ofNat 32 (1280 * k.val + 256 * n.val) := by
  decide +kernel

theorem word_sub (w : BitVec 32) (a B d : ℕ) :
    w - BitVec.ofNat 32 a - BitVec.ofNat 32 B = BitVec.ofNat 32 d ↔ w = BitVec.ofNat 32 (B + d + a) := by
  rw [BitVec.ofNat_add, BitVec.ofNat_add, BitVec.sub_eq_iff_eq_add, BitVec.sub_eq_iff_eq_add, BitVec.add_comm (BitVec.ofNat 32 d)]

theorem sel_eq {α : Type} (x y : BitVec 32) (A B : α) : Scalar.select (IntOp.cmpi .eq x y) A B = if x = y then A else B := by
  by_cases h : x = y
  · subst h; simp [Scalar.select, IntOp.cmpi]
  · have e : (x == y) = false := by simpa using h
    rw [if_neg h]; simp [Scalar.select, IntOp.cmpi, e]

/-- The pattern of minus infinity. -/
theorem ofBits_neg_inf : Ideal.ofBits .f32 0xFF800000#32 = ⊥ := by simp [Ideal.ofBits, Ideal.ieee]

theorem mark_unique (w : BitVec 32) (a N : ℕ) (ha : a < 128) (hN : N ≤ 1010) (i j : ℕ) (hij : i < j) (hj : j < N) :
    mark w a j → ¬ mark w a i := by
  intro h h'
  have e := congrArg BitVec.toNat (h.symm.trans h')
  rw [BitVec.toNat_ofNat, BitVec.toNat_ofNat, Nat.mod_eq_of_lt (by omega), Nat.mod_eq_of_lt (by omega)] at e
  omega

theorem upd_at (v41 : IVec S128x128 32) (tgw : Vec Ideal S128x128 .i32) (base : BitVec 32) (A : FVec Ideal S128x256 .f32) (x : Carry Ideal)
    (r a : Fin 128) :
    let l0 := A (ix2 r ⟨a.val, by omega⟩)
    let l1 := A (ix2 r ⟨128 + a.val, by omega⟩)
    let m' := max (x.1 (ix2 r a)) (max l0 l1)
    (upd v41 tgw base A x).1 (ix2 r a) = m'
    ∧ (upd v41 tgw base A x).2.1 (ix2 r a) = x.2.1 (ix2 r a) * Ideal.exp (x.1 (ix2 r a) - m') + Ideal.exp (l0 - m') + Ideal.exp (l1 - m')
    ∧ (upd v41 tgw base A x).2.2 (ix2 r a)
        = if tgw (ix2 r a) - v41 (ix2 r a) - base = 128#32 then l1 else if tgw (ix2 r a) - v41 (ix2 r a) - base = 0#32 then l0 else x.2.2 (ix2 r a) := by
  intro l0 l1 m'
  refine ⟨?_, ?_, ?_⟩
  · unfold upd; pointwise
    rfl
  · unfold upd; pointwise
    rfl
  · unfold upd; pointwise
    rw [sel_eq, sel_eq]; rfl

/-- One panel's update. -/
theorem updAt_St (k : Fin k0_t2_loop.trips) (n : Fin 5) (x : Carry Ideal) (N N' : ℕ) (hN : N = 10 * k.val + 2 * n.val) (hN' : N' = N + 2)
    (h : St c fh fs C1 C2 I x N) : St c fh fs C1 C2 I (updAt c fh fs (ybC C1 C2) (tgtC I) lanes k n x) N' := by
  subst hN'
  intro r a
  have hk := trip_lt k
  have hn := n.isLt
  have ha := a.isLt
  obtain ⟨u1, u2, u3⟩ := upd_at lanes (View.readAt (Elt Ideal) tgtM.view (Rect.unit (s := S128x128) ![0, 0] S128x128.size inb_S128x128_S128x128_0_0).toLoadRect (tgtC I))
    (Scalar.addi (Scalar.muli (ivT k) 1280#32) (BitVec.ofNat 32 (256 * n.val))) (panel c fh k fs (ybC C1 C2) n) x r a
  obtain ⟨s1, s2, s3⟩ := h r a
  have e0 : panel c fh k fs (ybC C1 C2) n (ix2 r ⟨a.val, by omega⟩) = lane c fh fs C1 C2 r.val a.val N := by
    rw [panel_at]; unfold lane; congr 1; show 1280 * k.val + (256 * n.val + a.val) = _; omega
  have e1 : panel c fh k fs (ybC C1 C2) n (ix2 r ⟨128 + a.val, by omega⟩) = lane c fh fs C1 C2 r.val a.val (N + 1) := by
    rw [panel_at]; unfold lane; congr 1; show 1280 * k.val + (256 * n.val + (128 + a.val)) = _; omega
  have ew : View.readAt (Elt Ideal) tgtM.view (Rect.unit (s := S128x128) ![0, 0] S128x128.size inb_S128x128_S128x128_0_0).toLoadRect (tgtC I) (ix2 r a)
      = wordOf (F := Ideal) I r := by
    exact congrArg (wordOf (F := Ideal) I) (Fin.ext ((idx_val (s := S128x128) inb_S128x128_S128x128_0_0 (ix2 r a) 0).trans (Nat.zero_add _)))
  have el : lanes (ix2 r a) = BitVec.ofNat 32 a.val := by pointwise
  rw [e0, e1, s1] at u1 u2
  rw [e0, e1, ew, el, s3] at u3
  rw [s2, mx_two] at u2
  rw [mx_two] at u1
  rw [sm_two] at u2
  refine ⟨u1, u2, u3.trans ?_⟩
  rw [← tg_two _ _ _ fun i j hij hj => mark_unique _ _ _ ha (by omega) i j hij hj]
  have m1 : (wordOf (F := Ideal) I r - BitVec.ofNat 32 a.val - Scalar.addi (Scalar.muli (ivT k) 1280#32) (BitVec.ofNat 32 (256 * n.val)) = 128#32)
      ↔ mark (wordOf (F := Ideal) I r) a.val (N + 1) := by
    rw [base_eq]; refine (word_sub _ _ _ 128).trans ?_; unfold mark; rw [show 1280 * k.val + 256 * n.val + 128 + a.val = 128 * (N + 1) + a.val by omega]
  have m0 : (wordOf (F := Ideal) I r - BitVec.ofNat 32 a.val - Scalar.addi (Scalar.muli (ivT k) 1280#32) (BitVec.ofNat 32 (256 * n.val)) = 0#32)
      ↔ mark (wordOf (F := Ideal) I r) a.val N := by
    rw [base_eq]; refine (word_sub _ _ _ 0).trans ?_; unfold mark; rw [show 1280 * k.val + 256 * n.val + 0 + a.val = 128 * N + a.val by omega]
  exact if_congr m1 rfl (if_congr m0 rfl rfl)

theorem stepT_St (k : Fin k0_t2_loop.trips) (x : Carry Ideal) (h : St c fh fs C1 C2 I x (10 * k.val)) :
    St c fh fs C1 C2 I (stepT c fh fs (ybC C1 C2) (tgtC I) lanes k x) (10 * (k.val + 1)) := by
  unfold stepT
  refine updAt_St c fh fs C1 C2 I k 4 _ (10 * k.val + 8) _ (by rfl) (by omega) ?_
  refine updAt_St c fh fs C1 C2 I k 3 _ (10 * k.val + 6) _ (by rfl) (by omega) ?_
  refine updAt_St c fh fs C1 C2 I k 2 _ (10 * k.val + 4) _ (by rfl) (by omega) ?_
  refine updAt_St c fh fs C1 C2 I k 1 _ (10 * k.val + 2) _ (by rfl) (by omega) ?_
  exact updAt_St c fh fs C1 C2 I k 0 _ (10 * k.val) _ (by rfl) (by omega) h

theorem init_St : St c fh fs C1 C2 I (k0_pay160, k0_pay161, k0_pay162) 0 := by
  intro r a
  refine ⟨?_, ?_, ?_⟩
  · show k0_pay160 (ix2 r a) = ⊥
    unfold k0_pay160; pointwise
    exact ofBits_neg_inf
  · show k0_pay161 (ix2 r a) = 0
    unfold k0_pay161; pointwise
  · show k0_pay162 (ix2 r a) = 0
    unfold k0_pay162; pointwise

theorem carryT_St (k : ℕ) (hk : k ≤ k0_t2_loop.trips) :
    St c fh fs C1 C2 I (carryT c fh fs (ybC C1 C2) (tgtC I) lanes (k0_pay160, k0_pay161, k0_pay162) k) (10 * k) := by
  induction k with
  | zero => exact init_St c fh fs C1 C2 I
  | succ k ih =>
    show St c fh fs C1 C2 I (if h : k < k0_t2_loop.trips then _ else _) _
    rw [dif_pos (show k < k0_t2_loop.trips by omega)]
    exact stepT_St c fh fs C1 C2 I ⟨k, by omega⟩ _ (ih (by omega))

theorem trips_eq : k0_t2_loop.trips = 101 := by decide +kernel

theorem lastC_St : St c fh fs C1 C2 I (lastC c fh I C1 C2 fs) 1010 := by
  have h := carryT_St c fh fs C1 C2 I k0_t2_loop.trips le_rfl
  rw [show 10 * k0_t2_loop.trips = 1010 by rw [trips_eq]] at h
  exact h

end Cert.Value

end
-- ==== Proof.Value.Loss.lean ====
/-
  Hand-written, untrusted. The kernel's result over the extended reals: the lanes' maxima, sums and targets put together
  are the row's log-sum-exp over the whole vocabulary less the target's logit.
-/
module

public import proofs.«01_k».proof.Proof.Value.Carry
public import proofs.«01_k».proof.Proof.Ideal.Frame
public import Idealize.ShloMosaic.Lib.Pointwise.Reduce
public import Idealize.ShloMosaic.Lib.Pointwise.Reshape

@[expose] public section

set_option maxRecDepth 16384

noncomputable section

namespace Cert.Value

open Cert.KernelIdeal Cert.KernelIdeal.Gen Cert.KernelIdeal.Hand
open Idealize.ShloMosaic Idealize.ShloMosaic.TcCoe

/-- The loss of one row of logits over `V` columns, the target word `w`. -/
def loss (f : ℕ → EReal) (V : ℕ) (w : BitVec 32) : EReal :=
  (Finset.range V).sup f + Ideal.log (∑ v ∈ Finset.range V, Ideal.exp (f v - (Finset.range V).sup f))
    - (∑ v ∈ Finset.range V, if w = BitVec.ofNat 32 v then f v else 0) - Ideal.ofBits .f32 0x413C50D7#32

theorem sup_lanes (f : ℕ → EReal) (n w : ℕ) (hw : 0 < w) :
    (Finset.univ : Finset (Fin w)).fold max ⊥ (fun a => mx (fun j => f (w * j + a.val)) n) = (Finset.range (w * n)).sup f := by
  change Finset.univ.sup _ = _
  apply le_antisymm
  · refine Finset.sup_le fun a _ => Finset.sup_le fun j hj => Finset.le_sup (f := f) (Finset.mem_range.mpr ?_)
    have hj := Finset.mem_range.mp hj
    have ha := a.isLt
    calc w * j + a.val < w * j + w := by omega
      _ = w * (j + 1) := by ring
      _ ≤ w * n := Nat.mul_le_mul_left _ hj
  · refine Finset.sup_le fun v hv => ?_
    have hv := Finset.mem_range.mp hv
    have e : w * (v / w) + v % w = v := Nat.div_add_mod v w
    have h1 : f v ≤ mx (fun j => f (w * j + v % w)) n := by
      have := Finset.le_sup (s := Finset.range n) (f := fun j => f (w * j + v % w)) (b := v / w)
        (Finset.mem_range.mpr (Nat.div_lt_of_lt_mul hv))
      simp only [e] at this; exact this
    exact h1.trans (Finset.le_sup (f := fun a : Fin w => mx (fun j => f (w * j + a.val)) n) (b := ⟨v % w, Nat.mod_lt _ hw⟩) (Finset.mem_univ _))

theorem lanes_loss (f : ℕ → EReal) (n w : ℕ) (hw : 0 < w) (x : BitVec 32) (M : EReal)
    (h : M = (Finset.univ : Finset (Fin w)).fold max ⊥ (fun a => mx (fun j => f (w * j + a.val)) n)) :
    loss f (w * n) x =
      M + Ideal.log (∑ a : Fin w, sm (fun j => f (w * j + a.val)) n * Ideal.exp (mx (fun j => f (w * j + a.val)) n - M))
        - (∑ a : Fin w, ∑ j ∈ Finset.range n, if x = BitVec.ofNat 32 (w * j + a.val) then f (w * j + a.val) else 0)
        - Ideal.ofBits .f32 0x413C50D7#32 := by
  have hM : M = (Finset.range (w * n)).sup f := h.trans (sup_lanes f n w hw)
  have h1 : ∀ a : Fin w, sm (fun j => f (w * j + a.val)) n * Ideal.exp (mx (fun j => f (w * j + a.val)) n - M)
      = ∑ j ∈ Finset.range n, Ideal.exp (f (w * j + a.val) - M) := fun a =>
    rescale (Finset.range n) (fun j => f (w * j + a.val)) _ M (fun i hi => Finset.le_sup (f := fun j => f (w * j + a.val)) hi)
      (h ▸ Finset.le_sup (s := Finset.univ) (f := fun a : Fin w => mx (fun j => f (w * j + a.val)) n) (Finset.mem_univ a))
  simp only [h1]
  have h2 : ∑ a : Fin w, ∑ j ∈ Finset.range n, Ideal.exp (f (w * j + a.val) - M) = ∑ v ∈ Finset.range (w * n), Ideal.exp (f v - M) :=
    Finset.sum_comm.trans (sum_blocks (fun v => Ideal.exp (f v - M)) n w)
  have h3 : (∑ a : Fin w, ∑ j ∈ Finset.range n, if x = BitVec.ofNat 32 (w * j + a.val) then f (w * j + a.val) else 0)
      = ∑ v ∈ Finset.range (w * n), if x = BitVec.ofNat 32 v then f v else 0 :=
    Finset.sum_comm.trans (sum_blocks (fun v => if x = BitVec.ofNat 32 v then f v else 0) n w)
  rw [h2, h3, hM]
  rfl

theorem fin_at (m s t : FVec Ideal S128x128 .f32) (r : Fin 128) (M : EReal)
    (hM : M = (Finset.univ : Finset (Fin 128)).fold max ⊥ (fun a => m (ix2 r a))) :
    k0_pay1 (k0_pay164 m s t) (Scalar.ofBits .f32 0x413C50D7#32) (ix2 0 r)
      = M + Ideal.log (∑ a : Fin 128, s (ix2 r a) * Ideal.exp (m (ix2 r a) - M)) - (∑ a : Fin 128, t (ix2 r a))
          - Ideal.ofBits .f32 0x413C50D7#32 := by
  unfold k0_pay1 k0_pay164
  rw [shapeCast_self]
  pointwise
  rw [ofBits_neg_inf, ← hM]

/-- THE KERNEL'S RESULT: each row's loss over the whole vocabulary. -/
theorem G_at (c : Dev nD) (a0 : S1x129.Idx → BitVec 32) (a1 : S1x128x2048.Idx → Elt Ideal .fp8e4m3) (a2 : S1x128x16.Idx → Elt Ideal .f32)
    (a3 : HeadBuf (F := Ideal) c) (a4 : S16x1010.Idx → Elt Ideal .f32) (r : Fin 128) :
    G (F := Ideal) c a0 a1 a2 a3 a4 (ix2 0 r)
      = loss (logit (codes2 a1) (scales2 a2) (headX c a3) a4 r.val) 129280 (wordOf (F := Ideal) a0 r) := by
  have h := lastC_St c a3 a4 (codes2 a1) (scales2 a2) a0
  have e := fin_at (lastC c a3 a0 (codes2 a1) (scales2 a2) a4).1 (lastC c a3 a0 (codes2 a1) (scales2 a2) a4).2.1
    (lastC c a3 a0 (codes2 a1) (scales2 a2) a4).2.2 r _ rfl
  refine e.trans ?_
  have h1 := fun a => (h r a).1
  have h2 := fun a => (h r a).2.1
  have h3 := fun a => (h r a).2.2
  simp only [h1, h2, h3]
  exact (lanes_loss (logit (codes2 a1) (scales2 a2) (headX c a3) a4 r.val) 1010 128 (by omega) (wordOf (F := Ideal) a0 r) _ rfl).symm

end Cert.Value

end
-- ==== Proof.Value.Ref.lean ====
/-
  Hand-written, untrusted. The reference's result over the extended reals, read element by element: the row's loss over
  the logits its one product computes.
-/
module

public import proofs.«01_k».proof.Proof.Value.Loss
public import proofs.«01_k».proof.Proof.Gen.ReferenceIdeal.Value

@[expose] public section

set_option maxRecDepth 16384

noncomputable section

namespace Cert.Value.Ref

open Cert.Value Cert.ReferenceIdeal Cert.ReferenceIdeal.Gen Cert.ReferenceIdeal.Value
open Idealize.ShloMosaic Idealize.ShloMosaic.TcCoe

/-- The reference's activations, its weights, and what it does with the logits. -/
def yM (v0 : Vec Ideal S1x128x2048 .fp8e4m3) (v3 : Vec Ideal S1x128x16 .f32) : FVec Ideal S128x2048 .bf16 :=
  shapeCast S128x2048 (mulf (shapeCast S128x16x128 (extf .bf16 v0 bitsLt_fp8e4m3_bf16 : FVec Ideal S1x128x2048 .bf16) shapeCasts_S1x128x2048_S128x16x128)
    (broadcastTo S128x16x128 (shapeCast S128x16x1 (shapeCast S128x16 (truncf .bf16 v3 bitsLt_bf16_f32 : FVec Ideal S1x128x16 .bf16) shapeCasts_S1x128x16_S128x16)
      shapeCasts_S128x16_S128x16x1) broadcasts_S128x16x1_S128x16x128)) shapeCasts_S128x16x128_S128x2048
def wM (v10 : Vec Ideal S2048x129280 .fp8e4m3) (v13 : Vec Ideal S16x1010 .f32) : FVec Ideal S2048x129280 .bf16 :=
  shapeCast S2048x129280 (mulf (shapeCast S16x128x1010x128 (extf .bf16 v10 bitsLt_fp8e4m3_bf16 : FVec Ideal S2048x129280 .bf16) shapeCasts_S2048x129280_S16x128x1010x128)
    (broadcastTo S16x128x1010x128 (shapeCast S16x1x1010x1 (truncf .bf16 v13 bitsLt_bf16_f32 : FVec Ideal S16x1010 .bf16) shapeCasts_S16x1010_S16x1x1010x1)
      broadcasts_S16x1x1010x1_S16x128x1010x128)) shapeCasts_S16x128x1010x128_S2048x129280
def lM (Y : FVec Ideal S128x2048 .bf16) (W : FVec Ideal S2048x129280 .bf16) : FVec Ideal S128x129280 .f32 :=
  matmul dot_S128x2048_S2048x129280_S128x129280_1_0_0_1_n_n none Y W (constant S128x129280 .f32 0x00000000#32)
/-- A row's largest logit, as the reference takes it. -/
def mxM (L : FVec Ideal S128x129280 .f32) : FVec Ideal S128 .f32 :=
  multiReduction .maximumf [1] S128 L 0xFF800000#32 reduces_S128x129280_S128 (.inl rfl) rfl
/-- A row's sum. -/
def smM (L : FVec Ideal S128x129280 .f32) : FVec Ideal S128 .f32 :=
  multiReduction .add [1] S128 L 0x00000000#32 reduces_S128x129280_S128 (.inl rfl) rfl
/-- The exponentials of the logits less their row's `m`. -/
def exM (L : FVec Ideal S128x129280 .f32) (m : FVec Ideal S128 .f32) : FVec Ideal S128x129280 .f32 :=
  exp (subf L (broadcastTo S128x129280 (shapeCast S128x1 m shapeCasts_S128_S128x1 : FVec Ideal S128x1 .f32) broadcasts_S128x1_S128x129280))
/-- The logits at their row's target, zero elsewhere. -/
def tgM (L : FVec Ideal S128x129280 .f32) (v28 : Vec Ideal S1x128 .i32) : FVec Ideal S128x129280 .f32 :=
  select (cmpi .eq (iota .tc S128x129280 32 [1] iota_S128x129280_d1_w32)
    (broadcastTo S128x129280 (shapeCast S128x1 (shapeCast S128 v28 shapeCasts_S1x128_S128 : IVec S128 32) shapeCasts_S128_S128x1 : IVec S128x1 32)
      broadcasts_S128x1_S128x129280)) L (broadcast S128x129280 (Scalar.ofBits .f32 0x00000000#32 : Ideal .f32))
/-- What is made of a row's three numbers. -/
def outM (m s t : FVec Ideal S128 .f32) : FVec Ideal S1x128 .f32 :=
  shapeCast S1x128 (subf (subf (addf m (log s)) t) (broadcast S128 (Scalar.ofBits .f32 0x413C50D7#32 : Ideal .f32)) : FVec Ideal S128 .f32) shapeCasts_S128_S1x128

theorem pay1_eq (v0 : Vec Ideal S1x128x2048 .fp8e4m3) (v3 : Vec Ideal S1x128x16 .f32) (v10 : Vec Ideal S2048x129280 .fp8e4m3)
    (v13 : Vec Ideal S16x1010 .f32) (v28 : Vec Ideal S1x128 .i32) :
    k0_pay1 v0 v3 v10 v13 v28 =
      outM (mxM (lM (yM v0 v3) (wM v10 v13))) (smM (exM (lM (yM v0 v3) (wM v10 v13)) (mxM (lM (yM v0 v3) (wM v10 v13)))))
        (smM (tgM (lM (yM v0 v3) (wM v10 v13)) v28)) := rfl

theorem yM_at (v0 : Vec Ideal S1x128x2048 .fp8e4m3) (v3 : Vec Ideal S1x128x16 .f32) (r : Fin 128) (k : Fin 2048) :
    yM v0 v3 (ix2 r k) = v0 (ix3 0 r k) * v3 (ix3 0 r ⟨k.val / 128, by omega⟩) := by
  unfold yM
  pointwise

theorem lM_at (Y : FVec Ideal S128x2048 .bf16) (W : FVec Ideal S2048x129280 .bf16) (r : Fin 128) (v : Fin 129280) :
    lM Y W (ix2 r v) = ∑ k : Fin 2048, Y (ix2 r k) * W (ix2 k v) := by
  unfold lM
  pointwise

theorem wM_at (v10 : Vec Ideal S2048x129280 .fp8e4m3) (v13 : Vec Ideal S16x1010 .f32) (k : Fin 2048) (v : Fin 129280) :
    wM v10 v13 (ix2 k v) = v10 (ix2 k v) * v13 (ix2 ⟨k.val / 128, by omega⟩ ⟨v.val / 128, by omega⟩) := by
  unfold wM
  pointwise

theorem mxM_at (L : FVec Ideal S128x129280 .f32) (r : Fin 128) :
    mxM L (ix1 r) = (Finset.univ : Finset (Fin 129280)).fold max ⊥ (fun v => L (ix2 r v)) := by
  unfold mxM
  pointwise
  rw [ofBits_neg_inf]

theorem smM_at (L : FVec Ideal S128x129280 .f32) (r : Fin 128) :
    smM L (ix1 r) = ∑ v : Fin 129280, L (ix2 r v) := by
  unfold smM
  pointwise

theorem exM_at (L : FVec Ideal S128x129280 .f32) (m : FVec Ideal S128 .f32) (r : Fin 128) (v : Fin 129280) :
    exM L m (ix2 r v) = Ideal.exp (L (ix2 r v) - m (ix1 r)) := by
  unfold exM
  pointwise

theorem tgM_at (L : FVec Ideal S128x129280 .f32) (v28 : Vec Ideal S1x128 .i32) (r : Fin 128) (v : Fin 129280) :
    tgM L v28 (ix2 r v) = if BitVec.ofNat 32 v.val = v28 (ix2 0 r) then L (ix2 r v) else 0 := by
  unfold tgM
  pointwise
  simp only [sel_eq]

theorem outM_at (m s t : FVec Ideal S128 .f32) (r : Fin 128) :
    outM m s t (ix2 0 r) = m (ix1 r) + Ideal.log (s (ix1 r)) - t (ix1 r) - Ideal.ofBits .f32 0x413C50D7#32 := by
  unfold outM
  pointwise

/-- The largest of all rows' logits, over a range. -/
theorem fold_range (n : Nat) (g : Fin n → EReal) (f : Nat → EReal) (h : ∀ v : Fin n, g v = f v.val) :
    (Finset.univ : Finset (Fin n)).fold max ⊥ g = (Finset.range n).sup f := by
  have : (Finset.univ : Finset (Fin n)).fold max ⊥ g = Finset.univ.sup g := rfl
  rw [this]
  apply le_antisymm
  · refine Finset.sup_le fun v _ => ?_
    rw [h v]
    exact Finset.le_sup (f := f) (Finset.mem_range.2 v.isLt)
  · refine Finset.sup_le fun v hv => ?_
    have := Finset.le_sup (f := g) (Finset.mem_univ (⟨v, Finset.mem_range.1 hv⟩ : Fin n))
    rwa [h] at this

theorem sum_range (n : Nat) (g : Fin n → EReal) (f : Nat → EReal) (h : ∀ v : Fin n, g v = f v.val) :
    ∑ v : Fin n, g v = ∑ v ∈ Finset.range n, f v := by
  rw [← Fin.sum_univ_eq_sum_range]
  exact Finset.sum_congr rfl fun v _ => h v

/-- The row's result, over any reading of its logits. -/
theorem tail_at (L : FVec Ideal S128x129280 .f32) (v28 : Vec Ideal S1x128 .i32) (r : Fin 128) (f : Nat → EReal)
    (hf : ∀ v : Fin 129280, L (ix2 r v) = f v.val) :
    outM (mxM L) (smM (exM L (mxM L))) (smM (tgM L v28)) (ix2 0 r) = loss f 129280 (v28 (ix2 0 r)) := by
  have hM : mxM L (ix1 r) = (Finset.range 129280).sup f := (mxM_at L r).trans (fold_range 129280 _ f hf)
  rw [outM_at, smM_at, smM_at, hM]
  rw [sum_range 129280 (fun v => exM L (mxM L) (ix2 r v)) (fun v => Ideal.exp (f v - (Finset.range 129280).sup f))
    (fun v => by rw [exM_at, hM, hf])]
  rw [sum_range 129280 (fun v => tgM L v28 (ix2 r v)) (fun v => if v28 (ix2 0 r) = BitVec.ofNat 32 v then f v else 0)
    (fun v => by rw [tgM_at, hf]; exact if_congr eq_comm rfl rfl)]
  rfl

theorem codes2_at (a1 : Vec Ideal S1x128x2048 .fp8e4m3) (r : Fin 128) (k : Fin 2048) :
    at2 (n0 := 128) (n1 := 2048) (Cert.KernelIdeal.Hand.codes2 (F := Ideal) a1) r.val k.val = a1 (ix3 0 r k) := by
  refine (at2_of (n0 := 128) (n1 := 2048) _ (ix2 r k) r.val k.val rfl rfl).symm.trans ?_
  exact ValueIdx.shapeCast_1ab_ab_apply ..

theorem scales2_at (a2 : Vec Ideal S1x128x16 .f32) (r : Fin 128) (k : Fin 16) :
    at2 (n0 := 128) (n1 := 16) (Cert.KernelIdeal.Hand.scales2 (F := Ideal) a2) r.val k.val = a2 (ix3 0 r k) := by
  refine (at2_of (n0 := 128) (n1 := 16) _ (ix2 r k) r.val k.val rfl rfl).symm.trans ?_
  exact ValueIdx.shapeCast_1ab_ab_apply ..

/-- A logit of the reference. -/
theorem logit_at (a1 : Vec Ideal S1x128x2048 .fp8e4m3) (a2 : Vec Ideal S1x128x16 .f32)
    (a3 : Vec Ideal S2048x129280 .fp8e4m3) (a4 : Vec Ideal S16x1010 .f32) (r : Fin 128) (v : Fin 129280) :
    lM (yM a1 a2) (wM a3 a4) (ix2 r v)
      = logit (Cert.KernelIdeal.Hand.codes2 (F := Ideal) a1) (Cert.KernelIdeal.Hand.scales2 (F := Ideal) a2) a3 a4 r.val v.val := by
  rw [lM_at]
  refine sum_range 2048 _ _ fun k => ?_
  rw [yM_at, wM_at]
  have hk : k.val / 128 < 16 := by omega
  have hv : v.val / 128 < 1010 := by omega
  refine congrArg₂ (· * ·) (congrArg₂ (· * ·) (codes2_at a1 r k).symm (scales2_at a2 r ⟨k.val / 128, hk⟩).symm)
    (congrArg₂ (· * ·) (at2_of (n0 := 2048) (n1 := 129280) a3 (ix2 k v) k.val v.val rfl rfl)
      (at2_of (n0 := 16) (n1 := 1010) a4 (ix2 ⟨k.val / 128, hk⟩ ⟨v.val / 128, hv⟩) (k.val / 128) (v.val / 128) rfl rfl))

/-- The reference's target of a row is the kernel's. -/
theorem word_at (a0 : S1x129.Idx → BitVec 32) (r : Fin 128) :
    (View.ld (Val := Elt Ideal) a0 r0_4 : Vec Ideal S1x128 .i32) (ix2 0 r) = Cert.KernelIdeal.Hand.wordOf (F := Ideal) a0 r := by
  unfold Cert.KernelIdeal.Hand.wordOf
  show a0 (r0_4.toLoadRect.idx (ix2 0 r)) = _
  refine congrArg a0 (idx_eq _ _ _ _ fun a => ?_)
  match a with
  | 0 => rfl
  | 1 => exact Nat.add_comm _ _

/-- What the reference leaves in its result at a row. -/
theorem G5_at (a0 : S1x129.Idx → BitVec 32) (a1 : Vec Ideal S1x128x2048 .fp8e4m3) (a2 : Vec Ideal S1x128x16 .f32)
    (a3 : Vec Ideal S2048x129280 .fp8e4m3) (a4 : Vec Ideal S16x1010 .f32) (r : Fin 128) :
    G5 (F := Ideal) a0 a1 a2 a3 a4 (ix2 0 r)
      = loss (logit (Cert.KernelIdeal.Hand.codes2 (F := Ideal) a1) (Cert.KernelIdeal.Hand.scales2 (F := Ideal) a2) a3 a4 r.val) 129280
          (Cert.KernelIdeal.Hand.wordOf (F := Ideal) a0 r) := by
  rw [← word_at]
  refine (congrFun (pay1_eq a1 a2 a3 a4 _) _).trans ?_
  exact tail_at _ _ r _ (logit_at a1 a2 a3 a4 r)

end Cert.Value.Ref

end
-- ==== Proof.Value.Same.lean ====
/-
  Hand-written, untrusted. The kernel's result over the extended reals is the reference's.
-/
module

public import proofs.«01_k».proof.Proof.Value.Ref

@[expose] public section

set_option maxRecDepth 16384

noncomputable section

namespace Cert.Value

open Idealize.ShloMosaic Idealize.ShloMosaic.TcCoe

/-- Both leave, at every row, the loss of the same logits. -/
theorem same (c : Dev Cert.KernelIdeal.nD) (a0 : Cert.KernelIdeal.S1x129.Idx → BitVec 32) (a1 : Vec Ideal Cert.KernelIdeal.S1x128x2048 .fp8e4m3)
    (a2 : Vec Ideal Cert.KernelIdeal.S1x128x16 .f32) (a3 : Cert.KernelIdeal.Hand.HeadBuf (F := Ideal) c)
    (a4 : Cert.KernelIdeal.S16x1010.Idx → EReal) :
    Cert.KernelIdeal.Hand.G (F := Ideal) c a0 a1 a2 a3 a4 = Cert.ReferenceIdeal.Value.G5 (F := Ideal) a0 a1 a2 (headX c a3) a4 := by
  funext y
  obtain ⟨p, r, rfl⟩ : ∃ (p : Fin 1) (r : Fin 128), y = ix2 p r := ⟨y 0, y 1, eq_ix2 y⟩
  obtain rfl : p = 0 := Subsingleton.elim _ _
  exact (G_at c a0 a1 a2 a3 a4 r).trans (Ref.G5_at a0 a1 a2 (headX c a3) a4 r).symm

end Cert.Value

end
-- ==== Proof.Proj.Panel.lean ====
/-
  Hand-written, untrusted. What one trip of the projection's loop stores, as a function of what the trip reads: the
  landed codes of the projection, its scales and the activations kept in bf16. A trip makes 256 columns of the result:
  sixteen products of 256 rows each, added in turn to zero.
-/
module

public import proofs.«01_k».proof.Proof.Gen.ProjIdeal.Frame

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic

variable {F : FTy → Type} [FloatOps F]

/-- The trip's number, as the loop's induction variable computes it. -/
abbrev ivT (k : Fin k0_t1_loop.trips) : BitVec 32 := Scf.iv 0#32 1#32 k.val

theorem trip_lt (k : Fin k0_t1_loop.trips) : k.val < 8 := Nat.lt_of_lt_of_le k.isLt k0_t1_abs.2.1

/-- Where the block of rows `256 i …` of trip `k`'s columns lies. -/
abbrev offW (k : Fin k0_t1_loop.trips) (i : Fin 16) : Fin 2 → ℕ :=
  ![256 * i.val, (Scalar.indexCast (Scalar.muli (ivT k) 256#32)).toNat]
theorem offW_eq : ∀ (k : Fin k0_t1_loop.trips) (i : Fin 16), offW k i = ![256 * i.val, 256 * k.val] := by decide +kernel
theorem offW_inb (k : Fin k0_t1_loop.trips) (i : Fin 16) : ∀ a, offW k i a + S256x256.size a ≤ S4096x2048.size a := by
  have := trip_lt k; have := i.isLt
  rw [offW_eq]; intro a; fin_cases a
  · show 256 * i.val + 256 ≤ 4096; omega
  · show 256 * k.val + 256 ≤ 2048; omega

/-- Where the scale of the 128-row block `r` and the trip's column block `d` lies. -/
abbrev offS (k : Fin k0_t1_loop.trips) (r : Fin 32) (d : Fin 2) : Fin 2 → ℕ :=
  ![r.val, (Scalar.indexCast (Scalar.addi (Scalar.muli (ivT k) 2#32) (BitVec.ofNat 32 d.val))).toNat]
theorem offS_eq : ∀ (k : Fin k0_t1_loop.trips) (r : Fin 32) (d : Fin 2), offS k r d = ![r.val, 2 * k.val + d.val] := by decide +kernel
theorem offS_inb (k : Fin k0_t1_loop.trips) (r : Fin 32) (d : Fin 2) : ∀ a, offS k r d a + S1x1.size a ≤ S32x16.size a := by
  have := trip_lt k; have := r.isLt; have := d.isLt
  rw [offS_eq]; intro a; fin_cases a
  · show r.val + 1 ≤ 32; omega
  · show 2 * k.val + d.val + 1 ≤ 16; omega

theorem offY_inb (i : Fin 16) : ∀ a, (![0, 256 * i.val] : Fin 2 → ℕ) a + S128x256.size a ≤ S128x4096.size a := by
  intro a; have := i.isLt; fin_cases a
  · show 0 + 128 ≤ 128; omega
  · show 256 * i.val + 256 ≤ 4096; omega

section
variable (arg2 : Memref sig .tc .smem S32x16 .f32) (arg5 : Memref sig .tc .vmem S128x4096 .bf16) (arg7 : Memref sig .tc .vmem S4096x2048 .fp8e4m3)
  (X2 : BufTy.Contents (Elt F) arg2.view.ty) (X5 : BufTy.Contents (Elt F) arg5.view.ty) (X7 : BufTy.Contents (Elt F) arg7.view.ty)
  (k : Fin k0_t1_loop.trips)

def wBlk (i : Fin 16) : Vec F S256x256 .fp8e4m3 :=
  View.readAt (Elt F) arg7.view (Rect.unit (s := S4096x2048) (offW k i) S256x256.size (offW_inb k i)).toLoadRect X7

def sBlk (r : Fin 32) (d : Fin 2) : Elt F .f32 :=
  View.readAt (Elt F) arg2.view (Rect.unit (s := S32x16) (offS k r d) S1x1.size (offS_inb k r d)).toLoadRect X2
    (Shape.Idx.first (by show 0 < S1x1.numel; rw [numel1_S1x1]; exact Nat.one_pos))

def yBlk (i : Fin 16) : Vec F S128x256 .bf16 :=
  View.readAt (Elt F) arg5.view (Rect.unit (s := S128x4096) ![0, 256 * i.val] S128x256.size (offY_inb i)).toLoadRect X5

/-- One product, added to what the earlier ones gave. -/
def accStep (i : Fin 16) (r0 r1 : Fin 32) (acc : FVec F S128x256 .f32) : FVec F S128x256 .f32 :=
  k0_pay5 acc (wBlk arg7 X7 k i) (sBlk arg2 X2 k r0 0) (sBlk arg2 X2 k r0 1) (sBlk arg2 X2 k r1 0) (sBlk arg2 X2 k r1 1) (yBlk arg5 X5 i)

/-- The trip's 256 columns, before they are rounded to bf16. -/
def panel : FVec F S128x256 .f32 :=
  accStep arg2 arg5 arg7 X2 X5 X7 k 15 30 31 <| accStep arg2 arg5 arg7 X2 X5 X7 k 14 28 29 <| accStep arg2 arg5 arg7 X2 X5 X7 k 13 26 27 <|
  accStep arg2 arg5 arg7 X2 X5 X7 k 12 24 25 <| accStep arg2 arg5 arg7 X2 X5 X7 k 11 22 23 <| accStep arg2 arg5 arg7 X2 X5 X7 k 10 20 21 <|
  accStep arg2 arg5 arg7 X2 X5 X7 k 9 18 19 <| accStep arg2 arg5 arg7 X2 X5 X7 k 8 16 17 <| accStep arg2 arg5 arg7 X2 X5 X7 k 7 14 15 <|
  accStep arg2 arg5 arg7 X2 X5 X7 k 6 12 13 <| accStep arg2 arg5 arg7 X2 X5 X7 k 5 10 11 <| accStep arg2 arg5 arg7 X2 X5 X7 k 4 8 9 <|
  accStep arg2 arg5 arg7 X2 X5 X7 k 3 6 7 <| accStep arg2 arg5 arg7 X2 X5 X7 k 2 4 5 <| accStep arg2 arg5 arg7 X2 X5 X7 k 1 2 3 <|
  accStep arg2 arg5 arg7 X2 X5 X7 k 0 0 1 (broadcast S128x256 (Scalar.ofBits .f32 0x00000000#32))

theorem panel_eq : trip_k0_t1.sl.r_105 arg2 arg5 arg7 X2 X5 X7 k = panel arg2 arg5 arg7 X2 X5 X7 k := rfl

end

end Cert.ProjIdeal.Hand

end
-- ==== Proof.Proj.Logit.lean ====
/-
  Hand-written, untrusted. What one trip of the projection's loop computes, over the extended reals: element `(r, j)` of
  trip `k` is the sum, over all 4096 rows of the projection's matrix, of activation times the weight in column
  `256 k + j`, each a code times its block's scale.
-/
module

public import proofs.«01_k».proof.Proof.Proj.Panel
public import proofs.«01_k».proof.Proof.Value.Logit

@[expose] public section

set_option maxRecDepth 16384

noncomputable section

namespace Cert.Value.Proj

open Cert.Value Cert.ProjIdeal Cert.ProjIdeal.Gen Cert.ProjIdeal.Hand
open Idealize.ShloMosaic Idealize.ShloMosaic.TcCoe

/-- The activation of row `r` at `k`; the weight at `(k, v)`; their product's sum. -/
def xv (C1 : S128x4096.Idx → EReal) (C2 : S128x32.Idx → EReal) (r k : ℕ) : EReal :=
  at2 (n0 := 128) (n1 := 4096) C1 r k * at2 (n0 := 128) (n1 := 32) C2 r (k / 128)
def pv (W : S4096x2048.Idx → EReal) (S : S32x16.Idx → EReal) (k v : ℕ) : EReal :=
  at2 (n0 := 4096) (n1 := 2048) W k v * at2 (n0 := 32) (n1 := 16) S (k / 128) (v / 128)
def proj (C1 : S128x4096.Idx → EReal) (C2 : S128x32.Idx → EReal) (W : S4096x2048.Idx → EReal) (S : S32x16.Idx → EReal)
    (r v : ℕ) : EReal := ∑ k ∈ Finset.range 4096, xv C1 C2 r k * pv W S k v

/-- A block of the weights, dequantised: each quadrant's codes times its scale. -/
def wDeq (W : Vec Ideal S256x256 .fp8e4m3) (s0 s1 s2 s3 : Elt Ideal .f32) : FVec Ideal S256x256 .bf16 :=
  let X : FVec Ideal S256x256 .bf16 := extf .bf16 W bitsLt_fp8e4m3_bf16
  let q : Elt Ideal .f32 → FVec Ideal S128x128 .bf16 := fun s => truncf .bf16 (broadcast S128x128 s : FVec Ideal S128x128 .f32) bitsLt_bf16_f32
  concatenate S256x256 0 [
    ⟨S128x256, concatenate S128x256 1 [⟨S128x128, mulf (extractStridedSlice S128x128 ![0, 0] X slices_S256x256_o0_0_S128x128) (q s0)⟩,
      ⟨S128x128, mulf (extractStridedSlice S128x128 ![0, 128] X slices_S256x256_o0_128_S128x128) (q s1)⟩] concatenates_S128x128_S128x128_S128x256_d1⟩,
    ⟨S128x256, concatenate S128x256 1 [⟨S128x128, mulf (extractStridedSlice S128x128 ![128, 0] X slices_S256x256_o128_0_S128x128) (q s2)⟩,
      ⟨S128x128, mulf (extractStridedSlice S128x128 ![128, 128] X slices_S256x256_o128_128_S128x128) (q s3)⟩] concatenates_S128x128_S128x128_S128x256_d1⟩]
    concatenates_S128x256_S128x256_S256x256_d0

theorem wDeq_at (W : Vec Ideal S256x256 .fp8e4m3) (s0 s1 s2 s3 : Elt Ideal .f32) (a b : Fin 256) :
    wDeq W s0 s1 s2 s3 (ix2 a b)
      = W (ix2 a b) * (if a.val < 128 then (if b.val < 128 then s0 else s1) else (if b.val < 128 then s2 else s3)) := by
  unfold wDeq
  pointwise
  by_cases ha : a.val < 128 <;> by_cases hb : b.val < 128
  · simp only [ha, hb, if_true, dif_pos]
  · have eb : (⟨128 + (b.val - 128), by have := b.isLt; omega⟩ : Fin 256) = b := Fin.ext (by show 128 + (b.val - 128) = b.val; omega)
    simp only [ha, hb, if_true, if_false, dif_pos, dif_neg, not_false_iff, eb]
  · have ea : (⟨128 + (a.val - 128), by have := a.isLt; omega⟩ : Fin 256) = a := Fin.ext (by show 128 + (a.val - 128) = a.val; omega)
    simp only [ha, hb, if_true, if_false, dif_pos, dif_neg, not_false_iff, ea]
  · have ea : (⟨128 + (a.val - 128), by have := a.isLt; omega⟩ : Fin 256) = a := Fin.ext (by show 128 + (a.val - 128) = a.val; omega)
    have eb : (⟨128 + (b.val - 128), by have := b.isLt; omega⟩ : Fin 256) = b := Fin.ext (by show 128 + (b.val - 128) = b.val; omega)
    simp only [ha, hb, if_true, if_false, dif_pos, dif_neg, not_false_iff, ea, eb]

theorem pay5_eq (acc : FVec Ideal S128x256 .f32) (W : Vec Ideal S256x256 .fp8e4m3) (s0 s1 s2 s3 : Elt Ideal .f32) (Y : Vec Ideal S128x256 .bf16) :
    k0_pay5 acc W s0 s1 s2 s3 Y = addf acc (matmul (φ₁ := .bf16) dot_S128x256_S256x256_S128x256_1_0_0_1_n_n none Y (wDeq W s0 s1 s2 s3)
      (constant S128x256 .f32 0x00000000#32)) := rfl

section
variable (arg2 : Memref sig .tc .smem S32x16 .f32) (arg5 : Memref sig .tc .vmem S128x4096 .bf16) (arg7 : Memref sig .tc .vmem S4096x2048 .fp8e4m3)
  (X2 : BufTy.Contents (Elt Ideal) arg2.view.ty) (X5 : BufTy.Contents (Elt Ideal) arg5.view.ty) (X7 : BufTy.Contents (Elt Ideal) arg7.view.ty)
  (C1 : S128x4096.Idx → EReal) (C2 : S128x32.Idx → EReal) (W : S4096x2048.Idx → EReal) (S : S32x16.Idx → EReal)
  (k : Fin k0_t1_loop.trips)

theorem wBlk_at (h7 : ∀ y, arg7.view.read (Elt Ideal) X7 y = W y) (i : Fin 16) (a b : Fin 256) :
    wBlk arg7 X7 k i (ix2 a b) = at2 (n0 := 4096) (n1 := 2048) W (256 * i.val + a.val) (256 * k.val + b.val) := by
  rw [wBlk, View.readAt_apply, h7]
  refine at2_of (n0 := 4096) (n1 := 2048) W _ _ _ ((idx_val (offW_inb k i) _ 0).trans ?_) ((idx_val (offW_inb k i) _ 1).trans ?_)
  · rw [congrFun (offW_eq k i) 0]; rfl
  · rw [congrFun (offW_eq k i) 1]; rfl

theorem sBlk_at (h2 : ∀ y, arg2.view.read (Elt Ideal) X2 y = S y) (r : Fin 32) (d : Fin 2) :
    sBlk arg2 X2 k r d = at2 (n0 := 32) (n1 := 16) S r.val (2 * k.val + d.val) := by
  rw [sBlk, View.readAt_apply, h2]
  refine at2_of (n0 := 32) (n1 := 16) S _ _ _ ((idx_val (offS_inb k r d) _ 0).trans ?_) ((idx_val (offS_inb k r d) _ 1).trans ?_)
  · rw [congrFun (offS_eq k r d) 0]; rfl
  · rw [congrFun (offS_eq k r d) 1]; rfl

theorem yBlk_at (h5 : ∀ y, arg5.view.read (Elt Ideal) X5 y = xv C1 C2 (y 0).val (y 1).val) (i : Fin 16) (r : Fin 128) (a : Fin 256) :
    yBlk arg5 X5 i (ix2 r a) = xv C1 C2 r.val (256 * i.val + a.val) := by
  rw [yBlk, View.readAt_apply, h5]
  congr 1
  · refine (idx_val (offY_inb i) _ 0).trans ?_
    show 0 + r.val = _; omega
  · exact idx_val (offY_inb i) _ 1

/-- A block of the dequantised weights, element by element. -/
theorem blk_at (h2 : ∀ y, arg2.view.read (Elt Ideal) X2 y = S y) (h7 : ∀ y, arg7.view.read (Elt Ideal) X7 y = W y)
    (i : Fin 16) (r0 r1 : Fin 32) (h0 : r0.val = 2 * i.val) (h1 : r1.val = 2 * i.val + 1) (a b : Fin 256) :
    wDeq (wBlk arg7 X7 k i) (sBlk arg2 X2 k r0 0) (sBlk arg2 X2 k r0 1) (sBlk arg2 X2 k r1 0) (sBlk arg2 X2 k r1 1) (ix2 a b)
      = pv W S (256 * i.val + a.val) (256 * k.val + b.val) := by
  rw [wDeq_at, wBlk_at arg7 X7 W k h7]
  unfold pv
  congr 1
  have ha := a.isLt; have hb := b.isLt
  split_ifs with p q q <;> rw [sBlk_at arg2 X2 S k h2] <;> congr 1
  all_goals first | omega | (show _ + 1 = _; omega) | (show _ + 0 = _; omega)

/-- One product of a trip: the 256 rows' part of the sum. -/
theorem accStep_at (h2 : ∀ y, arg2.view.read (Elt Ideal) X2 y = S y)
    (h5 : ∀ y, arg5.view.read (Elt Ideal) X5 y = xv C1 C2 (y 0).val (y 1).val) (h7 : ∀ y, arg7.view.read (Elt Ideal) X7 y = W y)
    (i : Fin 16) (r0 r1 : Fin 32) (h0 : r0.val = 2 * i.val) (h1 : r1.val = 2 * i.val + 1)
    (acc : FVec Ideal S128x256 .f32) (r : Fin 128) (j : Fin 256) :
    accStep arg2 arg5 arg7 X2 X5 X7 k i r0 r1 acc (ix2 r j)
      = acc (ix2 r j) + ∑ a : Fin 256, xv C1 C2 r.val (256 * i.val + a.val) * pv W S (256 * i.val + a.val) (256 * k.val + j.val) := by
  unfold accStep
  rw [pay5_eq]
  generalize hW : wDeq (wBlk arg7 X7 k i) (sBlk arg2 X2 k r0 0) (sBlk arg2 X2 k r0 1) (sBlk arg2 X2 k r1 0) (sBlk arg2 X2 k r1 1) = D
  generalize hY : yBlk arg5 X5 i = Y
  have hW' := fun a b => (congrFun hW (ix2 a b)).symm.trans (blk_at arg2 arg7 X2 X7 W S k h2 h7 i r0 r1 h0 h1 a b)
  have hY' := fun r a => (congrFun hY (ix2 r a)).symm.trans (yBlk_at arg5 X5 C1 C2 h5 i r a)
  pointwise [hW', hY']

/-- A trip's 256 columns. -/
theorem panel_at (h2 : ∀ y, arg2.view.read (Elt Ideal) X2 y = S y)
    (h5 : ∀ y, arg5.view.read (Elt Ideal) X5 y = xv C1 C2 (y 0).val (y 1).val) (h7 : ∀ y, arg7.view.read (Elt Ideal) X7 y = W y)
    (r : Fin 128) (j : Fin 256) :
    panel arg2 arg5 arg7 X2 X5 X7 k (ix2 r j) = proj C1 C2 W S r.val (256 * k.val + j.val) := by
  have e := fun i r0 r1 h0 h1 acc => accStep_at arg2 arg5 arg7 X2 X5 X7 C1 C2 W S k h2 h5 h7 i r0 r1 h0 h1 acc r j
  unfold panel proj
  rw [e 15 30 31 rfl rfl, e 14 28 29 rfl rfl, e 13 26 27 rfl rfl, e 12 24 25 rfl rfl, e 11 22 23 rfl rfl, e 10 20 21 rfl rfl,
    e 9 18 19 rfl rfl, e 8 16 17 rfl rfl, e 7 14 15 rfl rfl, e 6 12 13 rfl rfl, e 5 10 11 rfl rfl, e 4 8 9 rfl rfl,
    e 3 6 7 rfl rfl, e 2 4 5 rfl rfl, e 1 2 3 rfl rfl, e 0 0 1 rfl rfl]
  rw [show (4096 : ℕ) = 256 * 16 from rfl, ← sum_blocks]
  simp only [Finset.sum_range_succ, Finset.sum_range_zero]
  rw [show broadcast S128x256 (Scalar.ofBits (F := Ideal) .f32 0x00000000#32) (ix2 r j) = 0 by pointwise]
  rfl

end

end Cert.Value.Proj

end
-- ==== Proof.Proj.Out.lean ====
/-
  Hand-written, untrusted. What the projection's body leaves in its result over the extended reals: every element is the
  whole sum. The activations are filled group by group, the weights arrive by one copy, and the loop's eight stores tile
  the result.
-/
module

public import proofs.«01_k».proof.Proof.Proj.Logit

@[expose] public section

set_option maxRecDepth 16384

noncomputable section

namespace Cert.Value.Proj

open Cert.Value Cert.ProjIdeal Cert.ProjIdeal.Gen Cert.ProjIdeal.Hand
open Idealize.ShloMosaic Idealize.ShloMosaic.TcCoe

theorem grp_inb (g : Fin 32) : ∀ a, (![0, 128 * g.val] : Fin 2 → ℕ) a + S128x128.size a ≤ S128x4096.size a := by
  have := g.isLt; intro a; fin_cases a
  · show 0 + 128 ≤ 128; omega
  · show 128 * g.val + 128 ≤ 4096; omega

theorem scl_inb (g : Fin 32) : ∀ a, (![0, g.val] : Fin 2 → ℕ) a + S128x1.size a ≤ S128x32.size a := by
  have := g.isLt; intro a; fin_cases a
  · show 0 + 128 ≤ 128; omega
  · show g.val + 1 ≤ 32; omega

theorem pay1_at (X : Vec Ideal S128x128 .fp8e4m3) (Y : Vec Ideal S128x1 .f32) (p q : Fin 128) :
    k0_pay1 X Y (ix2 p q) = X (ix2 p q) * Y (ix2 p 0) := by
  unfold k0_pay1
  rw [shapeCast_self, shapeCast_self, shapeCast_self]
  pointwise

section
variable (c : Dev nD) (arg0 : Memref sig .tc .vmem S128x4096 .fp8e4m3) (harg0 : arg0.IsWhole) (arg1 : Memref sig .tc .vmem S128x32 .f32) (harg1 : arg1.IsWhole)
  (x0 : Vec Ideal S128x4096 .fp8e4m3) (x1 : Vec Ideal S128x32 .f32)

/-- The store of group `g` of the activations. -/
def xPiece (g : Fin 32) : View.Piece (Elt Ideal) S128x4096 .bf16 :=
  ⟨Rect.unit (s := S128x4096) ![0, 128 * g.val] S128x128.size (grp_inb g),
    k0_pay1 (View.readAt (Elt Ideal) arg0.view (Rect.unit (s := S128x4096) ![0, 128 * g.val] S128x128.size (grp_inb g)).toLoadRect (harg0.unread x0))
      (View.readAt (Elt Ideal) arg1.view (Rect.unit (s := S128x32) ![0, g.val] S128x1.size (scl_inb g)).toLoadRect (harg1.unread x1))⟩

theorem pieces_eq : kernelRun0_A.sl.HS0_32 (F := Ideal) c arg0 harg0 arg1 harg1 x0 x1
    = [31, 30, 29, 28, 27, 26, 25, 24, 23, 22, 21, 20, 19, 18, 17, 16, 15, 14, 13, 12, 11, 10, 9, 8, 7, 6, 5, 4, 3, 2, 1, 0].map
        (xPiece arg0 harg0 arg1 harg1 x0 x1) := rfl

/-- A group's element is the activation at its place. -/
theorem xPiece_at (g : Fin 32) (x : S128x128.Idx) :
    (xPiece arg0 harg0 arg1 harg1 x0 x1 g).2 x = xv x0 x1 (x 0).val (128 * g.val + (x 1).val) := by
  obtain ⟨p, q, rfl⟩ : ∃ (p q : Fin 128), x = ix2 p q := ⟨_, _, eq_ix2 (n0 := 128) (n1 := 128) x⟩
  refine (pay1_at _ _ p q).trans ?_
  rw [View.readAt_apply, View.readAt_apply, harg0.read_unread, harg1.read_unread]
  unfold xv
  have hq : q.val < 128 := q.isLt
  congr 1
  · refine at2_of (n0 := 128) (n1 := 4096) x0 _ _ _ ((idx_val (grp_inb g) _ 0).trans ?_) (idx_val (grp_inb g) _ 1)
    show 0 + p.val = p.val; omega
  · refine at2_of (n0 := 128) (n1 := 32) x1 _ _ _ ((idx_val (scl_inb g) _ 0).trans ?_) ((idx_val (scl_inb g) _ 1).trans ?_)
    · show 0 + p.val = p.val; omega
    · show g.val + 0 = (128 * g.val + q.val) / 128; omega

/-- The thirty-two stores leave the activations. -/
theorem acts_at (arg5 : Memref sig .tc .vmem S128x4096 .bf16) (f : BufTy.Contents (Elt Ideal) arg5.view.ty) (y : S128x4096.Idx) :
    arg5.view.read (Elt Ideal) (arg5.view.writes (Elt Ideal) f (kernelRun0_A.sl.HS0_32 (F := Ideal) c arg0 harg0 arg1 harg1 x0 x1)) y
      = xv x0 x1 (y 0).val (y 1).val := by
  rw [pieces_eq]
  refine View.read_writes_apply_of_pieces arg5.view f (fun y : S128x4096.Idx => xv x0 x1 (y 0).val (y 1).val) _ ?_ y ?_
  · intro p hp x
    obtain ⟨g, -, rfl⟩ := List.mem_map.mp hp
    refine (xPiece_at arg0 harg0 arg1 harg1 x0 x1 g x).trans ?_
    have e0 := emb_val (s := S128x4096) (grp_inb g) x 0
    have e1 := emb_val (s := S128x4096) (grp_inb g) x 1
    exact congrArg₂ (xv x0 x1) (e0.trans (Nat.zero_add _)).symm e1.symm
  · have h0 : (y 0).val < 128 := (y 0).isLt
    have h1 : (y 1).val < 4096 := (y 1).isLt
    refine ⟨xPiece arg0 harg0 arg1 harg1 x0 x1 ⟨(y 1).val / 128, by omega⟩,
      List.mem_map.mpr ⟨⟨(y 1).val / 128, by omega⟩, by generalize (⟨(y 1).val / 128, _⟩ : Fin 32) = g; revert g; decide, rfl⟩, ?_⟩
    refine (Rect.mem_set_unit (inb := grp_inb ⟨(y 1).val / 128, by omega⟩)).mpr fun a => ?_
    fin_cases a
    · show 0 ≤ (y 0).val ∧ (y 0).val < 0 + 128; omega
    · show 128 * ((y 1).val / 128) ≤ (y 1).val ∧ (y 1).val < 128 * ((y 1).val / 128) + 128; omega

variable (arg2 : Memref sig .tc .smem S32x16 .f32) (harg2 : arg2.IsWhole) (arg4 : Memref sig .tc .vmem S128x2048 .bf16) (harg4 : arg4.IsWhole)
  (arg5 : Memref sig .tc .vmem S128x4096 .bf16) (harg5 : arg5.IsWhole) (arg6 : Memref sig .tc .vmem S128x2048 .f32) (harg6 : arg6.IsWhole)
  (arg7 : Memref sig .tc .vmem S4096x2048 .fp8e4m3) (harg7 : arg7.IsWhole)
  (x2 : Vec Ideal S32x16 .f32) (fh0 : HbBuf0 (F := Ideal) c hbM0_0)

/-- What a trip stores. -/
def outPiece (X2 : BufTy.Contents (Elt Ideal) arg2.view.ty) (X5 : BufTy.Contents (Elt Ideal) arg5.view.ty) (X7 : BufTy.Contents (Elt Ideal) arg7.view.ty)
    (k : Fin k0_t1_loop.trips) : View.Piece (Elt Ideal) S128x2048 .bf16 :=
  ⟨Rect.unit (s := S128x2048) (k0_off49 k) S128x256.size (k0_off49_inb k), k0_pay3 (panel arg2 arg5 arg7 X2 X5 X7 k)⟩

theorem trip_eq (arg3 : Memref sig .tc .hbm S4096x2048 .fp8e4m3) (harg3 : arg3.IsWhole) (arg8 : DmaSems sig S_)
    (X2 : BufTy.Contents (Elt Ideal) arg2.view.ty) (X5 : BufTy.Contents (Elt Ideal) arg5.view.ty) (X7 : BufTy.Contents (Elt Ideal) arg7.view.ty)
    (k : Fin k0_t1_loop.trips) :
    (trip_k0_t1 (F := Ideal) Variants.none c none arg0 harg0 arg1 harg1 arg2 harg2 arg3 harg3 arg4 harg4 arg5 harg5 arg6 harg6 arg7 harg7 arg8 X2 X5 X7 k).1
      = [outPiece arg2 arg5 arg7 X2 X5 X7 k] := by
  unfold trip_k0_t1
  rfl

/-- Every piece of the trips before `n` is some trip's. -/
theorem pieces_of (arg3 : Memref sig .tc .hbm S4096x2048 .fp8e4m3) (harg3 : arg3.IsWhole) (arg8 : DmaSems sig S_)
    (X2 : BufTy.Contents (Elt Ideal) arg2.view.ty) (X5 : BufTy.Contents (Elt Ideal) arg5.view.ty) (X7 : BufTy.Contents (Elt Ideal) arg7.view.ty) :
    ∀ n : ℕ, n ≤ k0_t1_loop.trips → ∀ p ∈ (pb_k0_t1 (F := Ideal) Variants.none c none arg0 harg0 arg1 harg1 arg2 harg2 arg3 harg3 arg4 harg4 arg5 harg5
      arg6 harg6 arg7 harg7 arg8 X2 X5 X7 n).1, ∃ k, p = outPiece arg2 arg5 arg7 X2 X5 X7 k
  | 0, _, p, hp => absurd hp List.not_mem_nil
  | n + 1, hn, p, hp => by
    have e := pb_k0_t1_succ (F := Ideal) Variants.none c none arg0 harg0 arg1 harg1 arg2 harg2 arg3 harg3 arg4 harg4 arg5 harg5
      arg6 harg6 arg7 harg7 arg8 X2 X5 X7 ⟨n, hn⟩
    have e' := congrArg Prod.fst e
    dsimp only [tripL_k0_t1] at e'
    rw [e', trip_eq] at hp
    rcases List.mem_append.mp hp with hp | hp
    · exact ⟨⟨n, hn⟩, List.mem_singleton.mp hp⟩
    · exact pieces_of arg3 harg3 arg8 X2 X5 X7 n (Nat.le_of_succ_le hn) p hp

/-- The projection's codes as an array. -/
def codesW (fh0 : HbBuf0 (F := Ideal) c hbM0_0) : S4096x2048.Idx → EReal := fh0

/-- What the body leaves in its result. -/
theorem out_at (y : S128x2048.Idx) :
    out0_A_3 (F := Ideal) c arg0 harg0 arg1 harg1 arg2 harg2 arg4 harg4 arg5 harg5 arg6 harg6 arg7 harg7 x0 x1 x2 fh0 y
      = proj x0 x1 (codesW c fh0) x2 (y 0).val (y 1).val := by
  unfold out0_A_3
  refine View.read_writes_apply_of_pieces VO0_3 _ (fun y : S128x2048.Idx => proj x0 x1 (codesW c fh0) x2 (y 0).val (y 1).val) _ ?_ y
    (cover0_A_3 c arg0 harg0 arg1 harg1 arg2 harg2 arg4 harg4 arg5 harg5 arg6 harg6 arg7 harg7 x0 x1 x2 fh0 y)
  intro p hp x
  unfold kernelRun0_A at hp
  obtain ⟨k, rfl⟩ := pieces_of c arg0 harg0 arg1 harg1 arg2 harg2 arg4 harg4 arg5 harg5 arg6 harg6 arg7 harg7 _ _ _ _ _ _ _ le_rfl p hp
  change S128x256.Idx at x
  obtain ⟨r, j, rfl⟩ : ∃ (r : Fin 128) (j : Fin 256), x = ix2 r j := ⟨_, _, eq_ix2 (n0 := 128) (n1 := 256) x⟩
  refine (panel_at arg2 arg5 arg7 _ _ _ x0 x1 (codesW c fh0) x2 k ?_ ?_ ?_ r j).trans ?_
  · intro y; rw [harg2.read_unread]
  · intro y; exact acts_at c arg0 harg0 arg1 harg1 x0 x1 arg5 _ y
  · intro y; exact congrFun (View.read_writes_whole (Val := Elt Ideal) arg7.view _ _) y
  · have e0 := emb_val (s := S128x2048) (k0_off49_inb k) (ix2 r j) 0
    have e1 := emb_val (s := S128x2048) (k0_off49_inb k) (ix2 r j) 1
    rw [congrFun (k0_off49_eq k) 0] at e0
    rw [congrFun (k0_off49_eq k) 1] at e1
    exact congrArg₂ (proj x0 x1 (codesW c fh0) x2) (e0.trans (Nat.zero_add _)).symm e1.symm

end

end Cert.Value.Proj

end
-- ==== Proof.Proj.Ref.lean ====
/-
  Hand-written, untrusted. The projection's reference over the extended reals, read element by element.
-/
module

public import proofs.«01_k».proof.Proof.Proj.Logit
public import proofs.«01_k».proof.Proof.Value.Ref
public import proofs.«01_k».proof.Proof.Gen.ProjReferenceIdeal.Value

@[expose] public section

set_option maxRecDepth 16384

noncomputable section

namespace Cert.Value.Proj.Ref

open Cert.Value Cert.ProjReferenceIdeal Cert.ProjReferenceIdeal.Gen Cert.ProjReferenceIdeal.Value
open Idealize.ShloMosaic Idealize.ShloMosaic.TcCoe

/-- The reference's activations, its weights, and their product. -/
def xM (v0 : Vec Ideal S1x128x4096 .fp8e4m3) (v3 : Vec Ideal S1x128x32 .f32) : FVec Ideal S128x4096 .bf16 :=
  shapeCast S128x4096 (mulf (shapeCast S128x32x128 (extf .bf16 v0 bitsLt_fp8e4m3_bf16 : FVec Ideal S1x128x4096 .bf16) shapeCasts_S1x128x4096_S128x32x128)
    (broadcastTo S128x32x128 (shapeCast S128x32x1 (shapeCast S128x32 (truncf .bf16 v3 bitsLt_bf16_f32 : FVec Ideal S1x128x32 .bf16) shapeCasts_S1x128x32_S128x32)
      shapeCasts_S128x32_S128x32x1) broadcasts_S128x32x1_S128x32x128)) shapeCasts_S128x32x128_S128x4096
def wM (v10 : Vec Ideal S4096x2048 .fp8e4m3) (v13 : Vec Ideal S32x16 .f32) : FVec Ideal S4096x2048 .bf16 :=
  shapeCast S4096x2048 (mulf (shapeCast S32x128x16x128 (extf .bf16 v10 bitsLt_fp8e4m3_bf16 : FVec Ideal S4096x2048 .bf16) shapeCasts_S4096x2048_S32x128x16x128)
    (broadcastTo S32x128x16x128 (shapeCast S32x1x16x1 (truncf .bf16 v13 bitsLt_bf16_f32 : FVec Ideal S32x16 .bf16) shapeCasts_S32x16_S32x1x16x1)
      broadcasts_S32x1x16x1_S32x128x16x128)) shapeCasts_S32x128x16x128_S4096x2048
def pM (Y : FVec Ideal S128x4096 .bf16) (W : FVec Ideal S4096x2048 .bf16) : FVec Ideal S128x2048 .bf16 :=
  truncf .bf16 (matmul dot_S128x4096_S4096x2048_S128x2048_1_0_0_1_n_n none Y W (constant S128x2048 .f32 0x00000000#32) : FVec Ideal S128x2048 .f32) bitsLt_bf16_f32

theorem G4_eq (v0 : Vec Ideal S1x128x4096 .fp8e4m3) (v3 : Vec Ideal S1x128x32 .f32) (v10 : Vec Ideal S4096x2048 .fp8e4m3)
    (v13 : Vec Ideal S32x16 .f32) : G4 v0 v3 v10 v13 = pM (xM v0 v3) (wM v10 v13) := rfl

theorem xM_at (v0 : Vec Ideal S1x128x4096 .fp8e4m3) (v3 : Vec Ideal S1x128x32 .f32) (r : Fin 128) (k : Fin 4096) :
    xM v0 v3 (ix2 r k) = v0 (ix3 0 r k) * v3 (ix3 0 r ⟨k.val / 128, by omega⟩) := by
  unfold xM
  pointwise

theorem wM_at (v10 : Vec Ideal S4096x2048 .fp8e4m3) (v13 : Vec Ideal S32x16 .f32) (k : Fin 4096) (v : Fin 2048) :
    wM v10 v13 (ix2 k v) = v10 (ix2 k v) * v13 (ix2 ⟨k.val / 128, by omega⟩ ⟨v.val / 128, by omega⟩) := by
  unfold wM
  pointwise

theorem pM_at (Y : FVec Ideal S128x4096 .bf16) (W : FVec Ideal S4096x2048 .bf16) (r : Fin 128) (v : Fin 2048) :
    pM Y W (ix2 r v) = ∑ k : Fin 4096, Y (ix2 r k) * W (ix2 k v) := by
  unfold pM
  pointwise

/-- The two host reshapes drop the batch axis of the codes and of the scales. -/
def codes2 (y : Vec Ideal S1x128x4096 .fp8e4m3) : Cert.ProjIdeal.S128x4096.Idx → EReal :=
  shapeCast Cert.ProjIdeal.S128x4096 y Cert.ProjIdeal.Gen.shapeCasts_S1x128x4096_S128x4096
def scales2 (y : Vec Ideal S1x128x32 .f32) : Cert.ProjIdeal.S128x32.Idx → EReal :=
  shapeCast Cert.ProjIdeal.S128x32 y Cert.ProjIdeal.Gen.shapeCasts_S1x128x32_S128x32

theorem codes2_at (a1 : Vec Ideal S1x128x4096 .fp8e4m3) (r : Fin 128) (k : Fin 4096) :
    at2 (n0 := 128) (n1 := 4096) (codes2 a1) r.val k.val = a1 (ix3 0 r k) := by
  refine (at2_of (n0 := 128) (n1 := 4096) _ (ix2 r k) r.val k.val rfl rfl).symm.trans ?_
  exact ValueIdx.shapeCast_1ab_ab_apply ..

theorem scales2_at (a2 : Vec Ideal S1x128x32 .f32) (r : Fin 128) (k : Fin 32) :
    at2 (n0 := 128) (n1 := 32) (scales2 a2) r.val k.val = a2 (ix3 0 r k) := by
  refine (at2_of (n0 := 128) (n1 := 32) _ (ix2 r k) r.val k.val rfl rfl).symm.trans ?_
  exact ValueIdx.shapeCast_1ab_ab_apply ..

/-- What the reference leaves in its result. -/
theorem G4_at (a0 : Vec Ideal S1x128x4096 .fp8e4m3) (a1 : Vec Ideal S1x128x32 .f32)
    (a2 : Vec Ideal S4096x2048 .fp8e4m3) (a3 : Vec Ideal S32x16 .f32) (r : Fin 128) (v : Fin 2048) :
    G4 (F := Ideal) a0 a1 a2 a3 (ix2 r v) = proj (codes2 a0) (scales2 a1) a2 a3 r.val v.val := by
  rw [G4_eq, pM_at]
  refine Cert.Value.Ref.sum_range 4096 _ _ fun k => ?_
  rw [xM_at, wM_at]
  have hk : k.val / 128 < 32 := by omega
  have hv : v.val / 128 < 16 := by omega
  refine congrArg₂ (· * ·) (congrArg₂ (· * ·) (codes2_at a0 r k).symm (scales2_at a1 r ⟨k.val / 128, hk⟩).symm)
    (congrArg₂ (· * ·) (at2_of (n0 := 4096) (n1 := 2048) a2 (ix2 k v) k.val v.val rfl rfl)
      (at2_of (n0 := 32) (n1 := 16) a3 (ix2 ⟨k.val / 128, hk⟩ ⟨v.val / 128, hv⟩) (k.val / 128) (v.val / 128) rfl rfl))

end Cert.Value.Proj.Ref

end
-- ==== Proof.Proj.Run.lean ====
/-
  Hand-written, untrusted. The projection's run over the extended reals: the array it leaves is the reference's, of the
  same arguments.
-/
module

public import proofs.«01_k».proof.Proof.Proj.Out
public import proofs.«01_k».proof.Proof.Proj.Ref
public import proofs.«01_k».proof.Proof.Gen.ProjIdeal.Value

@[expose] public section

set_option maxRecDepth 16384

noncomputable section

namespace Cert.Value.Proj

open Cert.Value Cert.ProjIdeal Cert.ProjIdeal.Gen Cert.ProjIdeal.Hand
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S128x4096.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 4096 + 1 * (j 1).val = (j 1).val; omega
theorem iblk0_eq (c : Dev nD) (t : Fin cfg0.N) : iblk m c 0 t = V m c main_v0 := by
  funext j; show V m c main_v0 (((cfg0.win 0).blk t).view.emb j) = V m c main_v0 j; rw [emb0]
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S128x32.Idx) : ((cfg0.win 1).blk t).view.emb j = j := by
  obtain ⟨e0, e1⟩ := idx_zero1 t
  funext a; apply Fin.ext
  match a with
  | ⟨0, _⟩ => show win0_1.index t (0 : Fin 2) * 128 + 1 * (j 0).val = (j 0).val; omega
  | ⟨1, _⟩ => show win0_1.index t (1 : Fin 2) * 32 + 1 * (j 1).val = (j 1).val; omega
theorem iblk1_eq (c : Dev nD) (t : Fin cfg0.N) : iblk m c 1 t = V m c main_v1 := by
  funext j; show V m c main_v1 (((cfg0.win 1).blk t).view.emb j) = V m c main_v1 j; rw [emb1]
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S32x16.Idx) : ((cfg0.win 2).blk t).view.emb j = j := by
  obtain ⟨e0, e1⟩ := idx_zero2 t
  funext a; apply Fin.ext
  match a with
  | ⟨0, _⟩ => show win0_2.index t (0 : Fin 2) * 32 + 1 * (j 0).val = (j 0).val; omega
  | ⟨1, _⟩ => show win0_2.index t (1 : Fin 2) * 16 + 1 * (j 1).val = (j 1).val; omega
theorem iblk2_eq (c : Dev nD) (t : Fin cfg0.N) : iblk m c 2 t = V m c main_arg3 := by
  funext j; show V m c main_arg3 (((cfg0.win 2).blk t).view.emb j) = V m c main_arg3 j; rw [emb2]
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S128x2048.Idx) : ((cfg0.win 3).blk t).view.emb j = j := by
  obtain ⟨e0, e1⟩ := idx_zero3 t
  funext a; apply Fin.ext
  match a with
  | ⟨0, _⟩ => show win0_3.index t (0 : Fin 2) * 128 + 1 * (j 0).val = (j 0).val; omega
  | ⟨1, _⟩ => show win0_3.index t (1 : Fin 2) * 2048 + 1 * (j 1).val = (j 1).val; omega

theorem V_v0 (c : Dev nD) : V m c main_v0 = Ref.codes2 (m ((c : Thread nD τ).loc main_arg0)) := by
  entry_read; rfl
theorem V_v1 (c : Dev nD) : V m c main_v1 = Ref.scales2 (m ((c : Thread nD τ).loc main_arg1)) := by
  entry_read; rfl

/-- The reference's result, of the kernel's arguments. -/
def R (c : Dev nD) : Vec Ideal S128x2048 .bf16 :=
  Cert.ProjReferenceIdeal.Value.G4 (F := Ideal) (m ((c : Thread nD τ).loc main_arg0)) (m ((c : Thread nD τ).loc main_arg1))
    (m ((c : Thread nD τ).loc main_arg2)) (m ((c : Thread nD τ).loc main_arg3))

/-- What the body leaves at the grid's one point. -/
theorem outs_eq (c : Dev nD) (t : Fin cfg0.N) : outsAt0 m c t = R m c := by
  funext y
  obtain ⟨r, v, rfl⟩ : ∃ (r : Fin 128) (v : Fin 2048), y = ix2 r v := ⟨_, _, eq_ix2 (n0 := 128) (n1 := 2048) y⟩
  unfold outsAt0
  rw [out_at, iblk0_eq, iblk1_eq, iblk2_eq, V_v0, V_v1, V_main_arg2, V_main_arg3]
  exact (Ref.G4_at _ _ _ _ r v).symm

theorem cut3_eq (t : Fin cfg0.N) (X : Vec Ideal S128x2048 .bf16) :
    (cfg0.win 3).cut (grid0.coords t) X = ((cfg0.win 3).blk t).view.read (Elt Ideal) X := by
  funext j
  show X j = X (((cfg0.win 3).blk t).view.emb j)
  rw [emb3]
theorem flushed3_eq (c : Dev nD) (t : Fin cfg0.N) :
    (dats m 0 c).flushed 3 t = ((cfg0.win 3).blk t).view.read (Elt Ideal) (R m c) := by
  rw [Cert.ProjIdeal.Value.flushed3, outs_eq]
  exact cut3_eq t _
theorem covered3 (i : S128x2048.Idx) : ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩
theorem final3 (c : Dev nD) : (dats m 0 c).arrAt 3 cfg0.N = R m c :=
  (dats m 0 c).arrAt_eq_of_cover 3 (R m c) (fun t _ => flushed3_eq m c t) covered3

/-- The run: the result is the reference's of the arguments, the arguments are as launched. -/
theorem run : θ_run (defs (F := Ideal)) (onTc (τ := τ) (main (F := Ideal))) ⟨m, fun _ => 0, ρ⟩ fun r => ∀ c : Dev nD,
      r.2.mem ((c : Thread nD τ).loc main_v2) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final3 m c), (h c).2⟩) (Cert.ProjIdeal.Value.run_blocks m ρ)

end Cert.Value.Proj

end
-- ==== Proof.Quant.Expo.lean ====
/-
  Hand-written, untrusted. The power-of-two scale of one group, over the extended reals. The body finds the exponent field
  of a number by comparing it with the powers of two, bit by bit; the reference takes the logarithm's floor. Below `2^126`
  the two name the same power of two.
-/
module

public import Idealize.ShloMosaic.Lib.Pointwise.Tactic
public import Idealize.ShloMosaic.Lib.Pointwise.Select

@[expose] public section

set_option maxRecDepth 16384

noncomputable section

namespace Cert.Value.Quant

open Idealize.ShloMosaic

/-- The number whose exponent field is `n` and whose fraction is zero. -/
def pw (n : ℕ) : EReal := Ideal.ofBits .f32 (IntOp.shli .vector (BitVec.ofNat 32 n) 23#32)

theorem fields : ∀ n : Fin 256, ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

theorem ieee_of (b : BitVec 32) (ex : ℕ) (h1 : (b.extractLsb' (8 + 23) 1 == 1#1) = false) (h2 : (b.extractLsb' 23 8).toNat = ex)
    (h3 : (b.extractLsb' 0 23).toNat = 0) :
    Ideal.ieee 8 23 b = if ex = 255 then ⊤ else if ex = 0 then 0 else (((2 : ℝ) ^ ((ex : ℤ) - 127) : ℝ) : EReal) := by
  have e : ((ex : ℤ) - 127) = 23 + ((ex : ℤ) - (2 ^ (8 - 1) - 1) - (23 : ℕ)) := by norm_num
  rw [e, zpow_add₀ (by norm_num : (2 : ℝ) ≠ 0)]
  unfold Ideal.ieee
  simp only [h1, h2, h3]
  norm_num

theorem pw_eq (n : Fin 256) : pw n.val = if n.val = 255 then ⊤ else if n.val = 0 then 0 else (((2 : ℝ) ^ ((n.val : ℤ) - 127) : ℝ) : EReal) := by
  obtain ⟨h1, h2, h3⟩ := fields n
  exact ieee_of _ n.val h1 h2 h3

theorem pw_zero : pw 0 = 0 := (pw_eq 0).trans (by simp)
theorem pw_top : pw 255 = ⊤ := (pw_eq 255).trans (by simp)
theorem pw_of (n : ℕ) (h0 : n ≠ 0) (h : n < 255) : pw n = (((2 : ℝ) ^ ((n : ℤ) - 127) : ℝ) : EReal) := by
  refine (pw_eq ⟨n, by omega⟩).trans ?_
  rw [if_neg (by show ¬ n = 255; omega), if_neg h0]

theorem pw_mono (a b : ℕ) (h : a ≤ b) (hb : b ≤ 255) : pw a ≤ pw b := by
  by_cases h255 : b = 255
  · subst h255; rw [pw_top]; exact le_top
  by_cases ha : a = 0
  · subst ha; rw [pw_zero]
    by_cases hb0 : b = 0
    · subst hb0; rw [pw_zero]
    · rw [pw_of b hb0 (by omega)]
      exact EReal.coe_nonneg.2 (by positivity)
  · rw [pw_of a ha (by omega), pw_of b (by omega) (by omega)]
    exact EReal.coe_le_coe_iff.2 (zpow_le_zpow_right₀ (by norm_num) (by omega))

/-- One comparison of the search. -/
def step (t : EReal) (b : BitVec 32) (e : BitVec 32) : BitVec 32 :=
  Scalar.select (Ideal.cmp .olt t (Ideal.ofBits .f32 (IntOp.shli .vector (e + b) 23#32))) e (e + b)

/-- The exponent field the search ends with. -/
def field (t : EReal) : BitVec 32 :=
  step t 1#32 (step t 2#32 (step t 4#32 (step t 8#32 (step t 16#32 (step t 32#32 (step t 64#32 (step t 128#32 0#32)))))))

/-- Between `e` and `e + c` lies the field of `t`. -/
def Between (t : EReal) (c : ℕ) (e : BitVec 32) : Prop :=
  ∃ n : ℕ, e = BitVec.ofNat 32 n ∧ n + c ≤ 256 ∧ pw n ≤ t ∧ (n + c < 256 → t < pw (n + c))

theorem step_between (t : EReal) (c b : ℕ) (hb : 0 < b) (hc : c = b + b) (e : BitVec 32) (h : Between t c e) :
    Between t b (step t (BitVec.ofNat 32 b) e) := by
  subst hc
  obtain ⟨n, rfl, h1, h2, h3⟩ := h
  have es : BitVec.ofNat 32 n + BitVec.ofNat 32 b = BitVec.ofNat 32 (n + b) := (BitVec.ofNat_add n b).symm
  unfold step
  rw [es]
  change Between t b (Scalar.select (Ideal.cmp .olt t (pw (n + b))) _ _)
  by_cases hlt : t < pw (n + b)
  · have hc : Ideal.cmp .olt t (pw (n + b)) = 1 := (Ideal.cmp_olt_eq_one _ _).2 hlt
    rw [hc]
    exact ⟨n, rfl, by omega, h2, fun _ => hlt⟩
  · have hc : Ideal.cmp .olt t (pw (n + b)) = 0 := by
      rw [Ideal.cmp_olt, decide_eq_false hlt]; rfl
    rw [hc]
    exact ⟨n + b, rfl, by omega, not_lt.1 hlt, fun h => by rw [Nat.add_assoc]; exact h3 (by omega)⟩

theorem field_between (t : EReal) (h : 0 ≤ t) : Between t 1 (field t) := by
  have h0 : Between t 256 0#32 := ⟨0, rfl, by omega, by rw [pw_zero]; exact h, fun h => absurd h (by omega)⟩
  unfold field
  exact step_between t 2 1 (by omega) rfl _ (step_between t 4 2 (by omega) rfl _ (step_between t 8 4 (by omega) rfl _
    (step_between t 16 8 (by omega) rfl _ (step_between t 32 16 (by omega) rfl _ (step_between t 64 32 (by omega) rfl _
      (step_between t 128 64 (by omega) rfl _ (step_between t 256 128 (by omega) rfl _ h0)))))))

/-- The exponent the body makes of a field. -/
def expo (e : BitVec 32) : BitVec 32 :=
  Scalar.select (IntOp.cmpi .slt (IntOp.shli .vector e 23#32) 8388608#32) 0#32 (IntOp.shrsi .vector (IntOp.shli .vector e 23#32) 23#32 - 126#32)

/-- The scale of a group whose largest size over the largest code is `t`. -/
def scale (t : EReal) : EReal := Ideal.ofBits .f32 (IntOp.shli .vector (expo (field t) + 127#32) 23#32)
/-- Its inverse. -/
def inv (t : EReal) : EReal := Ideal.ofBits .f32 (IntOp.shli .vector (127#32 - expo (field t)) 23#32)

theorem expo_of : ∀ n : Fin 253,
    expo (BitVec.ofNat 32 n.val) + 127#32 = BitVec.ofNat 32 (if n.val = 0 then 127 else n.val + 1)
    ∧ 127#32 - expo (BitVec.ofNat 32 n.val) = BitVec.ofNat 32 (if n.val = 0 then 127 else 253 - n.val) := by
  decide +kernel

/-- The reference's exponent. -/
def expoR (t : EReal) : EReal :=
  if t < Ideal.ofBits .f32 0x00800000#32 then Ideal.ofBits .f32 0x00000000#32
  else Ideal.liftRound Int.floor (Ideal.div (Ideal.log t) (Ideal.log (Ideal.ofBits .f32 0x40000000#32))) + Ideal.ofBits .f32 0x3F800000#32

theorem bits_two : Ideal.ofBits .f32 0x40000000#32 = ((2 : ℝ) : EReal) := by
  simp [Ideal.ofBits, Ideal.ieee, -EReal.coe_mul]
  norm_num
theorem bits_one : Ideal.ofBits .f32 0x3F800000#32 = ((1 : ℝ) : EReal) := by
  simp [Ideal.ofBits, Ideal.ieee, -EReal.coe_mul]
  norm_num

theorem floor_log (r : ℝ) (k : ℤ) (h1 : (2 : ℝ) ^ k ≤ r) (h2 : r < (2 : ℝ) ^ (k + 1)) :
    ⌊Real.log r * (Real.log 2)⁻¹⌋ = k := by
  have hr : 0 < r := lt_of_lt_of_le (by positivity) h1
  have hl : 0 < Real.log 2 := Real.log_pos (by norm_num)
  rw [Int.floor_eq_iff]
  constructor
  · rw [le_mul_inv_iff₀ hl, ← Real.log_zpow]
    exact Real.log_le_log (by positivity) h1
  · rw [mul_inv_lt_iff₀ hl]
    have : ((k : ℝ) + 1) * Real.log 2 = Real.log ((2 : ℝ) ^ (k + 1)) := by rw [Real.log_zpow]; push_cast; rfl
    rw [this]
    exact Real.log_lt_log hr h2

/-- Below `2^126` body and reference name one power of two. -/
theorem scale_eq (t : EReal) (h0 : 0 ≤ t) (h : t < pw 253) :
    ∃ k : ℤ, scale t = (((2 : ℝ) ^ k : ℝ) : EReal) ∧ inv t = (((2 : ℝ) ^ (-k) : ℝ) : EReal) ∧ expoR t = (((k : ℤ) : ℝ) : EReal) := by
  obtain ⟨n, hn, h1, h2, h3⟩ := field_between t h0
  have hn252 : n < 253 := by
    by_contra hc
    exact absurd (lt_of_lt_of_le h (pw_mono 253 n (by omega) (by omega))) (not_lt.2 h2)
  have h3 := h3 (by omega)
  obtain ⟨e1, e2⟩ := expo_of ⟨n, hn252⟩
  have es : scale t = pw (if n = 0 then 127 else n + 1) := by unfold scale pw; rw [hn, e1]
  have ei : inv t = pw (if n = 0 then 127 else 253 - n) := by unfold inv pw; rw [hn, e2]
  have e00 : Ideal.ofBits .f32 0x00800000#32 = pw 1 := rfl
  rw [es, ei]
  unfold expoR
  rw [e00]
  by_cases hz : n = 0
  · subst hz
    refine ⟨0, ?_, ?_, ?_⟩
    · rw [if_pos rfl, pw_of 127 (by omega) (by omega)]; norm_num
    · rw [if_pos rfl, pw_of 127 (by omega) (by omega)]; norm_num
    · rw [if_pos h3]
      have : Ideal.ofBits .f32 0x00000000#32 = pw 0 := rfl
      rw [this, pw_zero]; simp
  · refine ⟨(n : ℤ) - 126, ?_, ?_, ?_⟩
    · rw [if_neg hz, pw_of (n + 1) (by omega) (by omega)]
      congr 2; push_cast; ring
    · rw [if_neg hz, pw_of (253 - n) (by omega) (by omega)]
      congr 2; omega
    · have hle : pw 1 ≤ t := le_trans (pw_mono 1 n (by omega) (by omega)) h2
      rw [if_neg (not_lt.2 hle)]
      rw [pw_of n hz (by omega)] at h2
      rw [pw_of (n + 1) (by omega) (by omega)] at h3
      have hnt : t ≠ ⊤ := ne_top_of_lt h3
      have hnb : t ≠ ⊥ := fun hb => by rw [hb] at h0; simp at h0
      lift t to ℝ using ⟨hnt, hnb⟩
      have g1 := EReal.coe_le_coe_iff.1 h2
      have g2 := EReal.coe_lt_coe_iff.1 h3
      have hr : 0 < t := lt_of_lt_of_le (by positivity) g1
      have hl : 0 < Real.log 2 := Real.log_pos (by norm_num)
      have lg : ∀ r : ℝ, 0 < r → Ideal.log (r : EReal) = ((Real.log r : ℝ) : EReal) := fun r hr => by
        show (if r ≤ 0 then (⊥ : EReal) else ((Real.log r : ℝ) : EReal)) = _
        rw [if_neg (not_le.2 hr)]
      rw [bits_two, bits_one, lg t hr, lg 2 (by norm_num)]
      have hd : Ideal.div ((Real.log t : ℝ) : EReal) ((Real.log 2 : ℝ) : EReal) = ((Real.log t * (Real.log 2)⁻¹ : ℝ) : EReal) := by
        unfold Ideal.div
        rw [if_neg (by exact_mod_cast hl.ne'), EReal.coe_mul, EReal.coe_inv]
      rw [hd]
      have hf := floor_log t ((n : ℤ) - 127) g1 (by convert g2 using 2; push_cast; ring)
      show (((⌊Real.log t * (Real.log 2)⁻¹⌋ : ℤ) : ℝ) : EReal) + ((1 : ℝ) : EReal) = _
      rw [hf, ← EReal.coe_add]
      congr 1; push_cast; ring

/-- The reference's two powers. -/
theorem exp2_coe (k : ℤ) : Ideal.exp2 (((k : ℤ) : ℝ) : EReal) = (((2 : ℝ) ^ k : ℝ) : EReal) := by
  show ((Real.rpow 2 ((k : ℤ) : ℝ) : ℝ) : EReal) = _
  congr 1
  exact Real.rpow_intCast 2 k

theorem scaleR_eq (t : EReal) (h0 : 0 ≤ t) (h : t < pw 253) : Ideal.exp2 (expoR t) = scale t := by
  obtain ⟨k, e1, -, e3⟩ := scale_eq t h0 h
  rw [e3, e1, exp2_coe]

theorem invR_eq (t : EReal) (h0 : 0 ≤ t) (h : t < pw 253) : Ideal.exp2 (Ideal.ofBits .f32 0x00000000#32 - expoR t) = inv t := by
  obtain ⟨k, -, e2, e3⟩ := scale_eq t h0 h
  have : Ideal.ofBits .f32 0x00000000#32 = pw 0 := rfl
  rw [this, pw_zero, e3, e2, zero_sub, ← exp2_coe]
  congr 1
  push_cast
  rfl

end Cert.Value.Quant

end
-- ==== Proof.Quant.Body.lean ====
/-
  Hand-written, untrusted. What the quantiser's body stores, group by group in one form: the rows' reciprocal root mean
  square, a group's normalised values, its exponent field, its scale and its codes.
-/
module

public import proofs.«01_k».proof.Proof.Quant.Expo
public import proofs.«01_k».proof.Proof.Gen.QuantIdeal.Frame

@[expose] public section

set_option maxRecDepth 65536

noncomputable section

namespace Cert.Value.Quant

open Cert.QuantIdeal Cert.QuantIdeal.Gen
open Idealize.ShloMosaic Idealize.ShloMosaic.TcCoe

theorem grp_inb (g : Fin 16) : ∀ a, (![0, 128 * g.val] : Fin 2 → ℕ) a + S128x128.size a ≤ S128x2048.size a := by
  have := g.isLt; intro a; fin_cases a
  · show 0 + 128 ≤ 128; omega
  · show 128 * g.val + 128 ≤ 2048; omega

theorem wgt_inb (g : Fin 16) : ∀ a, (![0, 128 * g.val] : Fin 2 → ℕ) a + S1x128.size a ≤ S1x2048.size a := by
  have := g.isLt; intro a; fin_cases a
  · show 0 + 1 ≤ 1; omega
  · show 128 * g.val + 128 ≤ 2048; omega

/-- A row's sum, a row's largest, and either as a column. -/
def sumV (S : FVec Ideal S128x128 .f32) : FVec Ideal S128 .f32 :=
  multiReduction .add [1] S128 S 0x00000000#32 reduces_S128x128_S128 (.inl rfl) rfl
def maxV (S : FVec Ideal S128x128 .f32) : FVec Ideal S128 .f32 :=
  multiReduction .maximumf [1] S128 S 0xFF800000#32 reduces_S128x128_S128 (.inl rfl) rfl
def colV (s : FVec Ideal S128 .f32) : FVec Ideal S128x1 .f32 := shapeCast S128x1 s shapeCasts_S128_S128x1

/-- The sixteen groups' squares, lane by lane. -/
def sqV (P : Fin 16 → FVec Ideal S128x128 .f32) : FVec Ideal S128x128 .f32 :=
  ([0, 1, 2, 3, 4, 5, 6, 7, 8, 9, 10, 11, 12, 13, 14, 15] : List (Fin 16)).foldl (fun a g => addf a (mulf (P g) (P g)))
    (broadcast S128x128 (Scalar.ofBits .f32 0x00000000#32 : Ideal .f32))

/-- The reciprocal root mean square of each row, of its sixteen groups. -/
def rowV (P : Fin 16 → FVec Ideal S128x128 .f32) : FVec Ideal S128x1 .f32 :=
  rsqrt (addf (mulf (colV (sumV (sqV P))) (broadcast S128x1 (Scalar.ofBits .f32 0x3A000000#32 : Ideal .f32)))
    (broadcast S128x1 (Scalar.ofBits .f32 0x358637BD#32 : Ideal .f32)))

/-- A group's normalised values. -/
def valV (r : FVec Ideal S128x1 .f32) (p : FVec Ideal S128x128 .f32) (w : FVec Ideal S1x128 .f32) : FVec Ideal S128x128 .f32 :=
  mulf (mulf p (broadcastTo S128x128 r broadcasts_S128x1_S128x128))
    (broadcastTo S128x128 (shapeCast S1x128 w shapeCasts_S1x128_S1x128 : FVec Ideal S1x128 .f32) broadcasts_S1x128_S128x128)

/-- A group's largest size over the largest code. -/
def sizeV (v : FVec Ideal S128x128 .f32) : FVec Ideal S128x1 .f32 :=
  mulf (colV (maxV (absf v))) (broadcast S128x1 (Scalar.ofBits .f32 0x3B124925#32 : Ideal .f32))

def stepV (t : FVec Ideal S128x1 .f32) (b : BitVec 32) (e : IVec S128x1 32) : IVec S128x1 32 :=
  select (cmpf .olt t (bitcastToFloat .f32 (shli (addi e (broadcast S128x1 b)) (broadcast S128x1 23#32)))) e (addi e (broadcast S128x1 b))

def fieldV (t : FVec Ideal S128x1 .f32) : IVec S128x1 32 :=
  stepV t 1#32 (stepV t 2#32 (stepV t 4#32 (stepV t 8#32 (stepV t 16#32 (stepV t 32#32 (stepV t 64#32 (stepV t 128#32 (broadcast S128x1 0#32))))))))

def expoV (e : IVec S128x1 32) : IVec S128x1 32 :=
  select (cmpi .slt (shli e (broadcast S128x1 23#32)) (broadcast S128x1 8388608#32)) (broadcast S128x1 0#32)
    (subi (shrsi (shli e (broadcast S128x1 23#32)) (broadcast S128x1 23#32)) (broadcast S128x1 126#32))

def scaleV (t : FVec Ideal S128x1 .f32) : FVec Ideal S128x1 .f32 :=
  bitcastToFloat .f32 (shli (addi (expoV (fieldV t)) (broadcast S128x1 127#32)) (broadcast S128x1 23#32))
def invV (t : FVec Ideal S128x1 .f32) : FVec Ideal S128x1 .f32 :=
  bitcastToFloat .f32 (shli (subi (broadcast S128x1 127#32) (expoV (fieldV t))) (broadcast S128x1 23#32))

/-- A group's codes. -/
def codesV (v : FVec Ideal S128x128 .f32) (q : FVec Ideal S128x1 .f32) : FVec Ideal S128x128 .fp8e4m3 :=
  truncf .fp8e4m3 (minimumf (broadcast S128x128 (Scalar.ofBits .f32 0x43E00000#32 : Ideal .f32))
    (maximumf (broadcast S128x128 (Scalar.ofBits .f32 0xC3E00000#32 : Ideal .f32)) (mulf v (broadcastTo S128x128 q broadcasts_S128x1_S128x128))))
    bitsLt_fp8e4m3_f32

/-- The scales gathered so far, with one group's put at its lane. -/
def putV (g : Fin 16) (s : FVec Ideal S128x1 .f32) (a : FVec Ideal S128x128 .f32) : FVec Ideal S128x128 .f32 :=
  select (cmpi .eq (iota .tc S128x128 32 [1] iota_S128x128_d1_w32) (broadcast S128x128 (BitVec.ofNat 32 g.val)))
    (broadcastTo S128x128 (shapeCast S128x1 s shapeCasts_S128x1_S128x1 : FVec Ideal S128x1 .f32) broadcasts_S128x1_S128x128) a

theorem stepV_at (t : FVec Ideal S128x1 .f32) (b : BitVec 32) (e : IVec S128x1 32) (i : S128x1.Idx) :
    stepV t b e i = step (t i) b (e i) := rfl
theorem fieldV_at (t : FVec Ideal S128x1 .f32) (i : S128x1.Idx) : fieldV t i = field (t i) := by
  unfold fieldV field
  rw [stepV_at, stepV_at, stepV_at, stepV_at, stepV_at, stepV_at, stepV_at, stepV_at]
  rfl
theorem expoV_at (e : IVec S128x1 32) (i : S128x1.Idx) : expoV e i = expo (e i) := rfl
theorem scaleV_at (t : FVec Ideal S128x1 .f32) (i : S128x1.Idx) : scaleV t i = scale (t i) := by
  unfold scale
  rw [← fieldV_at, ← expoV_at]
  rfl
theorem invV_at (t : FVec Ideal S128x1 .f32) (i : S128x1.Idx) : invV t i = inv (t i) := by
  unfold inv
  rw [← fieldV_at, ← expoV_at]
  rfl

section
variable (c : Dev nD) (arg0 : Memref sig .tc .vmem S128x2048 .f32) (harg0 : arg0.IsWhole) (arg1 : Memref sig .tc .vmem S1x2048 .f32) (harg1 : arg1.IsWhole)
  (arg2 : Memref sig .tc .vmem S128x2048 .fp8e4m3) (harg2 : arg2.IsWhole) (arg3 : Memref sig .tc .vmem S128x16 .f32) (harg3 : arg3.IsWhole)
  (arg4 : Memref sig .tc .vmem S128x2048 .bf16) (harg4 : arg4.IsWhole)
  (x0 : Vec Ideal S128x2048 .f32) (x1 : Vec Ideal S1x2048 .f32)

/-- Group `g` of the input. -/
def inG (g : Fin 16) : FVec Ideal S128x128 .f32 :=
  View.readAt (Elt Ideal) arg0.view (Rect.unit (s := S128x2048) ![0, 128 * g.val] S128x128.size (grp_inb g)).toLoadRect (harg0.unread x0)
/-- Group `g` of the weights. -/
def wtG (g : Fin 16) : FVec Ideal S1x128 .f32 :=
  View.readAt (Elt Ideal) arg1.view (Rect.unit (s := S1x2048) ![0, 128 * g.val] S1x128.size (wgt_inb g)).toLoadRect (harg1.unread x1)

def valG (g : Fin 16) : FVec Ideal S128x128 .f32 :=
  valV (rowV (inG arg0 harg0 x0)) (inG arg0 harg0 x0 g) (wtG arg1 harg1 x1 g)

/-- The store of group `g` of the codes. -/
def codePiece (g : Fin 16) : View.Piece (Elt Ideal) S128x2048 .fp8e4m3 :=
  ⟨Rect.unit (s := S128x2048) ![0, 128 * g.val] S128x128.size (grp_inb g),
    codesV (valG arg0 harg0 arg1 harg1 x0 x1 g) (invV (sizeV (valG arg0 harg0 arg1 harg1 x0 x1 g)))⟩

/-- The scales of all groups, one to a lane. -/
def scalesV : FVec Ideal S128x128 .f32 :=
  ([0, 1, 2, 3, 4, 5, 6, 7, 8, 9, 10, 11, 12, 13, 14, 15] : List (Fin 16)).foldl
    (fun a g => putV g (scaleV (sizeV (valG arg0 harg0 arg1 harg1 x0 x1 g))) a) (broadcast S128x128 (Scalar.ofBits .f32 0x00000000#32 : Ideal .f32))

theorem codes_eq : (kernelRun0_A (F := Ideal) c arg0 harg0 arg1 harg1 arg2 harg2 arg3 harg3 arg4 harg4 x0 x1).1
    = ([15, 14, 13, 12, 11, 10, 9, 8, 7, 6, 5, 4, 3, 2, 1, 0] : List (Fin 16)).map (codePiece arg0 harg0 arg1 harg1 x0 x1) := rfl

theorem scales_eq : (kernelRun0_A (F := Ideal) c arg0 harg0 arg1 harg1 arg2 harg2 arg3 harg3 arg4 harg4 x0 x1).2.1
    = [⟨Rect.unit (s := S128x16) ![0, 0] S128x16.size inb_S128x16_S128x16_0_0,
        extractStridedSlice S128x16 ![0, 0] (scalesV arg0 harg0 arg1 harg1 x0 x1) slices_S128x128_o0_0_S128x16⟩] := rfl

end

end Cert.Value.Quant

end
-- ==== Proof.Quant.Row.lean ====
/-
  Hand-written, untrusted. One row of the quantiser over the extended reals, and why a group's size stays below `2^126` when
  the weights are finite numbers of f32: normalising leaves no value above 64.
-/
module

public import proofs.«01_k».proof.Proof.Quant.Expo

@[expose] public section

set_option maxRecDepth 16384

noncomputable section

namespace Cert.Value.Quant

open Idealize.ShloMosaic

/-- The row's sum of squares. -/
def ms (u : ℕ → EReal) : EReal := ∑ k ∈ Finset.range 2048, u k * u k
/-- Its reciprocal root mean square. -/
def rs (u : ℕ → EReal) : EReal := Ideal.rsqrt (ms u * Ideal.ofBits .f32 0x3A000000#32 + Ideal.ofBits .f32 0x358637BD#32)
/-- A normalised value. -/
def nv (u w : ℕ → EReal) (k : ℕ) : EReal := u k * rs u * w k
/-- The largest size in group `g`. -/
def mxg (u w : ℕ → EReal) (g : ℕ) : EReal :=
  (Finset.univ : Finset (Fin 128)).fold max ⊥ fun q => max (nv u w (128 * g + q.val)) (-(nv u w (128 * g + q.val)))
/-- The same over the largest code. -/
def sz (u w : ℕ → EReal) (g : ℕ) : EReal := mxg u w g * Ideal.ofBits .f32 0x3B124925#32
/-- A code. -/
def code (u w : ℕ → EReal) (k : ℕ) : EReal :=
  min (Ideal.ofBits .f32 0x43E00000#32) (max (Ideal.ofBits .f32 0xC3E00000#32) (nv u w k * inv (sz u w (k / 128))))

theorem bits_eps : ∃ e : ℝ, 0 < e ∧ Ideal.ofBits .f32 0x358637BD#32 = (e : EReal) := by
  refine ⟨_, ?_, by simp [Ideal.ofBits, Ideal.ieee, -EReal.coe_mul]; rfl⟩
  positivity
/-- The largest finite number of f32. -/
def big : EReal := Ideal.ofBits .f32 0x7F7FFFFF#32

theorem big_le : big ≤ (((2 : ℝ) ^ (128 : ℤ) : ℝ) : EReal) := by
  have h : ∃ e : ℝ, e ≤ (2 : ℝ) ^ (128 : ℤ) ∧ big = (e : EReal) := by
    refine ⟨_, ?_, by unfold big; simp [Ideal.ofBits, Ideal.ieee, -EReal.coe_mul]; rfl⟩
    norm_num
  obtain ⟨e, h1, h2⟩ := h
  rw [h2]
  exact EReal.coe_le_coe_iff.2 h1

theorem bits_inv : ∃ e : ℝ, 0 ≤ e ∧ e ≤ (2 : ℝ) ^ (-8 : ℤ) * (3 / 5) ∧ Ideal.ofBits .f32 0x3B124925#32 = (e : EReal) := by
  refine ⟨_, ?_, ?_, by simp [Ideal.ofBits, Ideal.ieee, -EReal.coe_mul]; rfl⟩
  · positivity
  · norm_num
theorem bits_mean : Ideal.ofBits .f32 0x3A000000#32 = (((2 : ℝ) ^ (-11 : ℤ) : ℝ) : EReal) :=
  (pw_of 116 (by omega) (by omega)).trans (by norm_num)
theorem bits_len : Ideal.ofBits .f32 0x45000000#32 = (((2 : ℝ) ^ (11 : ℤ) : ℝ) : EReal) :=
  (pw_of 138 (by omega) (by omega)).trans (by norm_num)

/-- Dividing by the length is multiplying by its inverse. -/
theorem div_len (s : EReal) : Ideal.div s (Ideal.ofBits .f32 0x45000000#32) = s * Ideal.ofBits .f32 0x3A000000#32 := by
  rw [bits_len, bits_mean]
  unfold Ideal.div
  have h : (((2 : ℝ) ^ (11 : ℤ) : ℝ) : EReal) ≠ 0 := by
    intro h
    have : ((2 : ℝ) ^ (11 : ℤ)) = 0 := by exact_mod_cast h
    norm_num at this
  rw [if_neg h, ← EReal.coe_inv, ← zpow_neg]

theorem sq_nonneg' (x : EReal) : 0 ≤ x * x := by
  induction x with
  | bot => simp
  | top => simp
  | coe a => exact_mod_cast mul_self_nonneg a

/-- Normalising leaves no value above 64. -/
theorem norm_le (u : ℕ → EReal) (k : ℕ) (hk : k < 2048) : ∃ b : ℝ, |b| ≤ 64 ∧ u k * rs u = (b : EReal) := by
  obtain ⟨e, he, hb⟩ := bits_eps
  have hle : u k * u k ≤ ms u :=
    Finset.single_le_sum (f := fun k => u k * u k) (fun i _ => sq_nonneg' (u i)) (Finset.mem_range.2 hk)
  have h0 : 0 ≤ ms u := le_trans (sq_nonneg' _) hle
  unfold rs
  rw [hb, bits_mean]
  generalize ms u = s at *
  by_cases hs : s = ⊤
  · subst hs
    refine ⟨0, by norm_num, ?_⟩
    rw [EReal.top_mul_coe_of_pos (by positivity), EReal.top_add_coe]
    show u k * (0 : EReal) = _
    rw [mul_zero]; rfl
  · have hsb : s ≠ ⊥ := fun h => by rw [h] at h0; simp at h0
    lift s to ℝ using ⟨hs, hsb⟩
    have h0' : 0 ≤ s := by exact_mod_cast h0
    have hut : u k ≠ ⊤ := fun h => by rw [h] at hle; simp at hle
    have hub : u k ≠ ⊥ := fun h => by rw [h] at hle; simp at hle
    generalize u k = a at *
    lift a to ℝ using ⟨hut, hub⟩
    have hle' : a * a ≤ s := by exact_mod_cast hle
    have hp : 0 < s * (2 : ℝ) ^ (-11 : ℤ) + e := by positivity
    have hr : Ideal.rsqrt ((s : EReal) * (((2 : ℝ) ^ (-11 : ℤ) : ℝ) : EReal) + (e : EReal))
        = (((Real.sqrt (s * (2 : ℝ) ^ (-11 : ℤ) + e))⁻¹ : ℝ) : EReal) := by
      rw [← EReal.coe_mul, ← EReal.coe_add]
      generalize s * (2 : ℝ) ^ (-11 : ℤ) + e = z at *
      show (if z < 0 then (⊥ : EReal) else if z = 0 then ⊤ else (((Real.sqrt z)⁻¹ : ℝ) : EReal)) = _
      rw [if_neg (not_lt.2 hp.le), if_neg hp.ne']
    rw [hr, ← EReal.coe_mul]
    refine ⟨_, ?_, rfl⟩
    have hq : 0 < Real.sqrt (s * (2 : ℝ) ^ (-11 : ℤ) + e) := Real.sqrt_pos.2 hp
    rw [abs_mul, abs_inv, abs_of_pos hq, mul_inv_le_iff₀ hq]
    apply abs_le_of_sq_le_sq _ (by positivity)
    rw [mul_pow, Real.sq_sqrt hp.le]
    norm_num
    nlinarith

theorem nv_le (u w : ℕ → EReal) (k : ℕ) (hk : k < 2048) (hw : max (w k) (-(w k)) ≤ big) :
    max (nv u w k) (-(nv u w k)) ≤ (((2 : ℝ) ^ (134 : ℤ) : ℝ) : EReal) := by
  obtain ⟨b, hb, e⟩ := norm_le u k hk
  unfold nv
  rw [e]
  replace hw := hw.trans big_le
  obtain ⟨h1, h2⟩ := max_le_iff.1 hw
  generalize w k = x at *
  have hxt : x ≠ ⊤ := ne_top_of_le_ne_top (EReal.coe_ne_top _) h1
  have hxb : x ≠ ⊥ := fun h => by
    rw [h, EReal.neg_bot] at h2
    exact absurd h2 (not_le.2 (EReal.coe_lt_top _))
  lift x to ℝ using ⟨hxt, hxb⟩
  have g1 : x ≤ (2 : ℝ) ^ (128 : ℤ) := by
    have := EReal.coe_le_coe_iff.1 h1; norm_num at this ⊢; exact this
  have g2 : -x ≤ (2 : ℝ) ^ (128 : ℤ) := by
    rw [← EReal.coe_neg] at h2
    have := EReal.coe_le_coe_iff.1 h2; norm_num at this ⊢; exact this
  have gx : |x| ≤ (2 : ℝ) ^ (128 : ℤ) := abs_le'.2 ⟨g1, g2⟩
  have gm : |b * x| ≤ (2 : ℝ) ^ (134 : ℤ) := by
    rw [abs_mul]
    calc |b| * |x| ≤ 64 * (2 : ℝ) ^ (128 : ℤ) := mul_le_mul hb gx (abs_nonneg _) (by norm_num)
      _ = (2 : ℝ) ^ (134 : ℤ) := by norm_num
  rw [← EReal.coe_mul, ← EReal.coe_neg]
  exact max_le (EReal.coe_le_coe_iff.2 (le_trans (le_abs_self _) gm)) (EReal.coe_le_coe_iff.2 (le_trans (neg_le_abs _) gm))

theorem abs_nonneg' (x : EReal) : 0 ≤ max x (-x) := by
  rcases le_total 0 x with h | h
  · exact le_max_of_le_left h
  · exact le_max_of_le_right (by rw [EReal.le_neg]; simpa using h)

/-- A group's size is at least zero and below `2^126`. -/
theorem sz_lt (u w : ℕ → EReal) (g : ℕ) (hg : g < 16) (hw : ∀ k < 2048, max (w k) (-(w k)) ≤ big) :
    0 ≤ sz u w g ∧ sz u w g < pw 253 := by
  obtain ⟨c, hc0, hc1, hc⟩ := bits_inv
  have hm : mxg u w g ≤ (((2 : ℝ) ^ (134 : ℤ) : ℝ) : EReal) := by
    unfold mxg
    rw [Finset.fold_max_le]
    exact ⟨bot_le, fun q _ => nv_le u w _ (by omega) (hw _ (by omega))⟩
  have h0 : 0 ≤ mxg u w g := by
    unfold mxg
    rw [Finset.le_fold_max]
    exact Or.inr ⟨0, Finset.mem_univ _, abs_nonneg' _⟩
  unfold sz
  rw [hc, pw_of 253 (by omega) (by omega)]
  generalize mxg u w g = x at *
  have hxt : x ≠ ⊤ := ne_top_of_le_ne_top (EReal.coe_ne_top _) hm
  have hxb : x ≠ ⊥ := fun h => by rw [h] at h0; simp at h0
  lift x to ℝ using ⟨hxt, hxb⟩
  have h0' : 0 ≤ x := by exact_mod_cast h0
  have hm' := EReal.coe_le_coe_iff.1 hm
  rw [← EReal.coe_mul]
  refine ⟨by exact_mod_cast mul_nonneg h0' hc0, EReal.coe_lt_coe_iff.2 ?_⟩
  calc x * c ≤ (2 : ℝ) ^ (134 : ℤ) * ((2 : ℝ) ^ (-8 : ℤ) * (3 / 5)) := mul_le_mul hm' hc1 hc0 (by positivity)
    _ < _ := by norm_num

end Cert.Value.Quant

end
-- ==== Proof.Quant.Out.lean ====
/-
  Hand-written, untrusted. What the quantiser's body leaves in its two results over the extended reals, element by element.
-/
module

public import proofs.«01_k».proof.Proof.Quant.Body
public import proofs.«01_k».proof.Proof.Quant.Row
public import proofs.«01_k».proof.Proof.Value.Logit
public import Idealize.ShloMosaic.Lib.Pointwise.Reduce
public import Idealize.ShloMosaic.Lib.Pointwise.ReduceUnfold
public import Idealize.ShloMosaic.Lib.ValueLayoutCasts

@[expose] public section

set_option maxRecDepth 16384

noncomputable section

namespace Cert.Value.Quant

open Cert.Value Cert.QuantIdeal Cert.QuantIdeal.Gen
open Idealize.ShloMosaic Idealize.ShloMosaic.TcCoe

theorem bits_bot : Ideal.ofBits .f32 0xFF800000#32 = ⊥ := by simp [Ideal.ofBits, Ideal.ieee]

theorem pick_eq {α : Type} (x y : BitVec 32) (A B : α) : Scalar.select (IntOp.cmpi .eq x y) A B = if x = y then A else B := by
  by_cases h : x = y
  · subst h; simp [Scalar.select, IntOp.cmpi]
  · have e : (x == y) = false := by simpa using h
    rw [if_neg h]; simp [Scalar.select, IntOp.cmpi, e]

theorem sumV_at (S : FVec Ideal S128x128 .f32) (p : Fin 128) : sumV S (ix1 p) = ∑ q : Fin 128, S (ix2 p q) := by
  unfold sumV
  pointwise

theorem maxV_at (S : FVec Ideal S128x128 .f32) (p : Fin 128) :
    maxV S (ix1 p) = (Finset.univ : Finset (Fin 128)).fold max ⊥ (fun q => S (ix2 p q)) := by
  unfold maxV
  pointwise
  rw [bits_bot]

theorem colV_at (s : FVec Ideal S128 .f32) (p : Fin 128) : colV s (ix2 p 0) = s (ix1 p) :=
  ValueIdx.shapeCast_a_a1_apply s shapeCasts_S128_S128x1 p 0

theorem sqV_at (P : Fin 16 → FVec Ideal S128x128 .f32) (p q : Fin 128) :
    sqV P (ix2 p q) = ∑ g : Fin 16, P g (ix2 p q) * P g (ix2 p q) := by
  have hz : Ideal.ofBits .f32 0x00000000#32 = 0 := pw_zero
  rw [Fin.sum_univ_def]
  unfold sqV
  simp only [List.foldl]
  pointwise
  simp only [hz, zero_add, List.finRange, List.ofFn, Fin.foldr, Fin.foldr.loop, List.map, List.sum_cons, List.sum_nil, add_zero, add_assoc]
  rfl

theorem rowV_raw (P : Fin 16 → FVec Ideal S128x128 .f32) (p : Fin 128) :
    rowV P (ix2 p 0) = Ideal.rsqrt ((∑ q : Fin 128, ∑ g : Fin 16, P g (ix2 p q) * P g (ix2 p q)) * Ideal.ofBits .f32 0x3A000000#32
      + Ideal.ofBits .f32 0x358637BD#32) := by
  show Ideal.rsqrt (colV (sumV (sqV P)) (ix2 p 0) * Ideal.ofBits .f32 0x3A000000#32 + Ideal.ofBits .f32 0x358637BD#32) = _
  rw [colV_at, sumV_at]
  simp only [sqV_at]

theorem rowV_at (P : Fin 16 → FVec Ideal S128x128 .f32) (f : ℕ → EReal) (p : Fin 128)
    (h : ∀ (g : Fin 16) (q : Fin 128), P g (ix2 p q) = f (128 * g.val + q.val)) : rowV P (ix2 p 0) = rs f := by
  rw [rowV_raw]
  unfold rs ms
  congr 3
  rw [Finset.sum_comm, ← sum_blocks (fun k => f k * f k) 16 128, ← Fin.sum_univ_eq_sum_range (fun j => ∑ a : Fin 128, f (128 * j + a.val) * f (128 * j + a.val)) 16]
  exact Finset.sum_congr rfl fun g _ => Finset.sum_congr rfl fun q _ => by rw [h]

theorem valV_at (r : FVec Ideal S128x1 .f32) (x : FVec Ideal S128x128 .f32) (w : FVec Ideal S1x128 .f32) (p q : Fin 128) :
    valV r x w (ix2 p q) = x (ix2 p q) * r (ix2 p 0) * w (ix2 0 q) := by
  unfold valV
  rw [shapeCast_self]
  pointwise

theorem sizeV_at (v : FVec Ideal S128x128 .f32) (p : Fin 128) :
    sizeV v (ix2 p 0) = (Finset.univ : Finset (Fin 128)).fold max ⊥ (fun q => max (v (ix2 p q)) (-(v (ix2 p q)))) * Ideal.ofBits .f32 0x3B124925#32 := by
  show colV (maxV (absf v)) (ix2 p 0) * Ideal.ofBits .f32 0x3B124925#32 = _
  rw [colV_at, maxV_at]
  rfl

theorem codesV_at (v : FVec Ideal S128x128 .f32) (s : FVec Ideal S128x1 .f32) (p q : Fin 128) :
    codesV v s (ix2 p q) = min (Ideal.ofBits .f32 0x43E00000#32) (max (Ideal.ofBits .f32 0xC3E00000#32) (v (ix2 p q) * s (ix2 p 0))) := by
  unfold codesV
  pointwise

theorem putV_at (g : Fin 16) (s : FVec Ideal S128x1 .f32) (a : FVec Ideal S128x128 .f32) (p q : Fin 128) :
    putV g s a (ix2 p q) = if BitVec.ofNat 32 q.val = BitVec.ofNat 32 g.val then s (ix2 p 0) else a (ix2 p q) := by
  unfold putV
  rw [shapeCast_self]
  pointwise
  simp only [pick_eq]

section
variable (c : Dev nD) (arg0 : Memref sig .tc .vmem S128x2048 .f32) (harg0 : arg0.IsWhole) (arg1 : Memref sig .tc .vmem S1x2048 .f32) (harg1 : arg1.IsWhole)
  (arg2 : Memref sig .tc .vmem S128x2048 .fp8e4m3) (harg2 : arg2.IsWhole) (arg3 : Memref sig .tc .vmem S128x16 .f32) (harg3 : arg3.IsWhole)
  (arg4 : Memref sig .tc .vmem S128x2048 .bf16) (harg4 : arg4.IsWhole)
  (x0 : Vec Ideal S128x2048 .f32) (x1 : Vec Ideal S1x2048 .f32)

theorem inG_at (g : Fin 16) (p q : Fin 128) :
    inG arg0 harg0 x0 g (ix2 p q) = at2 (n0 := 128) (n1 := 2048) x0 p.val (128 * g.val + q.val) := by
  unfold inG
  rw [View.readAt_apply, harg0.read_unread]
  refine at2_of (n0 := 128) (n1 := 2048) x0 _ _ _ ((idx_val (grp_inb g) _ 0).trans ?_) (idx_val (grp_inb g) _ 1)
  show 0 + p.val = p.val; omega

theorem wtG_at (g : Fin 16) (q : Fin 128) :
    wtG arg1 harg1 x1 g (ix2 0 q) = at2 (n0 := 1) (n1 := 2048) x1 0 (128 * g.val + q.val) := by
  unfold wtG
  rw [View.readAt_apply, harg1.read_unread]
  exact at2_of (n0 := 1) (n1 := 2048) x1 _ _ _ (idx_val (wgt_inb g) _ 0) (idx_val (wgt_inb g) _ 1)

/-- A row of the input, and the weights. -/
def rowU (x0 : Vec Ideal S128x2048 .f32) (r : ℕ) : ℕ → EReal := at2 (n0 := 128) (n1 := 2048) x0 r
def rowW (x1 : Vec Ideal S1x2048 .f32) : ℕ → EReal := at2 (n0 := 1) (n1 := 2048) x1 0

theorem valG_at (g : Fin 16) (p q : Fin 128) :
    valG arg0 harg0 arg1 harg1 x0 x1 g (ix2 p q) = nv (rowU x0 p.val) (rowW x1) (128 * g.val + q.val) := by
  unfold valG
  rw [valV_at, inG_at, wtG_at, rowV_at _ (rowU x0 p.val) p (fun g q => inG_at arg0 harg0 x0 g p q)]
  rfl

theorem sizeG_at (g : Fin 16) (p : Fin 128) :
    sizeV (valG arg0 harg0 arg1 harg1 x0 x1 g) (ix2 p 0) = sz (rowU x0 p.val) (rowW x1) g.val := by
  rw [sizeV_at]
  simp only [valG_at]
  rfl

theorem codePiece_at (g : Fin 16) (x : S128x128.Idx) :
    (codePiece arg0 harg0 arg1 harg1 x0 x1 g).2 x = code (rowU x0 (x 0).val) (rowW x1) (128 * g.val + (x 1).val) := by
  obtain ⟨p, q, rfl⟩ : ∃ (p q : Fin 128), x = ix2 p q := ⟨_, _, eq_ix2 (n0 := 128) (n1 := 128) x⟩
  refine (codesV_at _ _ p q).trans ?_
  rw [valG_at, invV_at, sizeG_at]
  show _ = code (rowU x0 p.val) (rowW x1) (128 * g.val + q.val)
  unfold code
  have : (128 * g.val + q.val) / 128 = g.val := by have := q.isLt; omega
  rw [this]

theorem scalesV_at (p : Fin 128) (l : Fin 16) :
    scalesV arg0 harg0 arg1 harg1 x0 x1 (ix2 p ⟨l.val, by omega⟩) = scale (sz (rowU x0 p.val) (rowW x1) l.val) := by
  have e : ∀ g : Fin 16, scaleV (sizeV (valG arg0 harg0 arg1 harg1 x0 x1 g)) (ix2 p 0) = scale (sz (rowU x0 p.val) (rowW x1) g.val) :=
    fun g => by rw [scaleV_at, sizeG_at]
  unfold scalesV
  simp only [List.foldl, putV_at, e]
  generalize (fun g : ℕ => scale (sz (rowU x0 p.val) (rowW x1) g)) = f
  fin_cases l <;> simp

/-- What the body leaves in the codes. -/
theorem out2_at (y : S128x2048.Idx) :
    out0_A_2 (F := Ideal) c arg0 harg0 arg1 harg1 arg2 harg2 arg3 harg3 arg4 harg4 x0 x1 y
      = code (rowU x0 (y 0).val) (rowW x1) (y 1).val := by
  unfold out0_A_2
  refine View.read_writes_apply_of_pieces VO0_2 _ (fun y : S128x2048.Idx => code (rowU x0 (y 0).val) (rowW x1) (y 1).val) _ ?_ y
    (cover0_A_2 c arg0 harg0 arg1 harg1 arg2 harg2 arg3 harg3 arg4 harg4 x0 x1 y)
  rw [codes_eq]
  intro p hp x
  obtain ⟨g, -, rfl⟩ := List.mem_map.mp hp
  refine (codePiece_at arg0 harg0 arg1 harg1 x0 x1 g x).trans ?_
  have e0 := emb_val (s := S128x2048) (grp_inb g) x 0
  have e1 := emb_val (s := S128x2048) (grp_inb g) x 1
  exact congrArg₂ (fun r k => code (rowU x0 r) (rowW x1) k) (e0.trans (Nat.zero_add _)).symm e1.symm

/-- What the body leaves in the scales. -/
theorem out3_at (y : S128x16.Idx) :
    out0_A_3 (F := Ideal) c arg0 harg0 arg1 harg1 arg2 harg2 arg3 harg3 arg4 harg4 x0 x1 y
      = scale (sz (rowU x0 (y 0).val) (rowW x1) (y 1).val) := by
  unfold out0_A_3
  refine View.read_writes_apply_of_pieces VO0_3 _ (fun y : S128x16.Idx => scale (sz (rowU x0 (y 0).val) (rowW x1) (y 1).val)) _ ?_ y
    (cover0_A_3 c arg0 harg0 arg1 harg1 arg2 harg2 arg3 harg3 arg4 harg4 x0 x1 y)
  rw [scales_eq]
  intro p hp x
  obtain rfl := List.mem_singleton.mp hp
  change S128x16.Idx at x
  obtain ⟨r, l, rfl⟩ : ∃ (r : Fin 128) (l : Fin 16), x = ix2 r l := ⟨_, _, eq_ix2 (n0 := 128) (n1 := 16) x⟩
  have e0 := emb_val (s := S128x16) inb_S128x16_S128x16_0_0 (ix2 r l) 0
  have e1 := emb_val (s := S128x16) inb_S128x16_S128x16_0_0 (ix2 r l) 1
  refine Eq.trans ?_ ((scalesV_at arg0 harg0 arg1 harg1 x0 x1 r l).trans
    (congrArg₂ (fun r k => scale (sz (rowU x0 r) (rowW x1) k)) (e0.trans (Nat.zero_add _)).symm (e1.trans (Nat.zero_add _)).symm))
  show extractStridedSlice S128x16 ![0, 0] (scalesV arg0 harg0 arg1 harg1 x0 x1) slices_S128x128_o0_0_S128x16 (ix2 r l) = _
  generalize scalesV arg0 harg0 arg1 harg1 x0 x1 = S
  pointwise

end

end Cert.Value.Quant

end
-- ==== Proof.Quant.Ref.lean ====
/-
  Hand-written, untrusted. The quantiser's reference over the extended reals, read element by element: each row's codes and
  scales are the ones the kernel's body leaves, while the weights are finite numbers of f32.
-/
module

public import proofs.«01_k».proof.Proof.Quant.Row
public import proofs.«01_k».proof.Proof.Value.Ref
public import proofs.«01_k».proof.Proof.Gen.QuantReferenceIdeal.Value
public import Idealize.ShloMosaic.Lib.ValueLayoutCasts

@[expose] public section

set_option maxRecDepth 16384

noncomputable section

namespace Cert.Value.Quant.Ref

open Cert.Value Cert.Value.Quant Cert.QuantReferenceIdeal Cert.QuantReferenceIdeal.Gen Cert.QuantReferenceIdeal.Value
open Idealize.ShloMosaic Idealize.ShloMosaic.TcCoe

/-- The rows' sums of squares, their reciprocal root mean squares as a column, and the normalised values. -/
def sumM (X : FVec Ideal S128x2048 .f32) : FVec Ideal S128 .f32 :=
  multiReduction .add [1] S128 (mulf X X) 0x00000000#32 reduces_S128x2048_S128 (.inl rfl) rfl
def colM (s : FVec Ideal S128 .f32) : FVec Ideal S128x1 .f32 := shapeCast S128x1 s shapeCasts_S128_S128x1
def rowM (X : FVec Ideal S128x2048 .f32) : FVec Ideal S128x1 .f32 :=
  rsqrt (addf (divf (colM (sumM X)) (broadcast S128x1 (Scalar.ofBits .f32 0x45000000#32 : Ideal .f32)))
    (broadcast S128x1 (Scalar.ofBits .f32 0x358637BD#32 : Ideal .f32)))
def nrmM (X : FVec Ideal S128x2048 .f32) (R : FVec Ideal S128x1 .f32) (W : FVec Ideal S2048 .f32) : FVec Ideal S128x2048 .f32 :=
  mulf (mulf X (broadcastTo S128x2048 R broadcasts_S128x1_S128x2048))
    (broadcastTo S128x2048 (shapeCast S1x2048 W shapeCasts_S2048_S1x2048 : FVec Ideal S1x2048 .f32) broadcasts_S1x2048_S128x2048)
/-- The values in groups of 128, a group's largest, its size, its exponent. -/
def grpM (V : FVec Ideal S128x2048 .f32) : FVec Ideal S128x16x128 .f32 := shapeCast S128x16x128 V shapeCasts_S128x2048_S128x16x128
def maxM (Y : FVec Ideal S128x16x128 .f32) : FVec Ideal S128x16 .f32 :=
  multiReduction .maximumf [2] S128x16 (absf Y) 0xFF800000#32 reduces_S128x16x128_S128x16 (.inl rfl) rfl
def sizeM (Y : FVec Ideal S128x16x128 .f32) : FVec Ideal S128x16 .f32 :=
  mulf (maxM Y) (broadcast S128x16 (Scalar.ofBits .f32 0x3B124925#32 : Ideal .f32))
def expoM (T : FVec Ideal S128x16 .f32) : FVec Ideal S128x16 .f32 :=
  select (cmpf .olt T (broadcast S128x16 (Scalar.ofBits .f32 0x00800000#32 : Ideal .f32)))
    (broadcast S128x16 (Scalar.ofBits .f32 0x00000000#32 : Ideal .f32))
    (addf (floor (divf (log T) (broadcast S128x16 (Scalar.log (Scalar.ofBits .f32 0x40000000#32 : Ideal .f32)))))
      (broadcast S128x16 (Scalar.ofBits .f32 0x3F800000#32 : Ideal .f32)))
def invM (E : FVec Ideal S128x16 .f32) : FVec Ideal S128x16 .f32 :=
  exp2 (subf (broadcast S128x16 (Scalar.ofBits .f32 0x00000000#32 : Ideal .f32)) E)
def codM (Y : FVec Ideal S128x16x128 .f32) (N : FVec Ideal S128x16 .f32) : FVec Ideal S128x16x128 .fp8e4m3 :=
  truncf .fp8e4m3 (minimumf (broadcast S128x16x128 (Scalar.ofBits .f32 0x43E00000#32 : Ideal .f32))
    (maximumf (broadcast S128x16x128 (Scalar.ofBits .f32 0xC3E00000#32 : Ideal .f32))
      (mulf Y (broadcastTo S128x16x128 (shapeCast S128x16x1 N shapeCasts_S128x16_S128x16x1 : FVec Ideal S128x16x1 .f32)
        broadcasts_S128x16x1_S128x16x128)))) bitsLt_fp8e4m3_f32
def outM (C : FVec Ideal S128x16x128 .fp8e4m3) : FVec Ideal S128x2048 .fp8e4m3 := shapeCast S128x2048 C shapeCasts_S128x16x128_S128x2048

/-- The groups of the reference's arguments, and its two results in these terms. -/
def yM (a0 : FVec Ideal S128x2048 .f32) (a1 : FVec Ideal S2048 .f32) : FVec Ideal S128x16x128 .f32 := grpM (nrmM a0 (rowM a0) a1)

theorem G2_eq (a0 : Vec Ideal S128x2048 .f32) (a1 : Vec Ideal S2048 .f32) :
    G2 (F := Ideal) a0 a1 = outM (codM (yM a0 a1) (invM (expoM (sizeM (yM a0 a1))))) := rfl
theorem G3_eq (a0 : Vec Ideal S128x2048 .f32) (a1 : Vec Ideal S2048 .f32) :
    G3 (F := Ideal) a0 a1 = exp2 (expoM (sizeM (yM a0 a1))) := rfl

theorem bits_bot : Ideal.ofBits .f32 0xFF800000#32 = ⊥ := by simp [Ideal.ofBits, Ideal.ieee]

theorem sumM_at (X : FVec Ideal S128x2048 .f32) (r : Fin 128) : sumM X (ix1 r) = ∑ k : Fin 2048, X (ix2 r k) * X (ix2 r k) := by
  unfold sumM
  pointwise

theorem colM_at (s : FVec Ideal S128 .f32) (r : Fin 128) : colM s (ix2 r 0) = s (ix1 r) :=
  ValueIdx.shapeCast_a_a1_apply s shapeCasts_S128_S128x1 r 0

theorem rowM_at (X : FVec Ideal S128x2048 .f32) (r : Fin 128) :
    rowM X (ix2 r 0) = rs (at2 (n0 := 128) (n1 := 2048) X r.val) := by
  show Ideal.rsqrt (Ideal.div (colM (sumM X) (ix2 r 0)) (Ideal.ofBits .f32 0x45000000#32) + Ideal.ofBits .f32 0x358637BD#32) = _
  rw [colM_at, sumM_at, div_len]
  unfold rs ms
  rw [Cert.Value.Ref.sum_range 2048 _ (fun k => at2 (n0 := 128) (n1 := 2048) X r.val k * at2 (n0 := 128) (n1 := 2048) X r.val k) fun k => by
    rw [at2_of (n0 := 128) (n1 := 2048) X (ix2 r k) r.val k.val rfl rfl]]

theorem nrmM_at (X : FVec Ideal S128x2048 .f32) (R : FVec Ideal S128x1 .f32) (W : FVec Ideal S2048 .f32) (r : Fin 128) (k : Fin 2048) :
    nrmM X R W (ix2 r k) = X (ix2 r k) * R (ix2 r 0) * W (ix1 k) := by
  unfold nrmM
  pointwise

theorem grpM_at (V : FVec Ideal S128x2048 .f32) (r : Fin 128) (g : Fin 16) (q : Fin 128) :
    grpM V (ix3 r g q) = V (ix2 r ⟨128 * g.val + q.val, by omega⟩) := by
  unfold grpM
  pointwise
  exact congrArg (fun j => V (ix2 r j)) (Fin.ext (by show g.val * 128 + q.val = 128 * g.val + q.val; omega))

theorem maxM_at (Y : FVec Ideal S128x16x128 .f32) (r : Fin 128) (g : Fin 16) :
    maxM Y (ix2 r g) = (Finset.univ : Finset (Fin 128)).fold max ⊥ (fun q => max (Y (ix3 r g q)) (-(Y (ix3 r g q)))) := by
  unfold maxM
  pointwise
  rw [bits_bot]
  rfl

theorem expoM_at (T : FVec Ideal S128x16 .f32) (r : Fin 128) (g : Fin 16) : expoM T (ix2 r g) = expoR (T (ix2 r g)) := by
  show Scalar.select (Ideal.cmp .olt (T (ix2 r g)) (Ideal.ofBits .f32 0x00800000#32)) (Ideal.ofBits .f32 0x00000000#32)
    (Ideal.liftRound Int.floor (Ideal.div (Ideal.log (T (ix2 r g))) (Ideal.log (Ideal.ofBits .f32 0x40000000#32))) + Ideal.ofBits .f32 0x3F800000#32) = _
  unfold expoR
  by_cases h : T (ix2 r g) < Ideal.ofBits .f32 0x00800000#32
  · rw [if_pos h]; simp [Scalar.select, Ideal.cmp, h]
  · rw [if_neg h]; simp [Scalar.select, Ideal.cmp, h]

theorem exp2_at (E : FVec Ideal S128x16 .f32) (r : Fin 128) (g : Fin 16) :
    (exp2 E : FVec Ideal S128x16 .f32) (ix2 r g) = Ideal.exp2 (E (ix2 r g)) := rfl

theorem invM_at (E : FVec Ideal S128x16 .f32) (r : Fin 128) (g : Fin 16) :
    invM E (ix2 r g) = Ideal.exp2 (Ideal.ofBits .f32 0x00000000#32 - E (ix2 r g)) := rfl

theorem codM_at (Y : FVec Ideal S128x16x128 .f32) (N : FVec Ideal S128x16 .f32) (r : Fin 128) (g : Fin 16) (q : Fin 128) :
    codM Y N (ix3 r g q) = min (Ideal.ofBits .f32 0x43E00000#32) (max (Ideal.ofBits .f32 0xC3E00000#32) (Y (ix3 r g q) * N (ix2 r g))) := by
  unfold codM
  pointwise

theorem outM_at (C : FVec Ideal S128x16x128 .fp8e4m3) (r : Fin 128) (k : Fin 2048) :
    outM C (ix2 r k) = C (ix3 r ⟨k.val / 128, by omega⟩ ⟨k.val % 128, by omega⟩) := by
  unfold outM
  pointwise

/-- The weights as a function of a natural number. -/
def wts (W : FVec Ideal S2048 .f32) (k : ℕ) : EReal := W (ix1 (Fin.ofNat 2048 k))

theorem wts_at (W : FVec Ideal S2048 .f32) (k : Fin 2048) : W (ix1 k) = wts W k.val := by
  unfold wts
  congr 2
  exact Fin.ext (Nat.mod_eq_of_lt k.isLt).symm

theorem yM_at (a0 : FVec Ideal S128x2048 .f32) (a1 : FVec Ideal S2048 .f32) (r : Fin 128) (g : Fin 16) (q : Fin 128) :
    yM a0 a1 (ix3 r g q) = nv (at2 (n0 := 128) (n1 := 2048) a0 r.val) (wts a1) (128 * g.val + q.val) := by
  have hk : 128 * g.val + q.val < 2048 := by omega
  unfold yM
  rw [grpM_at, nrmM_at, rowM_at, wts_at a1, at2_of (n0 := 128) (n1 := 2048) a0 (ix2 r ⟨128 * g.val + q.val, hk⟩) r.val (128 * g.val + q.val) rfl rfl]
  rfl

theorem sizeM_at (a0 : FVec Ideal S128x2048 .f32) (a1 : FVec Ideal S2048 .f32) (r : Fin 128) (g : Fin 16) :
    sizeM (yM a0 a1) (ix2 r g) = sz (at2 (n0 := 128) (n1 := 2048) a0 r.val) (wts a1) g.val := by
  show maxM (yM a0 a1) (ix2 r g) * Ideal.ofBits .f32 0x3B124925#32 = _
  rw [maxM_at]
  simp only [yM_at]
  rfl

section
variable (a0 : Vec Ideal S128x2048 .f32) (a1 : Vec Ideal S2048 .f32) (hw : ∀ k < 2048, max (wts a1 k) (-(wts a1 k)) ≤ big)
include hw

/-- What the reference leaves in the codes. -/
theorem G2_at (r : Fin 128) (k : Fin 2048) :
    G2 (F := Ideal) a0 a1 (ix2 r k) = code (at2 (n0 := 128) (n1 := 2048) a0 r.val) (wts a1) k.val := by
  have hg : k.val / 128 < 16 := by omega
  have hq : k.val % 128 < 128 := by omega
  obtain ⟨h0, h1⟩ := sz_lt (at2 (n0 := 128) (n1 := 2048) a0 r.val) (wts a1) (k.val / 128) hg hw
  rw [G2_eq, outM_at, codM_at, yM_at]
  have e : invM (expoM (sizeM (yM a0 a1))) (ix2 r ⟨k.val / 128, hg⟩)
      = inv (sz (at2 (n0 := 128) (n1 := 2048) a0 r.val) (wts a1) (k.val / 128)) := by
    rw [invM_at, expoM_at, sizeM_at, invR_eq _ h0 h1]
  rw [e]
  unfold code
  have : 128 * (k.val / 128) + k.val % 128 = k.val := Nat.div_add_mod ..
  rw [show (⟨k.val / 128, hg⟩ : Fin 16).val = k.val / 128 from rfl, show (⟨k.val % 128, hq⟩ : Fin 128).val = k.val % 128 from rfl, this]

/-- What the reference leaves in the scales. -/
theorem G3_at (r : Fin 128) (g : Fin 16) :
    G3 (F := Ideal) a0 a1 (ix2 r g) = scale (sz (at2 (n0 := 128) (n1 := 2048) a0 r.val) (wts a1) g.val) := by
  obtain ⟨h0, h1⟩ := sz_lt (at2 (n0 := 128) (n1 := 2048) a0 r.val) (wts a1) g.val g.isLt hw
  rw [G3_eq, exp2_at, expoM_at, sizeM_at, scaleR_eq _ h0 h1]

end

end Cert.Value.Quant.Ref

end
-- ==== Proof.Quant.Run.lean ====
/-
  Hand-written, untrusted. The quantiser's run over the extended reals: while the weights are finite numbers of f32, the two arrays
  it leaves are the reference's, of the same arguments.
-/
module

public import proofs.«01_k».proof.Proof.Quant.Out
public import proofs.«01_k».proof.Proof.Quant.Ref
public import proofs.«01_k».proof.Proof.Gen.QuantIdeal.Value
public import proofs.«01_k».proof.Pre_weights_finite
public import Idealize.ShloMosaic.Lib.ReduceAll

@[expose] public section

set_option maxRecDepth 16384

noncomputable section

namespace Cert.Value.Quant

open Cert.Value Cert.QuantIdeal Cert.QuantIdeal.Gen
open Idealize.ShloMosaic Idealize.ShloMosaic.TcCoe Idealize.ShloMosaic.Tactic Idealize.SL.Sem
open Idealize.ShloMosaic.Pipeline (Dat Cfg Window)

theorem pre_facts : Cert.Pre_weights_finite.Facts := ⟨by decide, by decide, by decide⟩

/-- What the precondition says: the weights are finite numbers of f32. -/
theorem bounded (a0 : FVec Ideal Cert.Pre_weights_finite.S128x2048 .f32) (a1 : FVec Ideal Cert.Pre_weights_finite.S2048 .f32)
    (h : @Cert.Pre_weights_finite.fn pre_facts Ideal _ a0 a1 = fun _ => 1#1) (k : ℕ) (hk : k < 2048) :
    max (Ref.wts a1 k) (-(Ref.wts a1 k)) ≤ big := by
  haveI : Subsingleton Cert.Pre_weights_finite.S_.Idx := ⟨fun i j => funext fun a => a.elim0⟩
  have e := Host.reduce_andi_all _ _ pre_facts.reducesTo_S2048_S_d0 pre_facts.h_S_ (fun a => a.elim0) (congrFun h _) (ix1 (Fin.ofNat 2048 k))
  change Ideal.cmp .ole (max (Ref.wts a1 k) (-(Ref.wts a1 k))) (Ideal.ofBits .f32 0x7F7FFFFF#32) = 1#1 at e
  by_contra hn
  have hn' : ¬ max (Ref.wts a1 k) (-(Ref.wts a1 k)) ≤ Ideal.ofBits .f32 0x7F7FFFFF#32 := hn
  simp [Ideal.cmp, hn'] at e

variable (m : (ℓ : Loc nD τ sig) → Buf (Elt Ideal) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S128x2048.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 2048 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S1x2048.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 2048 + 1 * (j 1).val = (j 1).val; omega
theorem iblk1_eq (c : Dev nD) (t : Fin cfg0.N) : iblk m c 1 t = V m c main_v0 := by
  funext j; show V m c main_v0 (((cfg0.win 1).blk t).view.emb j) = V m c main_v0 j; rw [emb1]
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S128x2048.Idx) : ((cfg0.win 2).blk t).view.emb j = j := by
  obtain ⟨e0, e1⟩ := idx_zero2 t
  funext a; apply Fin.ext
  match a with
  | ⟨0, _⟩ => show win0_2.index t (0 : Fin 2) * 128 + 1 * (j 0).val = (j 0).val; omega
  | ⟨1, _⟩ => show win0_2.index t (1 : Fin 2) * 2048 + 1 * (j 1).val = (j 1).val; omega
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S128x16.Idx) : ((cfg0.win 3).blk t).view.emb j = j := by
  obtain ⟨e0, e1⟩ := idx_zero3 t
  funext a; apply Fin.ext
  match a with
  | ⟨0, _⟩ => show win0_3.index t (0 : Fin 2) * 128 + 1 * (j 0).val = (j 0).val; omega
  | ⟨1, _⟩ => show win0_3.index t (1 : Fin 2) * 16 + 1 * (j 1).val = (j 1).val; omega

/-- The host's reshape of the weights adds a unit axis. -/
def row2 (w : FVec Ideal S2048 .f32) : FVec Ideal S1x2048 .f32 := shapeCast S1x2048 w shapeCasts_S2048_S1x2048

theorem V_v0 (c : Dev nD) : V m c main_v0 = row2 (m ((c : Thread nD τ).loc main_arg1)) := by
  entry_read; rfl

theorem row2_at (w : FVec Ideal S2048 .f32) (k : Fin 2048) : row2 w (ix2 0 k) = w (ix1 k) := by
  unfold row2
  pointwise

theorem rowW_eq (w : FVec Ideal S2048 .f32) (k : ℕ) (hk : k < 2048) : rowW (row2 w) k = Ref.wts w k := by
  refine (at2_of (n0 := 1) (n1 := 2048) (row2 w) (ix2 0 ⟨k, hk⟩) 0 k rfl rfl).symm.trans ?_
  rw [row2_at]
  exact Ref.wts_at w ⟨k, hk⟩

/-- A group's size and a code look at the weights of 2048 places only. -/
theorem nv_congr (u w w' : ℕ → EReal) (h : ∀ k < 2048, w k = w' k) (k : ℕ) (hk : k < 2048) : nv u w k = nv u w' k := by
  unfold nv; rw [h k hk]
theorem sz_congr (u w w' : ℕ → EReal) (h : ∀ k < 2048, w k = w' k) (g : ℕ) (hg : g < 16) : sz u w g = sz u w' g := by
  have e : (fun q : Fin 128 => max (nv u w (128 * g + q.val)) (-(nv u w (128 * g + q.val))))
      = fun q : Fin 128 => max (nv u w' (128 * g + q.val)) (-(nv u w' (128 * g + q.val))) :=
    funext fun q => by rw [nv_congr u w w' h _ (by have := q.isLt; omega)]
  unfold sz mxg
  rw [e]
theorem code_congr (u w w' : ℕ → EReal) (h : ∀ k < 2048, w k = w' k) (k : ℕ) (hk : k < 2048) : code u w k = code u w' k := by
  unfold code
  rw [nv_congr u w w' h k hk, sz_congr u w w' h _ (by omega)]

/-- The reference's two results, of the kernel's arguments. -/
def R2 (c : Dev nD) : Vec Ideal S128x2048 .fp8e4m3 :=
  Cert.QuantReferenceIdeal.Value.G2 (F := Ideal) (m ((c : Thread nD τ).loc main_arg0)) (m ((c : Thread nD τ).loc main_arg1))
def R3 (c : Dev nD) : Vec Ideal S128x16 .f32 :=
  Cert.QuantReferenceIdeal.Value.G3 (F := Ideal) (m ((c : Thread nD τ).loc main_arg0)) (m ((c : Thread nD τ).loc main_arg1))

section
variable (hw : ∀ c : Dev nD, ∀ k < 2048, max (Ref.wts (m ((c : Thread nD τ).loc main_arg1)) k) (-(Ref.wts (m ((c : Thread nD τ).loc main_arg1)) k)) ≤ big)
include hw

/-- What the body leaves at the grid's one point. -/
theorem outs2_eq (c : Dev nD) (t : Fin cfg0.N) : (outsAt0 m c t).1 = R2 m c := by
  funext y
  obtain ⟨r, k, rfl⟩ : ∃ (r : Fin 128) (k : Fin 2048), y = ix2 r k := ⟨_, _, eq_ix2 (n0 := 128) (n1 := 2048) y⟩
  unfold outsAt0
  dsimp only
  rw [out2_at, iblk0_eq, iblk1_eq, V_v0, V_main_arg0]
  refine (code_congr _ _ _ (fun j hj => rowW_eq _ j hj) k.val k.isLt).trans ?_
  exact (Ref.G2_at _ _ (hw c) r k).symm
theorem outs3_eq (c : Dev nD) (t : Fin cfg0.N) : (outsAt0 m c t).2 = R3 m c := by
  funext y
  obtain ⟨r, g, rfl⟩ : ∃ (r : Fin 128) (g : Fin 16), y = ix2 r g := ⟨_, _, eq_ix2 (n0 := 128) (n1 := 16) y⟩
  unfold outsAt0
  dsimp only
  rw [out3_at, iblk0_eq, iblk1_eq, V_v0, V_main_arg0]
  refine (congrArg scale (sz_congr _ _ _ (fun j hj => rowW_eq _ j hj) g.val g.isLt)).trans ?_
  exact (Ref.G3_at _ _ (hw c) r g).symm

omit hw in
theorem cut2_eq (t : Fin cfg0.N) (X : Vec Ideal S128x2048 .fp8e4m3) :
    (cfg0.win 2).cut (grid0.coords t) X = ((cfg0.win 2).blk t).view.read (Elt Ideal) X := by
  funext j
  show X j = X (((cfg0.win 2).blk t).view.emb j)
  rw [emb2]
theorem flushed2_eq (c : Dev nD) (t : Fin cfg0.N) :
    (dats m 0 c).flushed 2 t = ((cfg0.win 2).blk t).view.read (Elt Ideal) (R2 m c) := by
  rw [Cert.QuantIdeal.Value.flushed2, outs2_eq m hw]
  exact cut2_eq t _
omit hw in
theorem covered2 (i : S128x2048.Idx) : ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩
theorem final2 (c : Dev nD) : (dats m 0 c).arrAt 2 cfg0.N = R2 m c :=
  (dats m 0 c).arrAt_eq_of_cover 2 (R2 m c) (fun t _ => flushed2_eq m hw c t) covered2

omit hw in
theorem cut3_eq (t : Fin cfg0.N) (X : Vec Ideal S128x16 .f32) :
    (cfg0.win 3).cut (grid0.coords t) X = ((cfg0.win 3).blk t).view.read (Elt Ideal) X := by
  funext j
  show X j = X (((cfg0.win 3).blk t).view.emb j)
  rw [emb3]
theorem flushed3_eq (c : Dev nD) (t : Fin cfg0.N) :
    (dats m 0 c).flushed 3 t = ((cfg0.win 3).blk t).view.read (Elt Ideal) (R3 m c) := by
  rw [Cert.QuantIdeal.Value.flushed3, outs3_eq m hw]
  exact cut3_eq t _
omit hw in
theorem covered3 (i : S128x16.Idx) : ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩
theorem final3 (c : Dev nD) : (dats m 0 c).arrAt 3 cfg0.N = R3 m c :=
  (dats m 0 c).arrAt_eq_of_cover 3 (R3 m c) (fun t _ => flushed3_eq m hw c t) covered3

/-- The run: the two results are the reference's of the arguments, the arguments are as launched. -/
theorem run : θ_run (defs (F := Ideal)) (onTc (τ := τ) (main (F := Ideal))) ⟨m, fun _ => 0, ρ⟩ fun r => ∀ c : Dev nD,
      r.2.mem ((c : Thread nD τ).loc main_v1_0) = R2 m c
      ∧ r.2.mem ((c : Thread nD τ).loc main_v1_1) = R3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m hw c), (h c).2.1.trans (final3 m hw c), (h c).2.2⟩)
    (Cert.QuantIdeal.Value.run_blocks m ρ)

end

end Cert.Value.Quant

end
-- ==== Proof.Entry.Body.lean ====
/-
  Hand-written, untrusted. What the entry's body stores: the hidden states' groups and the embeddings' groups, each normalised
  and quantised as the quantiser does, the embeddings' after the hidden states'.
-/
module

public import proofs.«01_k».proof.Proof.Quant.Body
public import proofs.«01_k».proof.Proof.Gen.EntryIdeal.Frame

@[expose] public section

set_option maxRecDepth 65536

noncomputable section

namespace Cert.Value.Entry

open Cert.Value.Quant Cert.EntryIdeal Cert.EntryIdeal.Gen
open Idealize.ShloMosaic Idealize.ShloMosaic.TcCoe

theorem scl_inb (g : Fin 16) : ∀ a, (![0, g.val] : Fin 2 → ℕ) a + S128x1.size a ≤ S128x16.size a := by
  have := g.isLt; intro a; fin_cases a
  · show 0 + 128 ≤ 128; omega
  · show g.val + 1 ≤ 16; omega

theorem hid_inb (g : Fin 16) : ∀ a, (![0, 128 * g.val] : Fin 2 → ℕ) a + S128x128.size a ≤ S128x4096.size a := by
  have := g.isLt; intro a; fin_cases a
  · show 0 + 128 ≤ 128; omega
  · show 128 * g.val + 128 ≤ 4096; omega

theorem emb_inb (g : Fin 16) : ∀ a, (![0, 2048 + 128 * g.val] : Fin 2 → ℕ) a + S128x128.size a ≤ S128x4096.size a := by
  have := g.isLt; intro a; fin_cases a
  · show 0 + 128 ≤ 128; omega
  · show 2048 + 128 * g.val + 128 ≤ 4096; omega

/-- A group's normalised values, its codes, and the scales of all groups, of any sixteen groups and weights. -/
def valF (P : Fin 16 → FVec Ideal S128x128 .f32) (W : Fin 16 → FVec Ideal S1x128 .f32) (g : Fin 16) : FVec Ideal S128x128 .f32 :=
  valV (rowV P) (P g) (W g)
def codesF (P : Fin 16 → FVec Ideal S128x128 .f32) (W : Fin 16 → FVec Ideal S1x128 .f32) (g : Fin 16) : FVec Ideal S128x128 .fp8e4m3 :=
  codesV (valF P W g) (invV (sizeV (valF P W g)))
def scalesF (P : Fin 16 → FVec Ideal S128x128 .f32) (W : Fin 16 → FVec Ideal S1x128 .f32) : FVec Ideal S128x128 .f32 :=
  ([0, 1, 2, 3, 4, 5, 6, 7, 8, 9, 10, 11, 12, 13, 14, 15] : List (Fin 16)).foldl
    (fun a g => putV g (scaleV (sizeV (valF P W g))) a) (broadcast S128x128 (Scalar.ofBits .f32 0x00000000#32 : Ideal .f32))

section
variable (c : Dev nD)
  (arg0 : Memref sig .tc .vmem S128x2048 .fp8e4m3) (harg0 : arg0.IsWhole) (arg1 : Memref sig .tc .vmem S128x16 .f32) (harg1 : arg1.IsWhole)
  (arg2 : Memref sig .tc .vmem S128x2048 .f32) (harg2 : arg2.IsWhole) (arg3 : Memref sig .tc .vmem S128x16 .f32) (harg3 : arg3.IsWhole)
  (arg4 : Memref sig .tc .vmem S1x2048 .f32) (harg4 : arg4.IsWhole) (arg5 : Memref sig .tc .vmem S1x2048 .f32) (harg5 : arg5.IsWhole)
  (arg6 : Memref sig .tc .vmem S128x4096 .fp8e4m3) (harg6 : arg6.IsWhole) (arg7 : Memref sig .tc .vmem S128x32 .f32) (harg7 : arg7.IsWhole)
  (arg8 : Memref sig .tc .vmem S128x4096 .bf16) (harg8 : arg8.IsWhole)
  (x0 : Vec Ideal S128x2048 .fp8e4m3) (x1 : Vec Ideal S128x16 .f32) (x2 : Vec Ideal S128x2048 .f32) (x3 : Vec Ideal S128x16 .f32)
  (x4 : Vec Ideal S1x2048 .f32) (x5 : Vec Ideal S1x2048 .f32)

/-- Group `g` of the hidden states. -/
def hidG (g : Fin 16) : FVec Ideal S128x128 .f32 :=
  mulf (extf .f32 (shapeCast S128x128 (View.readAt (Elt Ideal) arg0.view (Rect.unit (s := S128x2048) ![0, 128 * g.val] S128x128.size (grp_inb g)).toLoadRect (harg0.unread x0) : FVec Ideal S128x128 .fp8e4m3)
      shapeCasts_S128x128_S128x128 : FVec Ideal S128x128 .fp8e4m3) bitsLt_fp8e4m3_f32)
    (broadcastTo S128x128 (shapeCast S128x1 (View.readAt (Elt Ideal) arg1.view (Rect.unit (s := S128x16) ![0, g.val] S128x1.size (scl_inb g)).toLoadRect (harg1.unread x1) : FVec Ideal S128x1 .f32)
      shapeCasts_S128x1_S128x1 : FVec Ideal S128x1 .f32) broadcasts_S128x1_S128x128)
/-- Group `g` of the embeddings. -/
def embG (g : Fin 16) : FVec Ideal S128x128 .f32 :=
  mulf (View.readAt (Elt Ideal) arg2.view (Rect.unit (s := S128x2048) ![0, 128 * g.val] S128x128.size (grp_inb g)).toLoadRect (harg2.unread x2) : FVec Ideal S128x128 .f32)
    (broadcastTo S128x128 (View.readAt (Elt Ideal) arg3.view (Rect.unit (s := S128x16) ![0, g.val] S128x1.size (scl_inb g)).toLoadRect (harg3.unread x3) : FVec Ideal S128x1 .f32)
      broadcasts_S128x1_S128x128)
/-- Group `g` of either half's weights. -/
def wtsG (arg : Memref sig .tc .vmem S1x2048 .f32) (harg : arg.IsWhole) (x : Vec Ideal S1x2048 .f32) (g : Fin 16) : FVec Ideal S1x128 .f32 :=
  View.readAt (Elt Ideal) arg.view (Rect.unit (s := S1x2048) ![0, 128 * g.val] S1x128.size (wgt_inb g)).toLoadRect (harg.unread x)

/-- The stores of group `g` of the codes. -/
def hidPiece (g : Fin 16) : View.Piece (Elt Ideal) S128x4096 .fp8e4m3 :=
  ⟨Rect.unit (s := S128x4096) ![0, 128 * g.val] S128x128.size (hid_inb g),
    codesF (hidG arg0 harg0 arg1 harg1 x0 x1) (wtsG arg4 harg4 x4) g⟩
def embPiece (g : Fin 16) : View.Piece (Elt Ideal) S128x4096 .fp8e4m3 :=
  ⟨Rect.unit (s := S128x4096) ![0, 2048 + 128 * g.val] S128x128.size (emb_inb g),
    codesF (embG arg2 harg2 arg3 harg3 x2 x3) (wtsG arg5 harg5 x5) g⟩

theorem codes_eq : (kernelRun0_A (F := Ideal) c arg0 harg0 arg1 harg1 arg2 harg2 arg3 harg3 arg4 harg4 arg5 harg5 arg6 harg6 arg7 harg7 arg8 harg8 x0 x1 x2 x3 x4 x5).1
    = ([15, 14, 13, 12, 11, 10, 9, 8, 7, 6, 5, 4, 3, 2, 1, 0] : List (Fin 16)).map (embPiece arg2 harg2 arg3 harg3 arg5 harg5 x2 x3 x5)
      ++ ([15, 14, 13, 12, 11, 10, 9, 8, 7, 6, 5, 4, 3, 2, 1, 0] : List (Fin 16)).map (hidPiece arg0 harg0 arg1 harg1 arg4 harg4 x0 x1 x4) := rfl

theorem scales_eq : (kernelRun0_A (F := Ideal) c arg0 harg0 arg1 harg1 arg2 harg2 arg3 harg3 arg4 harg4 arg5 harg5 arg6 harg6 arg7 harg7 arg8 harg8 x0 x1 x2 x3 x4 x5).2.1
    = [⟨Rect.unit (s := S128x32) ![0, 16] S128x16.size inb_S128x32_S128x16_0_16,
        extractStridedSlice S128x16 ![0, 0] (scalesF (embG arg2 harg2 arg3 harg3 x2 x3) (wtsG arg5 harg5 x5)) slices_S128x128_o0_0_S128x16⟩,
      ⟨Rect.unit (s := S128x32) ![0, 0] S128x16.size inb_S128x32_S128x16_0_0,
        extractStridedSlice S128x16 ![0, 0] (scalesF (hidG arg0 harg0 arg1 harg1 x0 x1) (wtsG arg4 harg4 x4)) slices_S128x128_o0_0_S128x16⟩] := rfl

end

end Cert.Value.Entry

end
-- ==== Proof.Entry.Ref.lean ====
/-
  Hand-written, untrusted. The entry's reference over the extended reals, read element by element: each row's codes and scales,
  of the hidden states in the first half and of the embeddings in the second, are the ones the kernel's body leaves, while the
  weights are finite numbers of f32.
-/
module

public import proofs.«01_k».proof.Proof.Quant.Ref
public import proofs.«01_k».proof.Proof.Gen.EntryReferenceIdeal.Value

@[expose] public section

set_option maxRecDepth 16384

noncomputable section

namespace Cert.Value.Entry

open Idealize.ShloMosaic Idealize.ShloMosaic.TcCoe

/-- Codes and their groups' scales multiplied out. -/
def mulX (x : FVec Idealize.ShloMosaic.Ideal Cert.EntryReferenceIdeal.S128x2048 .f32)
    (s : FVec Idealize.ShloMosaic.Ideal Cert.EntryReferenceIdeal.S128x16 .f32) :
    FVec Idealize.ShloMosaic.Ideal Cert.EntryReferenceIdeal.S128x2048 .f32 :=
  fun i => x i * s (ix2 (⟨(i 0).val, (i 0).isLt⟩ : Fin 128) (⟨(i 1).val / 128, by have h : (i 1).val < 2048 := (i 1).isLt; omega⟩ : Fin 16))

end Cert.Value.Entry

namespace Cert.Value.Entry.Ref

open Cert.Value Cert.Value.Entry Cert.Value.Quant Cert.Value.Quant.Ref Cert.EntryReferenceIdeal Cert.EntryReferenceIdeal.Gen Cert.EntryReferenceIdeal.Value
open Idealize.ShloMosaic Idealize.ShloMosaic.TcCoe

/-- The hidden states and the embeddings, multiplied out by groups. -/
def sclM (Y : FVec Ideal S128x16x128 .f32) (S : FVec Ideal S128x16 .f32) : FVec Ideal S128x2048 .f32 :=
  shapeCast S128x2048 (mulf Y (broadcastTo S128x16x128 (shapeCast S128x16x1 S shapeCasts_S128x16_S128x16x1 : FVec Ideal S128x16x1 .f32)
    broadcasts_S128x16x1_S128x16x128)) shapeCasts_S128x16x128_S128x2048
def hgrM (a0 : FVec Ideal S1x128x2048 .fp8e4m3) : FVec Ideal S128x16x128 .f32 :=
  shapeCast S128x16x128 (extf .f32 a0 bitsLt_fp8e4m3_f32 : FVec Ideal S1x128x2048 .f32) shapeCasts_S1x128x2048_S128x16x128
def hscM (a1 : FVec Ideal S1x128x16 .f32) : FVec Ideal S128x16 .f32 := shapeCast S128x16 a1 shapeCasts_S1x128x16_S128x16
def egrM (a2 : FVec Ideal S128x2048 .f32) : FVec Ideal S128x16x128 .f32 := shapeCast S128x16x128 a2 shapeCasts_S128x2048_S128x16x128
/-- The two halves side by side, in groups of 128. -/
def catM (A B : FVec Ideal S128x2048 .f32) : FVec Ideal S128x4096 .f32 :=
  concatenate S128x4096 1 [⟨S128x2048, A⟩, ⟨S128x2048, B⟩] concatenates_S128x2048_S128x2048_S128x4096_d1
def gr2M (Z : FVec Ideal S128x4096 .f32) : FVec Ideal S128x32x128 .f32 := shapeCast S128x32x128 Z shapeCasts_S128x4096_S128x32x128
def mx2M (Y : FVec Ideal S128x32x128 .f32) : FVec Ideal S128x32 .f32 :=
  multiReduction .maximumf [2] S128x32 (absf Y) 0xFF800000#32 reduces_S128x32x128_S128x32 (.inl rfl) rfl
def sz2M (Y : FVec Ideal S128x32x128 .f32) : FVec Ideal S128x32 .f32 :=
  mulf (mx2M Y) (broadcast S128x32 (Scalar.ofBits .f32 0x3B124925#32 : Ideal .f32))
def ex2M (T : FVec Ideal S128x32 .f32) : FVec Ideal S128x32 .f32 :=
  select (cmpf .olt T (broadcast S128x32 (Scalar.ofBits .f32 0x00800000#32 : Ideal .f32)))
    (broadcast S128x32 (Scalar.ofBits .f32 0x00000000#32 : Ideal .f32))
    (addf (floor (divf (log T) (broadcast S128x32 (Scalar.log (Scalar.ofBits .f32 0x40000000#32 : Ideal .f32)))))
      (broadcast S128x32 (Scalar.ofBits .f32 0x3F800000#32 : Ideal .f32)))
def in2M (E : FVec Ideal S128x32 .f32) : FVec Ideal S128x32 .f32 :=
  exp2 (subf (broadcast S128x32 (Scalar.ofBits .f32 0x00000000#32 : Ideal .f32)) E)
def co2M (Y : FVec Ideal S128x32x128 .f32) (N : FVec Ideal S128x32 .f32) : FVec Ideal S128x32x128 .fp8e4m3 :=
  truncf .fp8e4m3 (minimumf (broadcast S128x32x128 (Scalar.ofBits .f32 0x43E00000#32 : Ideal .f32))
    (maximumf (broadcast S128x32x128 (Scalar.ofBits .f32 0xC3E00000#32 : Ideal .f32))
      (mulf Y (broadcastTo S128x32x128 (shapeCast S128x32x1 N shapeCasts_S128x32_S128x32x1 : FVec Ideal S128x32x1 .f32)
        broadcasts_S128x32x1_S128x32x128)))) bitsLt_fp8e4m3_f32
def ou2M (C : FVec Ideal S128x32x128 .fp8e4m3) : FVec Ideal S128x4096 .fp8e4m3 := shapeCast S128x4096 C shapeCasts_S128x32x128_S128x4096

def hidM (a0 : FVec Ideal S1x128x2048 .fp8e4m3) (a1 : FVec Ideal S1x128x16 .f32) : FVec Ideal S128x2048 .f32 := sclM (hgrM a0) (hscM a1)
def embM (a2 : FVec Ideal S128x2048 .f32) (a3 : FVec Ideal S128x16 .f32) : FVec Ideal S128x2048 .f32 := sclM (egrM a2) a3
/-- The groups of both halves, of the two inputs and their weights. -/
def y2M (H E : FVec Ideal S128x2048 .f32) (a4 a5 : FVec Ideal S2048 .f32) : FVec Ideal S128x32x128 .f32 :=
  gr2M (catM (nrmM H (rowM H) a4) (nrmM E (rowM E) a5))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

section
variable (a0 : Vec Ideal S1x128x2048 .fp8e4m3) (a1 : Vec Ideal S1x128x16 .f32) (a2 : Vec Ideal S128x2048 .f32) (a3 : Vec Ideal S128x16 .f32)
  (a4 a5 : Vec Ideal S2048 .f32)

theorem pay8_eq : k0_pay8 (F := Ideal) a0 a1 a2 a3 a4 a5 = nrmM (hidM a0 a1) (rowM (hidM a0 a1)) a4 := by
  unfold k0_pay8
  rw [View.ld_unit_zero (S := S1x128x2048) hz3 _ a0, View.ld_unit_zero (S := S1x128x16) hz3 _ a1, View.ld_unit_zero (S := S2048) hz1 _ a4]
  rfl
theorem pay9_eq : k0_pay9 (F := Ideal) a0 a1 a2 a3 a4 a5
    = mulf (embM a2 a3) (broadcastTo S128x2048 (rowM (embM a2 a3)) broadcasts_S128x1_S128x2048) := by
  unfold k0_pay9
  rw [View.ld_unit_zero (S := S128x2048) hz2 _ a2, View.ld_unit_zero (S := S128x16) hz2 _ a3]
  rfl
theorem pay10_eq : k0_pay10 (F := Ideal) a0 a1 a2 a3 a4 a5 = shapeCast S1x2048 a5 shapeCasts_S2048_S1x2048 := by
  unfold k0_pay10
  rw [View.ld_unit_zero (S := S2048) hz1 _ a5]
  rfl

theorem G6_eq : G6 (F := Ideal) a0 a1 a2 a3 a4 a5
    = ou2M (co2M (y2M (hidM a0 a1) (embM a2 a3) a4 a5) (in2M (ex2M (sz2M (y2M (hidM a0 a1) (embM a2 a3) a4 a5))))) := by
  unfold G6
  rw [pay8_eq, pay9_eq, pay10_eq]
  rfl
theorem G7_eq : G7 (F := Ideal) a0 a1 a2 a3 a4 a5 = exp2 (ex2M (sz2M (y2M (hidM a0 a1) (embM a2 a3) a4 a5))) := by
  unfold G7
  rw [pay8_eq, pay9_eq, pay10_eq]
  rfl
end

theorem sclM_at (Y : FVec Ideal S128x16x128 .f32) (S : FVec Ideal S128x16 .f32) (r : Fin 128) (k : Fin 2048) :
    sclM Y S (ix2 r k) = Y (ix3 r ⟨k.val / 128, by omega⟩ ⟨k.val % 128, by omega⟩) * S (ix2 r ⟨k.val / 128, by omega⟩) := by
  unfold sclM
  pointwise

theorem hgrM_at (a0 : FVec Ideal S1x128x2048 .fp8e4m3) (r : Fin 128) (g : Fin 16) (q : Fin 128) :
    hgrM a0 (ix3 r g q) = a0 (ix3 0 r ⟨128 * g.val + q.val, by omega⟩) := by
  unfold hgrM
  pointwise
  exact congrArg (fun j => a0 (ix3 0 r j)) (Fin.ext (by show g.val * 128 + q.val = 128 * g.val + q.val; omega))

theorem hscM_at (a1 : FVec Ideal S1x128x16 .f32) (r : Fin 128) (g : Fin 16) : hscM a1 (ix2 r g) = a1 (ix3 0 r g) :=
  ValueIdx.shapeCast_1ab_ab_apply a1 shapeCasts_S1x128x16_S128x16 r g

theorem egrM_at (a2 : FVec Ideal S128x2048 .f32) (r : Fin 128) (g : Fin 16) (q : Fin 128) :
    egrM a2 (ix3 r g q) = a2 (ix2 r ⟨128 * g.val + q.val, by omega⟩) := by
  unfold egrM
  pointwise
  exact congrArg (fun j => a2 (ix2 r j)) (Fin.ext (by show g.val * 128 + q.val = 128 * g.val + q.val; omega))

/-- An array without its leading unit axis. -/
def dropX (a0 : FVec Ideal S1x128x2048 .fp8e4m3) : FVec Ideal S128x2048 .f32 :=
  fun i => a0 (ix3 0 (⟨(i 0).val, (i 0).isLt⟩ : Fin 128) (⟨(i 1).val, (i 1).isLt⟩ : Fin 2048))
def dropS (a1 : FVec Ideal S1x128x16 .f32) : FVec Ideal S128x16 .f32 :=
  fun i => a1 (ix3 0 (⟨(i 0).val, (i 0).isLt⟩ : Fin 128) (⟨(i 1).val, (i 1).isLt⟩ : Fin 16))

theorem hidM_eq (a0 : FVec Ideal S1x128x2048 .fp8e4m3) (a1 : FVec Ideal S1x128x16 .f32) : hidM a0 a1 = mulX (dropX a0) (dropS a1) := by
  funext i
  obtain ⟨r, k, rfl⟩ : ∃ (r : Fin 128) (k : Fin 2048), i = ix2 r k := ⟨_, _, eq_ix2 (n0 := 128) (n1 := 2048) i⟩
  unfold hidM
  rw [sclM_at, hgrM_at, hscM_at]
  have e : (⟨128 * (k.val / 128) + k.val % 128, by omega⟩ : Fin 2048) = k := Fin.ext (Nat.div_add_mod ..)
  show a0 (ix3 0 r ⟨128 * (k.val / 128) + k.val % 128, _⟩) * _ = _
  rw [e]
  rfl

theorem embM_eq (a2 : FVec Ideal S128x2048 .f32) (a3 : FVec Ideal S128x16 .f32) : embM a2 a3 = mulX a2 a3 := by
  funext i
  obtain ⟨r, k, rfl⟩ : ∃ (r : Fin 128) (k : Fin 2048), i = ix2 r k := ⟨_, _, eq_ix2 (n0 := 128) (n1 := 2048) i⟩
  unfold embM
  rw [sclM_at, egrM_at]
  have e : (⟨128 * (k.val / 128) + k.val % 128, by omega⟩ : Fin 2048) = k := Fin.ext (Nat.div_add_mod ..)
  show a2 (ix2 r ⟨128 * (k.val / 128) + k.val % 128, _⟩) * _ = _
  rw [e]
  rfl

theorem catM_lo (A B : FVec Ideal S128x2048 .f32) (r : Fin 128) (k : Fin 2048) :
    catM A B (ix2 r ⟨k.val, by omega⟩) = A (ix2 r k) := by
  unfold catM
  pointwise

theorem catM_hi (A B : FVec Ideal S128x2048 .f32) (r : Fin 128) (k : Fin 2048) :
    catM A B (ix2 r ⟨2048 + k.val, by omega⟩) = B (ix2 r k) := by
  unfold catM
  pointwise
  rw [dif_neg (by omega)]
  exact congrArg (fun j => B (ix2 r j)) (Fin.ext (by show 2048 + k.val - 2048 = k.val; omega))

theorem gr2M_at (Z : FVec Ideal S128x4096 .f32) (r : Fin 128) (g : Fin 32) (q : Fin 128) :
    gr2M Z (ix3 r g q) = Z (ix2 r ⟨128 * g.val + q.val, by omega⟩) := by
  unfold gr2M
  pointwise
  exact congrArg (fun j => Z (ix2 r j)) (Fin.ext (by show g.val * 128 + q.val = 128 * g.val + q.val; omega))

theorem mx2M_at (Y : FVec Ideal S128x32x128 .f32) (r : Fin 128) (g : Fin 32) :
    mx2M Y (ix2 r g) = (Finset.univ : Finset (Fin 128)).fold max ⊥ (fun q => max (Y (ix3 r g q)) (-(Y (ix3 r g q)))) := by
  unfold mx2M
  pointwise
  rw [Quant.Ref.bits_bot]
  rfl

theorem ex2M_at (T : FVec Ideal S128x32 .f32) (r : Fin 128) (g : Fin 32) : ex2M T (ix2 r g) = expoR (T (ix2 r g)) := by
  show Scalar.select (Ideal.cmp .olt (T (ix2 r g)) (Ideal.ofBits .f32 0x00800000#32)) (Ideal.ofBits .f32 0x00000000#32)
    (Ideal.liftRound Int.floor (Ideal.div (Ideal.log (T (ix2 r g))) (Ideal.log (Ideal.ofBits .f32 0x40000000#32))) + Ideal.ofBits .f32 0x3F800000#32) = _
  unfold expoR
  by_cases h : T (ix2 r g) < Ideal.ofBits .f32 0x00800000#32
  · rw [if_pos h]; simp [Scalar.select, Ideal.cmp, h]
  · rw [if_neg h]; simp [Scalar.select, Ideal.cmp, h]

theorem po2_at (E : FVec Ideal S128x32 .f32) (r : Fin 128) (g : Fin 32) :
    (exp2 E : FVec Ideal S128x32 .f32) (ix2 r g) = Ideal.exp2 (E (ix2 r g)) := rfl

theorem in2M_at (E : FVec Ideal S128x32 .f32) (r : Fin 128) (g : Fin 32) :
    in2M E (ix2 r g) = Ideal.exp2 (Ideal.ofBits .f32 0x00000000#32 - E (ix2 r g)) := rfl

theorem co2M_at (Y : FVec Ideal S128x32x128 .f32) (N : FVec Ideal S128x32 .f32) (r : Fin 128) (g : Fin 32) (q : Fin 128) :
    co2M Y N (ix3 r g q) = min (Ideal.ofBits .f32 0x43E00000#32) (max (Ideal.ofBits .f32 0xC3E00000#32) (Y (ix3 r g q) * N (ix2 r g))) := by
  unfold co2M
  pointwise

theorem ou2M_at (C : FVec Ideal S128x32x128 .fp8e4m3) (r : Fin 128) (k : Fin 4096) :
    ou2M C (ix2 r k) = C (ix3 r ⟨k.val / 128, by omega⟩ ⟨k.val % 128, by omega⟩) := by
  unfold ou2M
  pointwise

/-- A half's normalised values at one place. -/
theorem nrm_at (X : FVec Ideal S128x2048 .f32) (W : FVec Ideal S2048 .f32) (r : Fin 128) (k : Fin 2048) :
    nrmM X (rowM X) W (ix2 r k) = nv (at2 (n0 := 128) (n1 := 2048) X r.val) (wts W) k.val := by
  rw [nrmM_at, rowM_at, wts_at W, at2_of (n0 := 128) (n1 := 2048) X (ix2 r k) r.val k.val rfl rfl]
  rfl

theorem y2M_lo (H E : FVec Ideal S128x2048 .f32) (a4 a5 : FVec Ideal S2048 .f32) (r : Fin 128) (g : Fin 32) (g' : ℕ) (hg : g' < 16)
    (e : g.val = g') (q : Fin 128) : y2M H E a4 a5 (ix3 r g q) = nv (at2 (n0 := 128) (n1 := 2048) H r.val) (wts a4) (128 * g' + q.val) := by
  unfold y2M
  rw [gr2M_at]
  have hk : 128 * g' + q.val < 2048 := by omega
  refine Eq.trans ?_ (nrm_at H a4 r ⟨128 * g' + q.val, hk⟩)
  rw [← catM_lo (nrmM H (rowM H) a4) (nrmM E (rowM E) a5)]
  exact congrArg (fun j => catM _ _ (ix2 r j)) (Fin.ext (by show 128 * g.val + q.val = 128 * g' + q.val; rw [e]))

theorem y2M_hi (H E : FVec Ideal S128x2048 .f32) (a4 a5 : FVec Ideal S2048 .f32) (r : Fin 128) (g : Fin 32) (g' : ℕ) (hg : g' < 16)
    (e : g.val = 16 + g') (q : Fin 128) : y2M H E a4 a5 (ix3 r g q) = nv (at2 (n0 := 128) (n1 := 2048) E r.val) (wts a5) (128 * g' + q.val) := by
  unfold y2M
  rw [gr2M_at]
  have hk : 128 * g' + q.val < 2048 := by omega
  refine Eq.trans ?_ (nrm_at E a5 r ⟨128 * g' + q.val, hk⟩)
  rw [← catM_hi (nrmM H (rowM H) a4) (nrmM E (rowM E) a5)]
  exact congrArg (fun j => catM _ _ (ix2 r j)) (Fin.ext (by show 128 * g.val + q.val = 2048 + (128 * g' + q.val); omega))

section
variable (Y : FVec Ideal S128x32x128 .f32) (r : Fin 128) (g : Fin 32) (u w : ℕ → EReal) (g' : ℕ) (hg : g' < 16)
  (hY : ∀ q : Fin 128, Y (ix3 r g q) = nv u w (128 * g' + q.val)) (hw : ∀ k < 2048, max (w k) (-(w k)) ≤ big)
include hY

theorem sz2M_at : sz2M Y (ix2 r g) = sz u w g' := by
  show mx2M Y (ix2 r g) * Ideal.ofBits .f32 0x3B124925#32 = _
  rw [mx2M_at]
  simp only [hY]
  rfl

include hg hw

/-- A group's scale, and its codes. -/
theorem scale_at : (exp2 (ex2M (sz2M Y)) : FVec Ideal S128x32 .f32) (ix2 r g) = scale (sz u w g') := by
  obtain ⟨h0, h1⟩ := sz_lt u w g' hg hw
  rw [po2_at, ex2M_at, sz2M_at Y r g u w g' hY, scaleR_eq _ h0 h1]

theorem code_at (q : Fin 128) : co2M Y (in2M (ex2M (sz2M Y))) (ix3 r g q) = code u w (128 * g' + q.val) := by
  obtain ⟨h0, h1⟩ := sz_lt u w g' hg hw
  have e : in2M (ex2M (sz2M Y)) (ix2 r g) = inv (sz u w g') := by
    rw [in2M_at, ex2M_at, sz2M_at Y r g u w g' hY, invR_eq _ h0 h1]
  rw [co2M_at, hY, e]
  unfold code
  have : (128 * g' + q.val) / 128 = g' := by have := q.isLt; omega
  rw [this]
end

/-- A code and a scale of the two halves side by side. -/
def codeB (H E : FVec Ideal S128x2048 .f32) (w v : ℕ → EReal) (r k : ℕ) : EReal :=
  if k < 2048 then code (at2 (n0 := 128) (n1 := 2048) H r) w k else code (at2 (n0 := 128) (n1 := 2048) E r) v (k - 2048)
def scaleB (H E : FVec Ideal S128x2048 .f32) (w v : ℕ → EReal) (r g : ℕ) : EReal :=
  if g < 16 then scale (sz (at2 (n0 := 128) (n1 := 2048) H r) w g) else scale (sz (at2 (n0 := 128) (n1 := 2048) E r) v (g - 16))

section
variable (a0 : Vec Ideal S1x128x2048 .fp8e4m3) (a1 : Vec Ideal S1x128x16 .f32) (a2 : Vec Ideal S128x2048 .f32) (a3 : Vec Ideal S128x16 .f32)
  (a4 a5 : Vec Ideal S2048 .f32) (h4 : ∀ k < 2048, max (wts a4 k) (-(wts a4 k)) ≤ big) (h5 : ∀ k < 2048, max (wts a5 k) (-(wts a5 k)) ≤ big)
include h4 h5

/-- What the reference leaves in the codes. -/
theorem G6_at (r : Fin 128) (k : Fin 4096) :
    G6 (F := Ideal) a0 a1 a2 a3 a4 a5 (ix2 r k)
      = codeB (mulX (dropX a0) (dropS a1)) (mulX a2 a3) (wts a4) (wts a5) r.val k.val := by
  rw [G6_eq, hidM_eq, embM_eq, ou2M_at]
  have hd : 128 * (k.val / 128) + k.val % 128 = k.val := Nat.div_add_mod ..
  have hk := k.isLt
  unfold codeB
  by_cases h : k.val < 2048
  · rw [if_pos h]
    refine (code_at _ r ⟨k.val / 128, by omega⟩ _ _ (k.val / 128) (by omega)
      (y2M_lo _ _ a4 a5 r ⟨k.val / 128, by omega⟩ (k.val / 128) (by omega) rfl) h4 ⟨k.val % 128, by omega⟩).trans ?_
    exact congrArg _ hd
  · rw [if_neg h]
    refine (code_at _ r ⟨k.val / 128, by omega⟩ _ _ (k.val / 128 - 16) (by omega)
      (y2M_hi _ _ a4 a5 r ⟨k.val / 128, by omega⟩ (k.val / 128 - 16) (by omega) (by show k.val / 128 = _; omega)) h5 ⟨k.val % 128, by omega⟩).trans ?_
    exact congrArg _ (by show 128 * (k.val / 128 - 16) + k.val % 128 = k.val - 2048; omega)

/-- What the reference leaves in the scales. -/
theorem G7_at (r : Fin 128) (g : Fin 32) :
    G7 (F := Ideal) a0 a1 a2 a3 a4 a5 (ix2 r g)
      = scaleB (mulX (dropX a0) (dropS a1)) (mulX a2 a3) (wts a4) (wts a5) r.val g.val := by
  rw [G7_eq, hidM_eq, embM_eq]
  have hg := g.isLt
  unfold scaleB
  by_cases h : g.val < 16
  · rw [if_pos h]
    exact scale_at _ r g _ _ g.val h (y2M_lo _ _ a4 a5 r g g.val h rfl) h4
  · rw [if_neg h]
    exact scale_at _ r g _ _ (g.val - 16) (by omega) (y2M_hi _ _ a4 a5 r g (g.val - 16) (by omega) (by omega)) h5
end

end Cert.Value.Entry.Ref

end
-- ==== Proof.Entry.Out.lean ====
/-
  Hand-written, untrusted. What the entry's body leaves in its two results over the extended reals, element by element.
-/
module

public import proofs.«01_k».proof.Proof.Entry.Body
public import proofs.«01_k».proof.Proof.Entry.Ref
public import proofs.«01_k».proof.Proof.Quant.Out
public import Idealize.ShloMosaic.Lib.Pointwise.Reduce
public import Idealize.ShloMosaic.Lib.Pointwise.ReduceUnfold
public import Idealize.ShloMosaic.Lib.ValueLayoutCasts

@[expose] public section

set_option maxRecDepth 16384

noncomputable section

namespace Cert.Value.Entry

open Cert.Value Cert.Value.Quant Cert.EntryIdeal Cert.EntryIdeal.Gen
open Cert.Value.Entry.Ref (codeB scaleB)
open Idealize.ShloMosaic Idealize.ShloMosaic.TcCoe

section
variable (P : Fin 16 → FVec Ideal S128x128 .f32) (W : Fin 16 → FVec Ideal S1x128 .f32) (u w : ℕ → EReal) (p : Fin 128)
  (hP : ∀ (g : Fin 16) (q : Fin 128), P g (ix2 p q) = u (128 * g.val + q.val))
  (hW : ∀ (g : Fin 16) (q : Fin 128), W g (ix2 0 q) = w (128 * g.val + q.val))
include hP hW

theorem valF_at (g : Fin 16) (q : Fin 128) : valF P W g (ix2 p q) = nv u w (128 * g.val + q.val) := by
  unfold valF
  rw [valV_at, hP, hW, rowV_at P u p hP]
  rfl

theorem sizeF_at (g : Fin 16) : sizeV (valF P W g) (ix2 p 0) = sz u w g.val := by
  rw [sizeV_at]
  simp only [valF_at P W u w p hP hW]
  rfl

theorem codesF_at (g : Fin 16) (q : Fin 128) : codesF P W g (ix2 p q) = code u w (128 * g.val + q.val) := by
  refine (codesV_at _ _ p q).trans ?_
  rw [valF_at P W u w p hP hW, invV_at, sizeF_at P W u w p hP hW]
  unfold code
  have : (128 * g.val + q.val) / 128 = g.val := by have := q.isLt; omega
  rw [this]

theorem scalesF_at (l : Fin 16) : scalesF P W (ix2 p ⟨l.val, by omega⟩) = scale (sz u w l.val) := by
  have e : ∀ g : Fin 16, scaleV (sizeV (valF P W g)) (ix2 p 0) = scale (sz u w g.val) :=
    fun g => by rw [scaleV_at, sizeF_at P W u w p hP hW]
  unfold scalesF
  simp only [List.foldl, putV_at, e]
  generalize (fun g : ℕ => scale (sz u w g)) = f
  fin_cases l <;> simp
end

/-- The first sixteen lanes. -/
theorem lanes_at (S : FVec Ideal S128x128 .f32) (r : Fin 128) (l : Fin 16) :
    extractStridedSlice S128x16 ![0, 0] S slices_S128x128_o0_0_S128x16 (ix2 r l) = S (ix2 r ⟨l.val, by omega⟩) := by
  pointwise

section
variable (c : Dev nD)
  (arg0 : Memref sig .tc .vmem S128x2048 .fp8e4m3) (harg0 : arg0.IsWhole) (arg1 : Memref sig .tc .vmem S128x16 .f32) (harg1 : arg1.IsWhole)
  (arg2 : Memref sig .tc .vmem S128x2048 .f32) (harg2 : arg2.IsWhole) (arg3 : Memref sig .tc .vmem S128x16 .f32) (harg3 : arg3.IsWhole)
  (arg4 : Memref sig .tc .vmem S1x2048 .f32) (harg4 : arg4.IsWhole) (arg5 : Memref sig .tc .vmem S1x2048 .f32) (harg5 : arg5.IsWhole)
  (arg6 : Memref sig .tc .vmem S128x4096 .fp8e4m3) (harg6 : arg6.IsWhole) (arg7 : Memref sig .tc .vmem S128x32 .f32) (harg7 : arg7.IsWhole)
  (arg8 : Memref sig .tc .vmem S128x4096 .bf16) (harg8 : arg8.IsWhole)
  (x0 : Vec Ideal S128x2048 .fp8e4m3) (x1 : Vec Ideal S128x16 .f32) (x2 : Vec Ideal S128x2048 .f32) (x3 : Vec Ideal S128x16 .f32)
  (x4 : Vec Ideal S1x2048 .f32) (x5 : Vec Ideal S1x2048 .f32)

theorem mulX_at (x : FVec Ideal S128x2048 .f32) (s : FVec Ideal S128x16 .f32) (g : Fin 16) (p q : Fin 128) :
    at2 (n0 := 128) (n1 := 2048) (mulX x s) p.val (128 * g.val + q.val)
      = at2 (n0 := 128) (n1 := 2048) x p.val (128 * g.val + q.val) * at2 (n0 := 128) (n1 := 16) s p.val g.val := by
  have hk : 128 * g.val + q.val < 2048 := by omega
  have hg : (128 * g.val + q.val) / 128 = g.val := by have := q.isLt; omega
  rw [← at2_of (n0 := 128) (n1 := 2048) (mulX x s) (ix2 p ⟨128 * g.val + q.val, hk⟩) p.val (128 * g.val + q.val) rfl rfl,
    ← at2_of (n0 := 128) (n1 := 2048) x (ix2 p ⟨128 * g.val + q.val, hk⟩) p.val (128 * g.val + q.val) rfl rfl]
  exact congrArg (x (ix2 p ⟨128 * g.val + q.val, hk⟩) * ·) (at2_of (n0 := 128) (n1 := 16) s _ p.val g.val rfl hg)

theorem rdX_at (X : FVec Ideal S128x128 .f32) (S : FVec Ideal S128x1 .f32) (p q : Fin 128) :
    (mulf X (broadcastTo S128x128 S broadcasts_S128x1_S128x128) : FVec Ideal S128x128 .f32) (ix2 p q) = X (ix2 p q) * S (ix2 p 0) := by
  pointwise

theorem rdH_at (X : FVec Ideal S128x128 .fp8e4m3) (S : FVec Ideal S128x1 .f32) (p q : Fin 128) :
    (mulf (extf .f32 (shapeCast S128x128 X shapeCasts_S128x128_S128x128 : FVec Ideal S128x128 .fp8e4m3) bitsLt_fp8e4m3_f32)
      (broadcastTo S128x128 (shapeCast S128x1 S shapeCasts_S128x1_S128x1 : FVec Ideal S128x1 .f32) broadcasts_S128x1_S128x128) : FVec Ideal S128x128 .f32) (ix2 p q)
      = X (ix2 p q) * S (ix2 p 0) := by
  rw [shapeCast_self, shapeCast_self]
  pointwise

theorem hidG_at (g : Fin 16) (p q : Fin 128) :
    hidG arg0 harg0 arg1 harg1 x0 x1 g (ix2 p q) = at2 (n0 := 128) (n1 := 2048) (mulX x0 x1) p.val (128 * g.val + q.val) := by
  unfold hidG
  rw [mulX_at]
  refine (rdH_at _ _ p q).trans ?_
  have e0 : View.readAt (Elt Ideal) arg0.view (Rect.unit (s := S128x2048) ![0, 128 * g.val] S128x128.size (grp_inb g)).toLoadRect (harg0.unread x0) (ix2 p q)
      = at2 (n0 := 128) (n1 := 2048) x0 p.val (128 * g.val + q.val) := by
    rw [View.readAt_apply, harg0.read_unread]
    refine at2_of (n0 := 128) (n1 := 2048) x0 _ _ _ ((idx_val (grp_inb g) _ 0).trans ?_) (idx_val (grp_inb g) _ 1)
    show 0 + p.val = p.val; omega
  have e1 : View.readAt (Elt Ideal) arg1.view (Rect.unit (s := S128x16) ![0, g.val] S128x1.size (scl_inb g)).toLoadRect (harg1.unread x1) (ix2 p 0)
      = at2 (n0 := 128) (n1 := 16) x1 p.val g.val := by
    rw [View.readAt_apply, harg1.read_unread]
    refine at2_of (n0 := 128) (n1 := 16) x1 _ _ _ ((idx_val (scl_inb g) _ 0).trans ?_) ((idx_val (scl_inb g) _ 1).trans ?_)
    · show 0 + p.val = p.val; omega
    · show g.val + 0 = g.val; omega
  exact congrArg₂ (fun a b : EReal => a * b) e0 e1

theorem embG_at (g : Fin 16) (p q : Fin 128) :
    embG arg2 harg2 arg3 harg3 x2 x3 g (ix2 p q) = at2 (n0 := 128) (n1 := 2048) (mulX x2 x3) p.val (128 * g.val + q.val) := by
  unfold embG
  rw [mulX_at]
  refine (rdX_at _ _ p q).trans ?_
  have e0 : View.readAt (Elt Ideal) arg2.view (Rect.unit (s := S128x2048) ![0, 128 * g.val] S128x128.size (grp_inb g)).toLoadRect (harg2.unread x2) (ix2 p q)
      = at2 (n0 := 128) (n1 := 2048) x2 p.val (128 * g.val + q.val) := by
    rw [View.readAt_apply, harg2.read_unread]
    refine at2_of (n0 := 128) (n1 := 2048) x2 _ _ _ ((idx_val (grp_inb g) _ 0).trans ?_) (idx_val (grp_inb g) _ 1)
    show 0 + p.val = p.val; omega
  have e1 : View.readAt (Elt Ideal) arg3.view (Rect.unit (s := S128x16) ![0, g.val] S128x1.size (scl_inb g)).toLoadRect (harg3.unread x3) (ix2 p 0)
      = at2 (n0 := 128) (n1 := 16) x3 p.val g.val := by
    rw [View.readAt_apply, harg3.read_unread]
    refine at2_of (n0 := 128) (n1 := 16) x3 _ _ _ ((idx_val (scl_inb g) _ 0).trans ?_) ((idx_val (scl_inb g) _ 1).trans ?_)
    · show 0 + p.val = p.val; omega
    · show g.val + 0 = g.val; omega
  exact congrArg₂ (fun a b : EReal => a * b) e0 e1

theorem wtsG_at (arg : Memref sig .tc .vmem S1x2048 .f32) (harg : arg.IsWhole) (x : Vec Ideal S1x2048 .f32) (g : Fin 16) (q : Fin 128) :
    wtsG arg harg x g (ix2 0 q) = rowW x (128 * g.val + q.val) := by
  unfold wtsG rowW
  rw [View.readAt_apply, harg.read_unread]
  exact at2_of (n0 := 1) (n1 := 2048) x _ _ _ (idx_val (wgt_inb g) _ 0) (idx_val (wgt_inb g) _ 1)

theorem hidPiece_at (g : Fin 16) (p q : Fin 128) :
    (hidPiece arg0 harg0 arg1 harg1 arg4 harg4 x0 x1 x4 g).2 (ix2 p q)
      = codeB (mulX x0 x1) (mulX x2 x3) (rowW x4) (rowW x5) p.val (128 * g.val + q.val) := by
  unfold codeB
  rw [if_pos (by omega)]
  exact codesF_at _ _ _ _ p (fun g q => hidG_at arg0 harg0 arg1 harg1 x0 x1 g p q) (fun g q => wtsG_at arg4 harg4 x4 g q) g q

theorem embPiece_at (g : Fin 16) (p q : Fin 128) :
    (embPiece arg2 harg2 arg3 harg3 arg5 harg5 x2 x3 x5 g).2 (ix2 p q)
      = codeB (mulX x0 x1) (mulX x2 x3) (rowW x4) (rowW x5) p.val (2048 + 128 * g.val + q.val) := by
  unfold codeB
  rw [if_neg (by omega), show 2048 + 128 * g.val + q.val - 2048 = 128 * g.val + q.val by omega]
  exact codesF_at _ _ _ _ p (fun g q => embG_at arg2 harg2 arg3 harg3 x2 x3 g p q) (fun g q => wtsG_at arg5 harg5 x5 g q) g q

/-- What the body leaves in the codes. -/
theorem out6_at (y : S128x4096.Idx) :
    out0_A_6 (F := Ideal) c arg0 harg0 arg1 harg1 arg2 harg2 arg3 harg3 arg4 harg4 arg5 harg5 arg6 harg6 arg7 harg7 arg8 harg8 x0 x1 x2 x3 x4 x5 y
      = codeB (mulX x0 x1) (mulX x2 x3) (rowW x4) (rowW x5) (y 0).val (y 1).val := by
  unfold out0_A_6
  refine View.read_writes_apply_of_pieces VO0_6 _ (fun y : S128x4096.Idx => codeB (mulX x0 x1) (mulX x2 x3) (rowW x4) (rowW x5) (y 0).val (y 1).val) _ ?_ y
    (cover0_A_6 c arg0 harg0 arg1 harg1 arg2 harg2 arg3 harg3 arg4 harg4 arg5 harg5 arg6 harg6 arg7 harg7 arg8 harg8 x0 x1 x2 x3 x4 x5 y)
  rw [codes_eq]
  intro pc hp x
  rcases List.mem_append.mp hp with hp | hp
  · obtain ⟨g, -, rfl⟩ := List.mem_map.mp hp
    change S128x128.Idx at x
    obtain ⟨p, q, rfl⟩ : ∃ (p q : Fin 128), x = ix2 p q := ⟨_, _, eq_ix2 (n0 := 128) (n1 := 128) x⟩
    refine (embPiece_at arg2 harg2 arg3 harg3 arg5 harg5 x0 x1 x2 x3 x4 x5 g p q).trans ?_
    have e0 := emb_val (s := S128x4096) (emb_inb g) (ix2 p q) 0
    have e1 := emb_val (s := S128x4096) (emb_inb g) (ix2 p q) 1
    exact congrArg₂ (fun r k => codeB (mulX x0 x1) (mulX x2 x3) (rowW x4) (rowW x5) r k) (e0.trans (Nat.zero_add _)).symm e1.symm
  · obtain ⟨g, -, rfl⟩ := List.mem_map.mp hp
    change S128x128.Idx at x
    obtain ⟨p, q, rfl⟩ : ∃ (p q : Fin 128), x = ix2 p q := ⟨_, _, eq_ix2 (n0 := 128) (n1 := 128) x⟩
    refine (hidPiece_at arg0 harg0 arg1 harg1 arg4 harg4 x0 x1 x2 x3 x4 x5 g p q).trans ?_
    have e0 := emb_val (s := S128x4096) (hid_inb g) (ix2 p q) 0
    have e1 := emb_val (s := S128x4096) (hid_inb g) (ix2 p q) 1
    exact congrArg₂ (fun r k => codeB (mulX x0 x1) (mulX x2 x3) (rowW x4) (rowW x5) r k) (e0.trans (Nat.zero_add _)).symm e1.symm

theorem embScale_at (r : Fin 128) (l : Fin 16) :
    scalesF (embG arg2 harg2 arg3 harg3 x2 x3) (wtsG arg5 harg5 x5) (ix2 r ⟨l.val, by omega⟩)
      = scaleB (mulX x0 x1) (mulX x2 x3) (rowW x4) (rowW x5) r.val (16 + l.val) := by
  unfold scaleB
  rw [if_neg (by omega), show 16 + l.val - 16 = l.val by omega]
  exact scalesF_at _ _ _ _ r (fun g q => embG_at arg2 harg2 arg3 harg3 x2 x3 g r q) (fun g q => wtsG_at arg5 harg5 x5 g q) l
theorem hidScale_at (r : Fin 128) (l : Fin 16) :
    scalesF (hidG arg0 harg0 arg1 harg1 x0 x1) (wtsG arg4 harg4 x4) (ix2 r ⟨l.val, by omega⟩)
      = scaleB (mulX x0 x1) (mulX x2 x3) (rowW x4) (rowW x5) r.val l.val := by
  unfold scaleB
  rw [if_pos l.isLt]
  exact scalesF_at _ _ _ _ r (fun g q => hidG_at arg0 harg0 arg1 harg1 x0 x1 g r q) (fun g q => wtsG_at arg4 harg4 x4 g q) l

/-- What the body leaves in the scales. -/
theorem out7_at (y : S128x32.Idx) :
    out0_A_7 (F := Ideal) c arg0 harg0 arg1 harg1 arg2 harg2 arg3 harg3 arg4 harg4 arg5 harg5 arg6 harg6 arg7 harg7 arg8 harg8 x0 x1 x2 x3 x4 x5 y
      = scaleB (mulX x0 x1) (mulX x2 x3) (rowW x4) (rowW x5) (y 0).val (y 1).val := by
  unfold out0_A_7
  refine View.read_writes_apply_of_pieces VO0_7 _ (fun y : S128x32.Idx => scaleB (mulX x0 x1) (mulX x2 x3) (rowW x4) (rowW x5) (y 0).val (y 1).val) _ ?_ y
    (cover0_A_7 c arg0 harg0 arg1 harg1 arg2 harg2 arg3 harg3 arg4 harg4 arg5 harg5 arg6 harg6 arg7 harg7 arg8 harg8 x0 x1 x2 x3 x4 x5 y)
  rw [scales_eq]
  intro pc hp x
  rcases List.mem_cons.mp hp with rfl | hp
  · change S128x16.Idx at x
    obtain ⟨r, l, rfl⟩ : ∃ (r : Fin 128) (l : Fin 16), x = ix2 r l := ⟨_, _, eq_ix2 (n0 := 128) (n1 := 16) x⟩
    have e0 := emb_val (s := S128x32) inb_S128x32_S128x16_0_16 (ix2 r l) 0
    have e1 := emb_val (s := S128x32) inb_S128x32_S128x16_0_16 (ix2 r l) 1
    refine (lanes_at _ r l).trans ((embScale_at arg2 harg2 arg3 harg3 arg5 harg5 x0 x1 x2 x3 x4 x5 r l).trans ?_)
    exact congrArg₂ (fun r k => scaleB (mulX x0 x1) (mulX x2 x3) (rowW x4) (rowW x5) r k) (e0.trans (Nat.zero_add _)).symm e1.symm
  · obtain rfl := List.mem_singleton.mp hp
    change S128x16.Idx at x
    obtain ⟨r, l, rfl⟩ : ∃ (r : Fin 128) (l : Fin 16), x = ix2 r l := ⟨_, _, eq_ix2 (n0 := 128) (n1 := 16) x⟩
    have e0 := emb_val (s := S128x32) inb_S128x32_S128x16_0_0 (ix2 r l) 0
    have e1 := emb_val (s := S128x32) inb_S128x32_S128x16_0_0 (ix2 r l) 1
    refine (lanes_at _ r l).trans ((hidScale_at arg0 harg0 arg1 harg1 arg4 harg4 x0 x1 x2 x3 x4 x5 r l).trans ?_)
    exact congrArg₂ (fun r k => scaleB (mulX x0 x1) (mulX x2 x3) (rowW x4) (rowW x5) r k) (e0.trans (Nat.zero_add _)).symm (e1.trans (Nat.zero_add _)).symm

end

end Cert.Value.Entry

end
-- ==== Proof.Entry.Run.lean ====
/-
  Hand-written, untrusted. The entry's run over the extended reals: while both norms' weights are finite numbers of f32, the two
  arrays it leaves are the reference's, of the same arguments.
-/
module

public import proofs.«01_k».proof.Proof.Entry.Out
public import proofs.«01_k».proof.Proof.Entry.Ref
public import proofs.«01_k».proof.Proof.Quant.Run
public import proofs.«01_k».proof.Proof.Gen.EntryIdeal.Value
public import proofs.«01_k».proof.Pre_entry_weights_finite
public import Idealize.ShloMosaic.Lib.ReduceAll

@[expose] public section

set_option maxRecDepth 16384

noncomputable section

namespace Cert.Value.Entry

open Cert.Value Cert.Value.Quant Cert.EntryIdeal Cert.EntryIdeal.Gen
open Cert.Value.Entry.Ref (codeB scaleB dropX dropS)
open Idealize.ShloMosaic Idealize.ShloMosaic.TcCoe Idealize.ShloMosaic.Tactic Idealize.SL.Sem
open Idealize.ShloMosaic.Pipeline (Dat Cfg Window)

theorem pre_facts : Cert.Pre_entry_weights_finite.Facts := ⟨by decide, by decide, by decide⟩

/-- What the precondition says: both norms' weights are finite numbers of f32. -/
theorem finite_all (x : FVec Ideal Cert.Pre_entry_weights_finite.S2048 .f32)
    (h : Host.reduce IntOp.andi (cmpf .ole (Host.absf x) (broadcastInDim Cert.Pre_entry_weights_finite.S2048 ![] pre_facts.bcast_S_S2048
        (constant Cert.Pre_entry_weights_finite.S_ .f32 0x7F7FFFFF#32 : FVec Ideal Cert.Pre_entry_weights_finite.S_ .f32)) : IVec Cert.Pre_entry_weights_finite.S2048 1)
        (constantI Cert.Pre_entry_weights_finite.S_ 1 1#1) pre_facts.reducesTo_S2048_S_d0 pre_facts.h_S_ (fun a => a.elim0) = 1#1)
    (k : ℕ) (hk : k < 2048) : max (Quant.Ref.wts x k) (-(Quant.Ref.wts x k)) ≤ big := by
  haveI : Subsingleton Cert.Pre_entry_weights_finite.S_.Idx := ⟨fun i j => funext fun a => a.elim0⟩
  have e := Host.reduce_andi_all _ _ pre_facts.reducesTo_S2048_S_d0 pre_facts.h_S_ (fun a => a.elim0) h (ix1 (Fin.ofNat 2048 k))
  change Ideal.cmp .ole (max (Quant.Ref.wts x k) (-(Quant.Ref.wts x k))) (Ideal.ofBits .f32 0x7F7FFFFF#32) = 1#1 at e
  by_contra hn
  have hn' : ¬ max (Quant.Ref.wts x k) (-(Quant.Ref.wts x k)) ≤ Ideal.ofBits .f32 0x7F7FFFFF#32 := hn
  simp [Ideal.cmp, hn'] at e

theorem bounded (a0 : FVec Ideal Cert.Pre_entry_weights_finite.S1x128x2048 .fp8e4m3) (a1 : FVec Ideal Cert.Pre_entry_weights_finite.S1x128x16 .f32)
    (a2 : FVec Ideal Cert.Pre_entry_weights_finite.S128x2048 .f32) (a3 : FVec Ideal Cert.Pre_entry_weights_finite.S128x16 .f32)
    (a4 a5 : FVec Ideal Cert.Pre_entry_weights_finite.S2048 .f32)
    (h : @Cert.Pre_entry_weights_finite.fn pre_facts Ideal _ a0 a1 a2 a3 a4 a5 = fun _ => 1#1) :
    (∀ k < 2048, max (Quant.Ref.wts a4 k) (-(Quant.Ref.wts a4 k)) ≤ big) ∧ (∀ k < 2048, max (Quant.Ref.wts a5 k) (-(Quant.Ref.wts a5 k)) ≤ big) := by
  obtain ⟨p, q⟩ := IntOp.andi_eq_one.mp (congrFun h (fun a => a.elim0))
  exact ⟨finite_all a4 p, finite_all a5 q⟩

variable (m : (ℓ : Loc nD τ sig) → Buf (Elt Ideal) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S128x2048.Idx) : ((cfg0.win 0).blk t).view.emb j = j := by
  obtain ⟨e0, e1⟩ := idx_zero0 t
  funext a; apply Fin.ext
  match a with
  | ⟨0, _⟩ => show win0_0.index t (0 : Fin 2) * 128 + 1 * (j 0).val = (j 0).val; omega
  | ⟨1, _⟩ => show win0_0.index t (1 : Fin 2) * 2048 + 1 * (j 1).val = (j 1).val; omega
theorem iblk0_eq (c : Dev nD) (t : Fin cfg0.N) : iblk m c 0 t = V m c main_v0 := by
  funext j; show V m c main_v0 (((cfg0.win 0).blk t).view.emb j) = V m c main_v0 j; rw [emb0]
theorem idx_zero1 : ∀ t : Fin cfg0.N, win0_1.index t (0 : Fin 2) = 0 ∧ win0_1.index t (1 : Fin 2) = 0 :=
  (by decide +kernel : ∀ t : Fin grid0.N, _)
theorem emb1 (t : Fin cfg0.N) (j : S128x16.Idx) : ((cfg0.win 1).blk t).view.emb j = j := by
  obtain ⟨e0, e1⟩ := idx_zero1 t
  funext a; apply Fin.ext
  match a with
  | ⟨0, _⟩ => show win0_1.index t (0 : Fin 2) * 128 + 1 * (j 0).val = (j 0).val; omega
  | ⟨1, _⟩ => show win0_1.index t (1 : Fin 2) * 16 + 1 * (j 1).val = (j 1).val; omega
theorem iblk1_eq (c : Dev nD) (t : Fin cfg0.N) : iblk m c 1 t = V m c main_v1 := by
  funext j; show V m c main_v1 (((cfg0.win 1).blk t).view.emb j) = V m c main_v1 j; rw [emb1]
theorem idx_zero2 : ∀ t : Fin cfg0.N, win0_2.index t (0 : Fin 2) = 0 ∧ win0_2.index t (1 : Fin 2) = 0 :=
  (by decide +kernel : ∀ t : Fin grid0.N, _)
theorem emb2 (t : Fin cfg0.N) (j : S128x2048.Idx) : ((cfg0.win 2).blk t).view.emb j = j := by
  obtain ⟨e0, e1⟩ := idx_zero2 t
  funext a; apply Fin.ext
  match a with
  | ⟨0, _⟩ => show win0_2.index t (0 : Fin 2) * 128 + 1 * (j 0).val = (j 0).val; omega
  | ⟨1, _⟩ => show win0_2.index t (1 : Fin 2) * 2048 + 1 * (j 1).val = (j 1).val; omega
theorem iblk2_eq (c : Dev nD) (t : Fin cfg0.N) : iblk m c 2 t = V m c main_arg2 := by
  funext j; show V m c main_arg2 (((cfg0.win 2).blk t).view.emb j) = V m c main_arg2 j; rw [emb2]
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S128x16.Idx) : ((cfg0.win 3).blk t).view.emb j = j := by
  obtain ⟨e0, e1⟩ := idx_zero3 t
  funext a; apply Fin.ext
  match a with
  | ⟨0, _⟩ => show win0_3.index t (0 : Fin 2) * 128 + 1 * (j 0).val = (j 0).val; omega
  | ⟨1, _⟩ => show win0_3.index t (1 : Fin 2) * 16 + 1 * (j 1).val = (j 1).val; omega
theorem iblk3_eq (c : Dev nD) (t : Fin cfg0.N) : iblk m c 3 t = V m c main_arg3 := by
  funext j; show V m c main_arg3 (((cfg0.win 3).blk t).view.emb j) = V m c main_arg3 j; rw [emb3]
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S1x2048.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega
theorem iblk4_eq (c : Dev nD) (t : Fin cfg0.N) : iblk m c 4 t = V m c main_v2 := by
  funext j; show V m c main_v2 (((cfg0.win 4).blk t).view.emb j) = V m c main_v2 j; rw [emb4]
theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S1x2048.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 2048 + 1 * (j 1).val = (j 1).val; omega
theorem iblk5_eq (c : Dev nD) (t : Fin cfg0.N) : iblk m c 5 t = V m c main_v3 := by
  funext j; show V m c main_v3 (((cfg0.win 5).blk t).view.emb j) = V m c main_v3 j; rw [emb5]
theorem idx_zero6 : ∀ t : Fin cfg0.N, win0_6.index t (0 : Fin 2) = 0 ∧ win0_6.index t (1 : Fin 2) = 0 :=
  (by decide +kernel : ∀ t : Fin grid0.N, _)
theorem emb6 (t : Fin cfg0.N) (j : S128x4096.Idx) : ((cfg0.win 6).blk t).view.emb j = j := by
  obtain ⟨e0, e1⟩ := idx_zero6 t
  funext a; apply Fin.ext
  match a with
  | ⟨0, _⟩ => show win0_6.index t (0 : Fin 2) * 128 + 1 * (j 0).val = (j 0).val; omega
  | ⟨1, _⟩ => show win0_6.index t (1 : Fin 2) * 4096 + 1 * (j 1).val = (j 1).val; omega
theorem idx_zero7 : ∀ t : Fin cfg0.N, win0_7.index t (0 : Fin 2) = 0 ∧ win0_7.index t (1 : Fin 2) = 0 :=
  (by decide +kernel : ∀ t : Fin grid0.N, _)
theorem emb7 (t : Fin cfg0.N) (j : S128x32.Idx) : ((cfg0.win 7).blk t).view.emb j = j := by
  obtain ⟨e0, e1⟩ := idx_zero7 t
  funext a; apply Fin.ext
  match a with
  | ⟨0, _⟩ => show win0_7.index t (0 : Fin 2) * 128 + 1 * (j 0).val = (j 0).val; omega
  | ⟨1, _⟩ => show win0_7.index t (1 : Fin 2) * 32 + 1 * (j 1).val = (j 1).val; omega

/-- The host's reshapes drop the leading unit axis of the hidden states and add one to the weights. -/
def hid2 (a : FVec Ideal S1x128x2048 .fp8e4m3) : FVec Ideal S128x2048 .fp8e4m3 := shapeCast S128x2048 a shapeCasts_S1x128x2048_S128x2048
def scl2 (a : FVec Ideal S1x128x16 .f32) : FVec Ideal S128x16 .f32 := shapeCast S128x16 a shapeCasts_S1x128x16_S128x16

theorem V_v0 (c : Dev nD) : V m c main_v0 = hid2 (m ((c : Thread nD τ).loc main_arg0)) := by
  entry_read; rfl
theorem V_v1 (c : Dev nD) : V m c main_v1 = scl2 (m ((c : Thread nD τ).loc main_arg1)) := by
  entry_read; rfl
theorem V_v2 (c : Dev nD) : V m c main_v2 = row2 (m ((c : Thread nD τ).loc main_arg4)) := by
  entry_read; rfl
theorem V_v3 (c : Dev nD) : V m c main_v3 = row2 (m ((c : Thread nD τ).loc main_arg5)) := by
  entry_read; rfl

theorem hid2_eq (a : FVec Ideal S1x128x2048 .fp8e4m3) : hid2 a = dropX a := by
  funext i
  obtain ⟨r, k, rfl⟩ : ∃ (r : Fin 128) (k : Fin 2048), i = ix2 r k := ⟨_, _, eq_ix2 (n0 := 128) (n1 := 2048) i⟩
  exact ValueIdx.shapeCast_1ab_ab_apply a shapeCasts_S1x128x2048_S128x2048 r k
theorem scl2_eq (a : FVec Ideal S1x128x16 .f32) : scl2 a = dropS a := by
  funext i
  obtain ⟨r, g, rfl⟩ : ∃ (r : Fin 128) (g : Fin 16), i = ix2 r g := ⟨_, _, eq_ix2 (n0 := 128) (n1 := 16) i⟩
  exact ValueIdx.shapeCast_1ab_ab_apply a shapeCasts_S1x128x16_S128x16 r g

theorem codeB_congr (H E : FVec Ideal S128x2048 .f32) (w w' v v' : ℕ → EReal) (hw : ∀ k < 2048, w k = w' k) (hv : ∀ k < 2048, v k = v' k)
    (r k : ℕ) (hk : k < 4096) : codeB H E w v r k = codeB H E w' v' r k := by
  unfold codeB
  by_cases h : k < 2048
  · rw [if_pos h, if_pos h, code_congr _ w w' hw k h]
  · rw [if_neg h, if_neg h, code_congr _ v v' hv (k - 2048) (by omega)]
theorem scaleB_congr (H E : FVec Ideal S128x2048 .f32) (w w' v v' : ℕ → EReal) (hw : ∀ k < 2048, w k = w' k) (hv : ∀ k < 2048, v k = v' k)
    (r g : ℕ) (hg : g < 32) : scaleB H E w v r g = scaleB H E w' v' r g := by
  unfold scaleB
  by_cases h : g < 16
  · rw [if_pos h, if_pos h, sz_congr _ w w' hw g h]
  · rw [if_neg h, if_neg h, sz_congr _ v v' hv (g - 16) (by omega)]

/-- The reference's two results, of the kernel's arguments. -/
def R6 (c : Dev nD) : Vec Ideal S128x4096 .fp8e4m3 :=
  Cert.EntryReferenceIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def R7 (c : Dev nD) : Vec Ideal S128x32 .f32 :=
  Cert.EntryReferenceIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

section
variable (h4 : ∀ c : Dev nD, ∀ k < 2048, max (Quant.Ref.wts (m ((c : Thread nD τ).loc main_arg4)) k) (-(Quant.Ref.wts (m ((c : Thread nD τ).loc main_arg4)) k)) ≤ big)
  (h5 : ∀ c : Dev nD, ∀ k < 2048, max (Quant.Ref.wts (m ((c : Thread nD τ).loc main_arg5)) k) (-(Quant.Ref.wts (m ((c : Thread nD τ).loc main_arg5)) k)) ≤ big)
include h4 h5

/-- What the body leaves at the grid's one point. -/
theorem outs6_eq (c : Dev nD) (t : Fin cfg0.N) : (outsAt0 m c t).1 = R6 m c := by
  funext y
  obtain ⟨r, k, rfl⟩ : ∃ (r : Fin 128) (k : Fin 4096), y = ix2 r k := ⟨_, _, eq_ix2 (n0 := 128) (n1 := 4096) y⟩
  unfold outsAt0
  dsimp only
  rw [out6_at, iblk0_eq, iblk1_eq, iblk2_eq, iblk3_eq, iblk4_eq, iblk5_eq, V_v0, V_v1, V_v2, V_v3, V_main_arg2, V_main_arg3, hid2_eq, scl2_eq]
  refine (codeB_congr _ _ _ _ _ _ (fun j hj => rowW_eq _ j hj) (fun j hj => rowW_eq _ j hj) r.val k.val k.isLt).trans ?_
  exact (Ref.G6_at _ _ _ _ _ _ (h4 c) (h5 c) r k).symm
theorem outs7_eq (c : Dev nD) (t : Fin cfg0.N) : (outsAt0 m c t).2 = R7 m c := by
  funext y
  obtain ⟨r, g, rfl⟩ : ∃ (r : Fin 128) (g : Fin 32), y = ix2 r g := ⟨_, _, eq_ix2 (n0 := 128) (n1 := 32) y⟩
  unfold outsAt0
  dsimp only
  rw [out7_at, iblk0_eq, iblk1_eq, iblk2_eq, iblk3_eq, iblk4_eq, iblk5_eq, V_v0, V_v1, V_v2, V_v3, V_main_arg2, V_main_arg3, hid2_eq, scl2_eq]
  refine (scaleB_congr _ _ _ _ _ _ (fun j hj => rowW_eq _ j hj) (fun j hj => rowW_eq _ j hj) r.val g.val g.isLt).trans ?_
  exact (Ref.G7_at _ _ _ _ _ _ (h4 c) (h5 c) r g).symm

omit h4 h5 in
theorem cut6_eq (t : Fin cfg0.N) (X : Vec Ideal S128x4096 .fp8e4m3) :
    (cfg0.win 6).cut (grid0.coords t) X = ((cfg0.win 6).blk t).view.read (Elt Ideal) X := by
  funext j
  show X j = X (((cfg0.win 6).blk t).view.emb j)
  rw [emb6]
theorem flushed6_eq (c : Dev nD) (t : Fin cfg0.N) :
    (dats m 0 c).flushed 6 t = ((cfg0.win 6).blk t).view.read (Elt Ideal) (R6 m c) := by
  rw [Cert.EntryIdeal.Value.flushed6, outs6_eq m h4 h5]
  exact cut6_eq t _
omit h4 h5 in
theorem covered6 (i : S128x4096.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩
theorem final6 (c : Dev nD) : (dats m 0 c).arrAt 6 cfg0.N = R6 m c :=
  (dats m 0 c).arrAt_eq_of_cover 6 (R6 m c) (fun t _ => flushed6_eq m h4 h5 c t) covered6

omit h4 h5 in
theorem cut7_eq (t : Fin cfg0.N) (X : Vec Ideal S128x32 .f32) :
    (cfg0.win 7).cut (grid0.coords t) X = ((cfg0.win 7).blk t).view.read (Elt Ideal) X := by
  funext j
  show X j = X (((cfg0.win 7).blk t).view.emb j)
  rw [emb7]
theorem flushed7_eq (c : Dev nD) (t : Fin cfg0.N) :
    (dats m 0 c).flushed 7 t = ((cfg0.win 7).blk t).view.read (Elt Ideal) (R7 m c) := by
  rw [Cert.EntryIdeal.Value.flushed7, outs7_eq m h4 h5]
  exact cut7_eq t _
omit h4 h5 in
theorem covered7 (i : S128x32.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩
theorem final7 (c : Dev nD) : (dats m 0 c).arrAt 7 cfg0.N = R7 m c :=
  (dats m 0 c).arrAt_eq_of_cover 7 (R7 m c) (fun t _ => flushed7_eq m h4 h5 c t) covered7

/-- The run: the two results are the reference's of the arguments, the arguments are as launched. -/
theorem run : θ_run (defs (F := Ideal)) (onTc (τ := τ) (main (F := Ideal))) ⟨m, fun _ => 0, ρ⟩ fun r => ∀ c : Dev nD,
      r.2.mem ((c : Thread nD τ).loc main_v4_0) = R6 m c
      ∧ r.2.mem ((c : Thread nD τ).loc main_v4_1) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m h4 h5 c), (h c).2.1.trans (final7 m h4 h5 c), (h c).2.2⟩)
    (Cert.EntryIdeal.Value.run_blocks m ρ)

end

end Cert.Value.Entry

end
-- ==== Proof.lean ====
/-
  Hand-written, untrusted. The claims, from the runs of the head (Proof/Frame.lean, Proof/Ideal/Frame.lean), of the projection
  (Proof/Proj/Run.lean), of the quantiser (Proof/Quant/Run.lean) and of the entry (Proof/Entry/Run.lean), and the references'
  generated runs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Proj
public import proofs.«01_k».proof.Proof.Gen.ProjIdeal
public import proofs.«01_k».proof.Proof.Gen.ProjReferenceIdeal
public import proofs.«01_k».proof.Proof.Gen.Proj.Frame
public import proofs.«01_k».proof.Proof.Gen.ProjIdeal.Frame
public import proofs.«01_k».proof.Proof.Gen.ProjIdeal.Value
public import proofs.«01_k».proof.Proof.Gen.ProjReferenceIdeal.Frame
public import proofs.«01_k».proof.Proof.Gen.ProjReferenceIdeal.Value
public import proofs.«01_k».proof.Proof.Gen.Quant
public import proofs.«01_k».proof.Proof.Gen.QuantIdeal
public import proofs.«01_k».proof.Proof.Gen.QuantReferenceIdeal
public import proofs.«01_k».proof.Proof.Gen.Quant.Frame
public import proofs.«01_k».proof.Proof.Gen.QuantIdeal.Frame
public import proofs.«01_k».proof.Proof.Gen.QuantIdeal.Value
public import proofs.«01_k».proof.Proof.Gen.QuantReferenceIdeal.Frame
public import proofs.«01_k».proof.Proof.Gen.QuantReferenceIdeal.Value
public import proofs.«01_k».proof.Proof.Gen.Entry
public import proofs.«01_k».proof.Proof.Gen.EntryIdeal
public import proofs.«01_k».proof.Proof.Gen.EntryReferenceIdeal
public import proofs.«01_k».proof.Proof.Gen.Entry.Frame
public import proofs.«01_k».proof.Proof.Gen.EntryIdeal.Frame
public import proofs.«01_k».proof.Proof.Gen.EntryIdeal.Value
public import proofs.«01_k».proof.Proof.Gen.EntryReferenceIdeal.Frame
public import proofs.«01_k».proof.Proof.Gen.EntryReferenceIdeal.Value
public import proofs.«01_k».proof.Proof.Frame
public import proofs.«01_k».proof.Proof.Ideal.Frame
public import proofs.«01_k».proof.Proof.Value.Same
public import proofs.«01_k».proof.Proof.Proj.Run
public import proofs.«01_k».proof.Proof.Quant.Run
public import proofs.«01_k».proof.Proof.Entry.Run
public import Idealize.ShloMosaic.Adequacy
public import Idealize.ShloMosaic.Init

@[expose] public section

noncomputable section

namespace Cert.Proof

open Idealize.ShloMosaic Idealize.SL.Sem Cert.Kernel

/-- The two runs end with one result: the kernel's is `G` of the arguments, the reference's `G5` of the same arguments, and
    `Value.same` equates them. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨_, (θ_run _ _ _).mono (fun r h => h.1) (Cert.KernelIdeal.Hand.run m ρ),
    (θ_run _ _ _).mono (fun r h c => ⟨(h c).1.trans ?_, (h c).2⟩) (Cert.ReferenceIdeal.Value.run m' ρ')⟩
  obtain ⟨h0, h1, h2, h3, h4⟩ := hag c
  refine Eq.trans ?_ (Cert.Value.same c _ _ _ _ _).symm
  exact congr (congr (congr (congr (congrArg (Cert.ReferenceIdeal.Value.G5 (F := Ideal)) h0) h1) h2) h3) h4

/-- The projection's run ends with the reference's result of the kernel's arguments; the reference's arguments are the same. -/
theorem algebraic_proj : Cert.algebraic_ProjIdeal_ProjReferenceIdeal (hProjIdeal := Cert.ProjIdeal.Gen.facts)
    (hProjReferenceIdeal := Cert.ProjReferenceIdeal.Gen.facts) := by
  intro m ρ m' ρ' _ hag
  refine ⟨_, Cert.Value.Proj.run m ρ,
    (θ_run _ _ _).mono (fun r h c => ⟨(h c).1.trans ?_, (h c).2⟩) (Cert.ProjReferenceIdeal.Value.run m' ρ')⟩
  obtain ⟨h0, h1, h2, h3⟩ := hag c
  exact congr (congr (congr (congrArg (Cert.ProjReferenceIdeal.Value.G4 (F := Ideal)) h0) h1) h2) h3

/-- The quantiser's run ends with the reference's two results of the kernel's arguments, while its weights are finite. -/
theorem algebraic_quant : Cert.algebraic_QuantIdeal_QuantReferenceIdeal_pre_weights_finite (hQuantIdeal := Cert.QuantIdeal.Gen.facts)
    (hQuantReferenceIdeal := Cert.QuantReferenceIdeal.Gen.facts) (hPre_weights_finite := Cert.Value.Quant.pre_facts) := by
  intro m ρ m' ρ' hpre hag
  refine ⟨_, _, Cert.Value.Quant.run m ρ (fun c => Cert.Value.Quant.bounded _ _ (hpre c)),
    (θ_run _ _ _).mono (fun r h c => ⟨(h c).1.trans ?_, (h c).2.1.trans ?_, (h c).2.2⟩) (Cert.QuantReferenceIdeal.Value.run m' ρ')⟩
  · obtain ⟨h0, h1⟩ := hag c
    exact congr (congrArg (Cert.QuantReferenceIdeal.Value.G2 (F := Ideal)) h0) h1
  · obtain ⟨h0, h1⟩ := hag c
    exact congr (congrArg (Cert.QuantReferenceIdeal.Value.G3 (F := Ideal)) h0) h1

/-- The entry's run ends with the reference's two results of the kernel's arguments, while both norms' weights are finite. -/
theorem algebraic_entry : Cert.algebraic_EntryIdeal_EntryReferenceIdeal_pre_entry_weights_finite (hEntryIdeal := Cert.EntryIdeal.Gen.facts)
    (hEntryReferenceIdeal := Cert.EntryReferenceIdeal.Gen.facts) (hPre_entry_weights_finite := Cert.Value.Entry.pre_facts) := by
  intro m ρ m' ρ' hpre hag
  refine ⟨_, _, Cert.Value.Entry.run m ρ (fun c => (Cert.Value.Entry.bounded _ _ _ _ _ _ (hpre c)).1) (fun c => (Cert.Value.Entry.bounded _ _ _ _ _ _ (hpre c)).2),
    (θ_run _ _ _).mono (fun r h c => ⟨(h c).1.trans ?_, (h c).2.1.trans ?_, (h c).2.2⟩) (Cert.EntryReferenceIdeal.Value.run m' ρ')⟩
  · obtain ⟨h0, h1, h2, h3, h4, h5⟩ := hag c
    exact congr (congr (congr (congr (congr (congrArg (Cert.EntryReferenceIdeal.Value.G6 (F := Ideal)) h0) h1) h2) h3) h4) h5
  · obtain ⟨h0, h1, h2, h3, h4, h5⟩ := hag c
    exact congr (congr (congr (congr (congr (congrArg (Cert.EntryReferenceIdeal.Value.G7 (F := Ideal)) h0) h1) h2) h3) h4) h5

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.Quant.Gen.facts, Cert.QuantIdeal.Gen.facts, Cert.QuantReferenceIdeal.Gen.facts,
  Cert.Entry.Gen.facts, Cert.EntryIdeal.Gen.facts, Cert.EntryReferenceIdeal.Gen.facts, Cert.Value.Quant.pre_facts, Cert.Value.Entry.pre_facts,
  fun m ρ _ => Cert.Kernel.Hand.frame m ρ, fun m ρ _ => Cert.KernelIdeal.Hand.frame m ρ,
  fun m ρ _ => Cert.ReferenceIdeal.Gen.frame m ρ, fun m ρ _ => Cert.Proj.Gen.frame m ρ,
  fun m ρ _ => Cert.ProjIdeal.Gen.frame m ρ, fun m ρ _ => Cert.ProjReferenceIdeal.Gen.frame m ρ,
  fun m ρ _ => Cert.Quant.Gen.frame m ρ, fun m ρ _ => Cert.QuantIdeal.Gen.frame m ρ, fun m ρ _ => Cert.QuantIdeal.Gen.frame m ρ,
  fun m ρ _ => Cert.QuantReferenceIdeal.Gen.frame m ρ, fun m ρ _ => Cert.QuantReferenceIdeal.Gen.frame m ρ,
  fun m ρ _ => Cert.Entry.Gen.frame m ρ, fun m ρ _ => Cert.EntryIdeal.Gen.frame m ρ, fun m ρ _ => Cert.EntryIdeal.Gen.frame m ρ,
  fun m ρ _ => Cert.EntryReferenceIdeal.Gen.frame m ρ, fun m ρ _ => Cert.EntryReferenceIdeal.Gen.frame m ρ,
  trivial, algebraic, trivial, algebraic_proj, trivial, algebraic_quant, trivial, algebraic_entry⟩

end Cert.Proof

end
